-- ==== Defs.lean ====
def Pre_Kernel [hPre_experts_in_range : Cert.Pre_experts_in_range.Facts] (m : (ℓ : Loc Cert.Kernel.nD Cert.Kernel.τ Cert.Kernel.sig) → Buf (Elt Bits) ℓ) : Prop :=
  ∀ c : Dev Cert.Kernel.nD,
    (Cert.Pre_experts_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_experts_in_range : Cert.Pre_experts_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_experts_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_experts_in_range [hPre_experts_in_range : Cert.Pre_experts_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_experts_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 [hPre_experts_in_range2 : Cert.Pre_experts_in_range2.Facts] (m : (ℓ : Loc Cert.Kernel2.nD Cert.Kernel2.τ Cert.Kernel2.sig) → Buf (Elt Bits) ℓ) : Prop :=
  ∀ c : Dev Cert.Kernel2.nD,
    (Cert.Pre_experts_in_range2.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2))) = (fun _ => 1#1)

def Pre_Kernel2Ideal [hPre_experts_in_range2 : Cert.Pre_experts_in_range2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_experts_in_range2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_experts_in_range2 [hPre_experts_in_range2 : Cert.Pre_experts_in_range2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_experts_in_range2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Kernel7Ideal_finite [hPre_finite : Cert.Pre_finite.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_finite.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2))) = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_finite [hPre_finite : Cert.Pre_finite.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_finite.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2))) = (fun _ => 1#1)

def quiescent_Kernel [hKernel : Cert.Kernel.Facts] [hPre_experts_in_range : Cert.Pre_experts_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_experts_in_range : Cert.Pre_experts_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_experts_in_range [hReferenceIdeal : Cert.ReferenceIdeal.Facts] [hPre_experts_in_range : Cert.Pre_experts_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_experts_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] [hPre_experts_in_range2 : Cert.Pre_experts_in_range2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] [hPre_experts_in_range2 : Cert.Pre_experts_in_range2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Reference2Ideal_pre_experts_in_range2 [hReference2Ideal : Cert.Reference2Ideal.Facts] [hPre_experts_in_range2 : Cert.Pre_experts_in_range2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_experts_in_range2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Kernel7Ideal_pre_finite [hKernel7Ideal : Cert.Kernel7Ideal.Facts] [hPre_finite : Cert.Pre_finite.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal_finite m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Reference7Ideal_pre_finite [hReference7Ideal : Cert.Reference7Ideal.Facts] [hPre_finite : Cert.Pre_finite.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_finite m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_experts_in_range : Cert.Pre_experts_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v109) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] [hPre_experts_in_range2 : Cert.Pre_experts_in_range2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v68) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v17) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v2) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v3) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v15_0)) (v1 : (c : Dev Cert.Kernel6Ideal.nD) → Buf (Elt Ideal) ((c.tc : Thread Cert.Kernel6Ideal.nD Cert.Kernel6Ideal.τ).loc Cert.Kernel6Ideal.main_v15_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v15_0) = v0 c
          ∧ r.2.mem ((c.tc : Thread Cert.Kernel6Ideal.nD Cert.Kernel6Ideal.τ).loc Cert.Kernel6Ideal.main_v15_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v59) = v0 c
          ∧ r.2.mem ((c.tc : Thread Cert.Reference6Ideal.nD Cert.Reference6Ideal.τ).loc Cert.Reference6Ideal.main_v60) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def preserves_Kernel7_Kernel7Ideal : Prop :=
  True

def algebraic_Kernel7Ideal_Reference7Ideal_pre_finite [hKernel7Ideal : Cert.Kernel7Ideal.Facts] [hReference7Ideal : Cert.Reference7Ideal.Facts] [hPre_finite : Cert.Pre_finite.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal_finite m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v2_0)) (v1 : (c : Dev Cert.Kernel7Ideal.nD) → Buf (Elt Ideal) ((c.tc : Thread Cert.Kernel7Ideal.nD Cert.Kernel7Ideal.τ).loc Cert.Kernel7Ideal.main_v2_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v2_0) = v0 c
          ∧ r.2.mem ((c.tc : Thread Cert.Kernel7Ideal.nD Cert.Kernel7Ideal.τ).loc Cert.Kernel7Ideal.main_v2_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v12) = v0 c
          ∧ r.2.mem ((c.tc : Thread Cert.Reference7Ideal.nD Cert.Reference7Ideal.τ).loc Cert.Reference7Ideal.main_v28) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_experts_in_range : Cert.Pre_experts_in_range.Facts) (hPre_experts_in_range2 : Cert.Pre_experts_in_range2.Facts) (hPre_finite : Cert.Pre_finite.Facts),
    quiescent_Kernel (hKernel := hKernel) (hPre_experts_in_range := hPre_experts_in_range)
    ∧ quiescent_KernelIdeal (hKernelIdeal := hKernelIdeal) (hPre_experts_in_range := hPre_experts_in_range)
    ∧ quiescent_ReferenceIdeal (hReferenceIdeal := hReferenceIdeal)
    ∧ quiescent_ReferenceIdeal_pre_experts_in_range (hReferenceIdeal := hReferenceIdeal) (hPre_experts_in_range := hPre_experts_in_range)
    ∧ quiescent_Kernel2 (hKernel2 := hKernel2) (hPre_experts_in_range2 := hPre_experts_in_range2)
    ∧ quiescent_Kernel2Ideal (hKernel2Ideal := hKernel2Ideal) (hPre_experts_in_range2 := hPre_experts_in_range2)
    ∧ quiescent_Reference2Ideal (hReference2Ideal := hReference2Ideal)
    ∧ quiescent_Reference2Ideal_pre_experts_in_range2 (hReference2Ideal := hReference2Ideal) (hPre_experts_in_range2 := hPre_experts_in_range2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Kernel7Ideal_pre_finite (hKernel7Ideal := hKernel7Ideal) (hPre_finite := hPre_finite)
    ∧ quiescent_Reference7Ideal (hReference7Ideal := hReference7Ideal)
    ∧ quiescent_Reference7Ideal_pre_finite (hReference7Ideal := hReference7Ideal) (hPre_finite := hPre_finite)
    ∧ preserves_Kernel_KernelIdeal
    ∧ algebraic_KernelIdeal_ReferenceIdeal (hKernelIdeal := hKernelIdeal) (hReferenceIdeal := hReferenceIdeal) (hPre_experts_in_range := hPre_experts_in_range)
    ∧ preserves_Kernel2_Kernel2Ideal
    ∧ algebraic_Kernel2Ideal_Reference2Ideal (hKernel2Ideal := hKernel2Ideal) (hReference2Ideal := hReference2Ideal) (hPre_experts_in_range2 := hPre_experts_in_range2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal_pre_finite (hKernel7Ideal := hKernel7Ideal) (hReference7Ideal := hReference7Ideal) (hPre_finite := hPre_finite)
-- ==== Pre_experts_in_range.lean ====
abbrev S73 : Shape := ⟨1, ![73]⟩
abbrev S36864x2048 : Shape := ⟨2, ![36864, 2048]⟩
abbrev S8x2048x7168 : Shape := ⟨3, ![8, 2048, 7168]⟩
abbrev S72 : Shape := ⟨1, ![72]⟩
abbrev S_ : Shape := ⟨0, ![]⟩

class Facts : Prop where
  slices_S73_S72_0 : S73.Slices ![0] S72
  bcast_S_S72 : S_.BroadcastsInDim S72 (![] : Fin 0 → Fin S72.rank)

variable [Facts]

def fn {F : FTy → Type} [FloatOps F] (main_arg0 : IVec S73 32) (main_arg1 : FVec F S36864x2048 .bf16) (main_arg2 : FVec F S8x2048x7168 .f32) (main_arg3 : FVec F S8x2048x7168 .f32) : IVec S72 1 :=
  let main_v0 : IVec S72 32 := (extractStridedSlice S72 ![0] · slices_S73_S72_0) main_arg0
  let main_c : IVec S_ 32 := constantI S_ 32 0#32
  let main_v1 : IVec S72 32 := broadcastInDim S72 ![] bcast_S_S72 main_c
  let main_v2 : IVec S72 1 := cmpi .sge main_v0 main_v1
  let main_v3 : IVec S72 32 := (extractStridedSlice S72 ![0] · slices_S73_S72_0) main_arg0
  let main_c_0 : IVec S_ 32 := constantI S_ 32 8#32
  let main_v4 : IVec S72 32 := broadcastInDim S72 ![] bcast_S_S72 main_c_0
  let main_v5 : IVec S72 1 := cmpi .slt main_v3 main_v4
  let main_v6 : IVec S72 1 := andi main_v2 main_v5
  main_v6
-- ==== Pre_experts_in_range2.lean ====
abbrev S73 : Shape := ⟨1, ![73]⟩
abbrev S36864x7168 : Shape := ⟨2, ![36864, 7168]⟩
abbrev S8x7168x2048 : Shape := ⟨3, ![8, 7168, 2048]⟩
abbrev S72 : Shape := ⟨1, ![72]⟩
abbrev S_ : Shape := ⟨0, ![]⟩

class Facts : Prop where
  slices_S73_S72_0 : S73.Slices ![0] S72
  bcast_S_S72 : S_.BroadcastsInDim S72 (![] : Fin 0 → Fin S72.rank)

variable [Facts]

def fn {F : FTy → Type} [FloatOps F] (main_arg0 : IVec S73 32) (main_arg1 : FVec F S36864x7168 .bf16) (main_arg2 : FVec F S8x7168x2048 .f32) : IVec S72 1 :=
  let main_v0 : IVec S72 32 := (extractStridedSlice S72 ![0] · slices_S73_S72_0) main_arg0
  let main_c : IVec S_ 32 := constantI S_ 32 0#32
  let main_v1 : IVec S72 32 := broadcastInDim S72 ![] bcast_S_S72 main_c
  let main_v2 : IVec S72 1 := cmpi .sge main_v0 main_v1
  let main_v3 : IVec S72 32 := (extractStridedSlice S72 ![0] · slices_S73_S72_0) main_arg0
  let main_c_0 : IVec S_ 32 := constantI S_ 32 8#32
  let main_v4 : IVec S72 32 := broadcastInDim S72 ![] bcast_S_S72 main_c_0
  let main_v5 : IVec S72 1 := cmpi .slt main_v3 main_v4
  let main_v6 : IVec S72 1 := andi main_v2 main_v5
  main_v6
-- ==== Pre_finite.lean ====
abbrev S16384x2048 : Shape := ⟨2, ![16384, 2048]⟩
abbrev S2048 : Shape := ⟨1, ![2048]⟩
abbrev S2048x8 : Shape := ⟨2, ![2048, 8]⟩
abbrev S_ : Shape := ⟨0, ![]⟩

class Facts : Prop where
  bcast_S_S16384x2048 : S_.BroadcastsInDim S16384x2048 (![] : Fin 0 → Fin S16384x2048.rank)
  reducesTo_S16384x2048_S_d0_1 : S16384x2048.ReducesTo [0, 1] S_
  h_S_ : 0 < S_.numel
  bcast_S_S2048 : S_.BroadcastsInDim S2048 (![] : Fin 0 → Fin S2048.rank)
  reducesTo_S2048_S_d0 : S2048.ReducesTo [0] S_
  bcast_S_S2048x8 : S_.BroadcastsInDim S2048x8 (![] : Fin 0 → Fin S2048x8.rank)
  reducesTo_S2048x8_S_d0_1 : S2048x8.ReducesTo [0, 1] S_

variable [Facts]

def fn {F : FTy → Type} [FloatOps F] (main_arg0 : FVec F S16384x2048 .f32) (main_arg1 : FVec F S2048 .f32) (main_arg2 : FVec F S2048x8 .f32) : IVec S_ 1 :=
  let main_v0 : FVec F S16384x2048 .f32 := Host.absf main_arg0
  let main_cst : FVec F S_ .f32 := constant S_ .f32 0x7F800000#32
  let main_v1 : FVec F S16384x2048 .f32 := broadcastInDim S16384x2048 ![] bcast_S_S16384x2048 main_cst
  let main_v2 : IVec S16384x2048 1 := cmpf .olt main_v0 main_v1
  let main_c : IVec S_ 1 := constantI S_ 1 1#1
  let main_v3 : IVec S_ 1 := (fun x v => Host.reduce IntOp.andi x v reducesTo_S16384x2048_S_d0_1 h_S_) main_v2 main_c
  let main_v4 : FVec F S2048 .f32 := Host.absf main_arg1
  let main_cst_0 : FVec F S_ .f32 := constant S_ .f32 0x7F800000#32
  let main_v5 : FVec F S2048 .f32 := broadcastInDim S2048 ![] bcast_S_S2048 main_cst_0
  let main_v6 : IVec S2048 1 := cmpf .olt main_v4 main_v5
  let main_c_1 : IVec S_ 1 := constantI S_ 1 1#1
  let main_v7 : IVec S_ 1 := (fun x v => Host.reduce IntOp.andi x v reducesTo_S2048_S_d0 h_S_) main_v6 main_c_1
  let main_v8 : IVec S_ 1 := andi main_v3 main_v7
  let main_v9 : FVec F S2048x8 .f32 := Host.absf main_arg2
  let main_cst_2 : FVec F S_ .f32 := constant S_ .f32 0x7F800000#32
  let main_v10 : FVec F S2048x8 .f32 := broadcastInDim S2048x8 ![] bcast_S_S2048x8 main_cst_2
  let main_v11 : IVec S2048x8 1 := cmpf .olt main_v9 main_v10
  let main_c_3 : IVec S_ 1 := constantI S_ 1 1#1
  let main_v12 : IVec S_ 1 := (fun x v => Host.reduce IntOp.andi x v reducesTo_S2048x8_S_d0_1 h_S_) main_v11 main_c_3
  let main_v13 : IVec S_ 1 := andi main_v8 main_v12
  main_v13
-- ==== Kernel.lean ====
abbrev S73 : Shape := ⟨1, ![73]⟩
abbrev S36864x2048 : Shape := ⟨2, ![36864, 2048]⟩
abbrev S8x2048x7168 : Shape := ⟨3, ![8, 2048, 7168]⟩
abbrev S36864x7168 : Shape := ⟨2, ![36864, 7168]⟩
abbrev S512x2048 : Shape := ⟨2, ![512, 2048]⟩
abbrev S1x2048x1024 : Shape := ⟨3, ![1, 2048, 1024]⟩
abbrev S1 : Shape := ⟨1, ![1]⟩
abbrev S512x1024 : Shape := ⟨2, ![512, 1024]⟩
abbrev S2048x1024 : Shape := ⟨2, ![2048, 1024]⟩

abbrev nBuf : Space → Nat
  | .hbm => 4
  | .vmem => 10
  | .smem => 1
  | _ => 0

abbrev bufTy : (tb : Table) → Fin (tcTables nBuf tb) → BufTy
  | .hbm, ⟨0, _⟩ => ⟨S36864x2048, .bf16⟩
  | .hbm, ⟨1, _⟩ => ⟨S8x2048x7168, .f32⟩
  | .hbm, ⟨2, _⟩ => ⟨S8x2048x7168, .f32⟩
  | .hbm, ⟨3, _⟩ => ⟨S36864x7168, .bf16⟩
  | .local _ .vmem, ⟨0, _⟩ => ⟨S512x2048, .bf16⟩
  | .local _ .vmem, ⟨1, _⟩ => ⟨S512x2048, .bf16⟩
  | .local _ .vmem, ⟨2, _⟩ => ⟨S1x2048x1024, .f32⟩
  | .local _ .vmem, ⟨3, _⟩ => ⟨S1x2048x1024, .f32⟩
  | .local _ .vmem, ⟨4, _⟩ => ⟨S1x2048x1024, .f32⟩
  | .local _ .vmem, ⟨5, _⟩ => ⟨S1x2048x1024, .f32⟩
  | .local _ .vmem, ⟨6, _⟩ => ⟨S512x1024, .bf16⟩
  | .local _ .vmem, ⟨7, _⟩ => ⟨S512x1024, .bf16⟩
  | .local _ .vmem, ⟨8, _⟩ => ⟨S2048x1024, .bf16⟩
  | .local _ .vmem, ⟨9, _⟩ => ⟨S2048x1024, .bf16⟩
  | .local _ .smem, ⟨0, _⟩ => ⟨S73, .i32⟩
  | _, _ => ⟨S36864x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_v0 : Ref sig .tc := ⟨.hbm, 3, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![7, 72], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_off2 (i : grid0.Coords) : Fin 1 → Nat :=
  let arg1 : BitVec 32 := BitVec.ofNat 32 (i 1).val
  let c1_i32 : BitVec 32 := 1#32
  let v5 : BitVec 32 := Scalar.subi arg1 c1_i32
  let c0_i32_0 : BitVec 32 := 0#32
  let v6 : BitVec 32 := Scalar.maxsi v5 c0_i32_0
  let v7 : Index := Scalar.indexCast v6
  ![v7.toNat]
def k0_cond2 (i : grid0.Coords) (v0 : BitVec 32) : BitVec 1 :=
  let arg1 : BitVec 32 := BitVec.ofNat 32 (i 1).val
  let v1 : BitVec 1 := Scalar.cmpi .slt arg1 v0
  let v14 : BitVec 32 := Scalar.extui v1
  let c0_i32_2 : BitVec 32 := 0#32
  let v15 : BitVec 1 := Scalar.cmpi .ne v14 c0_i32_2
  v15

def k0_cond3 (i : grid0.Coords) (v0 : BitVec 32) : BitVec 1 :=
  let arg1 : BitVec 32 := BitVec.ofNat 32 (i 1).val
  let v1 : BitVec 1 := Scalar.cmpi .slt arg1 v0
  let v_true : BitVec 1 := 1#1
  let v16 : BitVec 1 := Scalar.xori v1 v_true
  let v17 : BitVec 32 := Scalar.extui v16
  let c0_i32_3 : BitVec 32 := 0#32
  let v18 : BitVec 1 := Scalar.cmpi .ne v17 c0_i32_3
  v18

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (k0_off1_inb : ∀ i : grid0.Coords, ∀ a, (k0_off1 i) a + S1.size a ≤ S73.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S73) ![v0.toNat] S1.size (k0_off1_inb i)) numel1_S1
  let c0_i32 : BitVec 32 := 0#32
  let c0_i32_0 : BitVec 32 := 0#32
  ![v1.toNat, c0_i32.toNat, arg0.toNat]

def cc0_transform_2 (k0_off1_inb : ∀ i : grid0.Coords, ∀ a, (k0_off1 i) a + S1.size a ≤ S73.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S73) ![v0.toNat] S1.size (k0_off1_inb i)) numel1_S1
  let c0_i32 : BitVec 32 := 0#32
  let c0_i32_0 : BitVec 32 := 0#32
  ![v1.toNat, c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceIdeal.lean ====
abbrev S73 : Shape := ⟨1, ![73]⟩
abbrev S36864x2048 : Shape := ⟨2, ![36864, 2048]⟩
abbrev S8x2048x7168 : Shape := ⟨3, ![8, 2048, 7168]⟩
abbrev S72 : Shape := ⟨1, ![72]⟩
abbrev S1 : Shape := ⟨1, ![1]⟩
abbrev S_ : Shape := ⟨0, ![]⟩
abbrev S72x1 : Shape := ⟨2, ![72, 1]⟩
abbrev S1x8 : Shape := ⟨2, ![1, 8]⟩
abbrev S72x8 : Shape := ⟨2, ![72, 8]⟩
abbrev S72x512x8 : Shape := ⟨3, ![72, 512, 8]⟩
abbrev S36864x8 : Shape := ⟨2, ![36864, 8]⟩
abbrev S36864x7168 : Shape := ⟨2, ![36864, 7168]⟩
abbrev S1x2048x7168 : Shape := ⟨3, ![1, 2048, 7168]⟩
abbrev S2048x7168 : Shape := ⟨2, ![2048, 7168]⟩
abbrev S36864x1 : Shape := ⟨2, ![36864, 1]⟩

abbrev nBuf : Space → Nat
  | .hbm => 188
  | .vmem => 0
  | .smem => 0
  | _ => 0

abbrev hbmTy0_0 (i : Nat) : BufTy := match i % 128 with
  | 0 => ⟨S73, .i32⟩
  | 1 => ⟨S36864x2048, .bf16⟩
  | 2 => ⟨S8x2048x7168, .f32⟩
  | 3 => ⟨S8x2048x7168, .f32⟩
  | 4 => ⟨S36864x2048, .f32⟩
  | 5 => ⟨S72, .i32⟩
  | 6 => ⟨S1, .i32⟩
  | 7 => ⟨S_, .i32⟩
  | 8 => ⟨S72, .i32⟩
  | 9 => ⟨S72, .i1⟩
  | 10 => ⟨S72x1, .i1⟩
  | 11 => ⟨S72, .i32⟩
  | 12 => ⟨S72x1, .i32⟩
  | 13 => ⟨S1x8, .i32⟩
  | 14 => ⟨S72x8, .i32⟩
  | 15 => ⟨S72x8, .i32⟩
  | 16 => ⟨S72x8, .i1⟩
  | 17 => ⟨S72x8, .f32⟩
  | 18 => ⟨S_, .f32⟩
  | 19 => ⟨S_, .f32⟩
  | 20 => ⟨S72x8, .i1⟩
  | 21 => ⟨S72x8, .f32⟩
  | 22 => ⟨S72x8, .f32⟩
  | 23 => ⟨S72x512x8, .f32⟩
  | 24 => ⟨S36864x8, .f32⟩
  | 25 => ⟨S_, .f32⟩
  | 26 => ⟨S36864x7168, .f32⟩
  | 27 => ⟨S1x2048x7168, .f32⟩
  | 28 => ⟨S2048x7168, .f32⟩
  | 29 => ⟨S36864x7168, .f32⟩
  | 30 => ⟨S36864x7168, .f32⟩
  | 31 => ⟨S36864x7168, .f32⟩
  | 32 => ⟨S_, .f32⟩
  | 33 => ⟨S36864x7168, .f32⟩
  | 34 => ⟨S36864x7168, .f32⟩
  | 35 => ⟨S_, .f32⟩
  | 36 => ⟨S36864x7168, .f32⟩
  | 37 => ⟨S36864x7168, .f32⟩
  | 38 => ⟨S36864x7168, .f32⟩
  | 39 => ⟨S1x2048x7168, .f32⟩
  | 40 => ⟨S2048x7168, .f32⟩
  | 41 => ⟨S36864x7168, .f32⟩
  | 42 => ⟨S36864x7168, .f32⟩
  | 43 => ⟨S36864x1, .f32⟩
  | 44 => ⟨S36864x7168, .f32⟩
  | 45 => ⟨S36864x7168, .f32⟩
  | 46 => ⟨S36864x7168, .f32⟩
  | 47 => ⟨S1x2048x7168, .f32⟩
  | 48 => ⟨S2048x7168, .f32⟩
  | 49 => ⟨S36864x7168, .f32⟩
  | 50 => ⟨S36864x7168, .f32⟩
  | 51 => ⟨S36864x7168, .f32⟩
  | 52 => ⟨S_, .f32⟩
  | 53 => ⟨S36864x7168, .f32⟩
  | 54 => ⟨S36864x7168, .f32⟩
  | 55 => ⟨S_, .f32⟩
  | 56 => ⟨S36864x7168, .f32⟩
  | 57 => ⟨S36864x7168, .f32⟩
  | 58 => ⟨S36864x7168, .f32⟩
  | 59 => ⟨S1x2048x7168, .f32⟩
  | 60 => ⟨S2048x7168, .f32⟩
  | 61 => ⟨S36864x7168, .f32⟩
  | 62 => ⟨S36864x7168, .f32⟩
  | 63 => ⟨S36864x1, .f32⟩
  | 64 => ⟨S36864x7168, .f32⟩
  | 65 => ⟨S36864x7168, .f32⟩
  | 66 => ⟨S36864x7168, .f32⟩
  | 67 => ⟨S1x2048x7168, .f32⟩
  | 68 => ⟨S2048x7168, .f32⟩
  | 69 => ⟨S36864x7168, .f32⟩
  | 70 => ⟨S36864x7168, .f32⟩
  | 71 => ⟨S36864x7168, .f32⟩
  | 72 => ⟨S_, .f32⟩
  | 73 => ⟨S36864x7168, .f32⟩
  | 74 => ⟨S36864x7168, .f32⟩
  | 75 => ⟨S_, .f32⟩
  | 76 => ⟨S36864x7168, .f32⟩
  | 77 => ⟨S36864x7168, .f32⟩
  | 78 => ⟨S36864x7168, .f32⟩
  | 79 => ⟨S1x2048x7168, .f32⟩
  | 80 => ⟨S2048x7168, .f32⟩
  | 81 => ⟨S36864x7168, .f32⟩
  | 82 => ⟨S36864x7168, .f32⟩
  | 83 => ⟨S36864x1, .f32⟩
  | 84 => ⟨S36864x7168, .f32⟩
  | 85 => ⟨S36864x7168, .f32⟩
  | 86 => ⟨S36864x7168, .f32⟩
  | 87 => ⟨S1x2048x7168, .f32⟩
  | 88 => ⟨S2048x7168, .f32⟩
  | 89 => ⟨S36864x7168, .f32⟩
  | 90 => ⟨S36864x7168, .f32⟩
  | 91 => ⟨S36864x7168, .f32⟩
  | 92 => ⟨S_, .f32⟩
  | 93 => ⟨S36864x7168, .f32⟩
  | 94 => ⟨S36864x7168, .f32⟩
  | 95 => ⟨S_, .f32⟩
  | 96 => ⟨S36864x7168, .f32⟩
  | 97 => ⟨S36864x7168, .f32⟩
  | 98 => ⟨S36864x7168, .f32⟩
  | 99 => ⟨S1x2048x7168, .f32⟩
  | 100 => ⟨S2048x7168, .f32⟩
  | 101 => ⟨S36864x7168, .f32⟩
  | 102 => ⟨S36864x7168, .f32⟩
  | 103 => ⟨S36864x1, .f32⟩
  | 104 => ⟨S36864x7168, .f32⟩
  | 105 => ⟨S36864x7168, .f32⟩
  | 106 => ⟨S36864x7168, .f32⟩
  | 107 => ⟨S1x2048x7168, .f32⟩
  | 108 => ⟨S2048x7168, .f32⟩
  | 109 => ⟨S36864x7168, .f32⟩
  | 110 => ⟨S36864x7168, .f32⟩
  | 111 => ⟨S36864x7168, .f32⟩
  | 112 => ⟨S_, .f32⟩
  | 113 => ⟨S36864x7168, .f32⟩
  | 114 => ⟨S36864x7168, .f32⟩
  | 115 => ⟨S_, .f32⟩
  | 116 => ⟨S36864x7168, .f32⟩
  | 117 => ⟨S36864x7168, .f32⟩
  | 118 => ⟨S36864x7168, .f32⟩
  | 119 => ⟨S1x2048x7168, .f32⟩
  | 120 => ⟨S2048x7168, .f32⟩
  | 121 => ⟨S36864x7168, .f32⟩
  | 122 => ⟨S36864x7168, .f32⟩
  | 123 => ⟨S36864x1, .f32⟩
  | 124 => ⟨S36864x7168, .f32⟩
  | 125 => ⟨S36864x7168, .f32⟩
  | 126 => ⟨S36864x7168, .f32⟩
  | 127 => ⟨S1x2048x7168, .f32⟩
  | _ => ⟨S73, .i32⟩

abbrev hbmTy0_1 (i : Nat) : BufTy := match i % 128 with
  | 0 => ⟨S2048x7168, .f32⟩
  | 1 => ⟨S36864x7168, .f32⟩
  | 2 => ⟨S36864x7168, .f32⟩
  | 3 => ⟨S36864x7168, .f32⟩
  | 4 => ⟨S_, .f32⟩
  | 5 => ⟨S36864x7168, .f32⟩
  | 6 => ⟨S36864x7168, .f32⟩
  | 7 => ⟨S_, .f32⟩
  | 8 => ⟨S36864x7168, .f32⟩
  | 9 => ⟨S36864x7168, .f32⟩
  | 10 => ⟨S36864x7168, .f32⟩
  | 11 => ⟨S1x2048x7168, .f32⟩
  | 12 => ⟨S2048x7168, .f32⟩
  | 13 => ⟨S36864x7168, .f32⟩
  | 14 => ⟨S36864x7168, .f32⟩
  | 15 => ⟨S36864x1, .f32⟩
  | 16 => ⟨S36864x7168, .f32⟩
  | 17 => ⟨S36864x7168, .f32⟩
  | 18 => ⟨S36864x7168, .f32⟩
  | 19 => ⟨S1x2048x7168, .f32⟩
  | 20 => ⟨S2048x7168, .f32⟩
  | 21 => ⟨S36864x7168, .f32⟩
  | 22 => ⟨S36864x7168, .f32⟩
  | 23 => ⟨S36864x7168, .f32⟩
  | 24 => ⟨S_, .f32⟩
  | 25 => ⟨S36864x7168, .f32⟩
  | 26 => ⟨S36864x7168, .f32⟩
  | 27 => ⟨S_, .f32⟩
  | 28 => ⟨S36864x7168, .f32⟩
  | 29 => ⟨S36864x7168, .f32⟩
  | 30 => ⟨S36864x7168, .f32⟩
  | 31 => ⟨S1x2048x7168, .f32⟩
  | 32 => ⟨S2048x7168, .f32⟩
  | 33 => ⟨S36864x7168, .f32⟩
  | 34 => ⟨S36864x7168, .f32⟩
  | 35 => ⟨S36864x1, .f32⟩
  | 36 => ⟨S36864x7168, .f32⟩
  | 37 => ⟨S36864x7168, .f32⟩
  | 38 => ⟨S36864x7168, .f32⟩
  | 39 => ⟨S1x2048x7168, .f32⟩
  | 40 => ⟨S2048x7168, .f32⟩
  | 41 => ⟨S36864x7168, .f32⟩
  | 42 => ⟨S36864x7168, .f32⟩
  | 43 => ⟨S36864x7168, .f32⟩
  | 44 => ⟨S_, .f32⟩
  | 45 => ⟨S36864x7168, .f32⟩
  | 46 => ⟨S36864x7168, .f32⟩
  | 47 => ⟨S_, .f32⟩
  | 48 => ⟨S36864x7168, .f32⟩
  | 49 => ⟨S36864x7168, .f32⟩
  | 50 => ⟨S36864x7168, .f32⟩
  | 51 => ⟨S1x2048x7168, .f32⟩
  | 52 => ⟨S2048x7168, .f32⟩
  | 53 => ⟨S36864x7168, .f32⟩
  | 54 => ⟨S36864x7168, .f32⟩
  | 55 => ⟨S36864x1, .f32⟩
  | 56 => ⟨S36864x7168, .f32⟩
  | 57 => ⟨S36864x7168, .f32⟩
  | 58 => ⟨S36864x7168, .f32⟩
  | 59 => ⟨S36864x7168, .bf16⟩
  | _ => ⟨S73, .i32⟩

abbrev hbmTy (i : Nat) : BufTy := match i / 128 with
  | 0 => hbmTy0_0 i
  | 1 => hbmTy0_1 i
  | _ => ⟨S73, .i32⟩

abbrev bufTy : (tb : Table) → Fin (tcTables nBuf tb) → BufTy
  | .hbm, ⟨i, _⟩ => hbmTy i
  | _, _ => ⟨S73, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_v8 : Ref sig .tc := ⟨.hbm, 17, rfl⟩
abbrev main_cst : Ref sig .tc := ⟨.hbm, 18, rfl⟩
abbrev main_call1_v0 : Ref sig .tc := ⟨.hbm, 19, rfl⟩
abbrev main_call1_v1 : Ref sig .tc := ⟨.hbm, 20, rfl⟩
abbrev main_call1_v2 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst_0 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_call2_v0 : Ref sig .tc := ⟨.hbm, 30, rfl⟩
abbrev main_call2_v1 : Ref sig .tc := ⟨.hbm, 31, rfl⟩
abbrev main_call2_cst : Ref sig .tc := ⟨.hbm, 32, rfl⟩
abbrev main_call2_v2 : Ref sig .tc := ⟨.hbm, 33, rfl⟩
abbrev main_call2_v3 : Ref sig .tc := ⟨.hbm, 34, rfl⟩
abbrev main_call2_cst_0 : Ref sig .tc := ⟨.hbm, 35, rfl⟩
abbrev main_call2_v4 : Ref sig .tc := ⟨.hbm, 36, rfl⟩
abbrev main_call2_v5 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_call3_v0 : Ref sig .tc := ⟨.hbm, 50, rfl⟩
abbrev main_call3_v1 : Ref sig .tc := ⟨.hbm, 51, rfl⟩
abbrev main_call3_cst : Ref sig .tc := ⟨.hbm, 52, rfl⟩
abbrev main_call3_v2 : Ref sig .tc := ⟨.hbm, 53, rfl⟩
abbrev main_call3_v3 : Ref sig .tc := ⟨.hbm, 54, rfl⟩
abbrev main_call3_cst_0 : Ref sig .tc := ⟨.hbm, 55, rfl⟩
abbrev main_call3_v4 : Ref sig .tc := ⟨.hbm, 56, rfl⟩
abbrev main_call3_v5 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_call4_v0 : Ref sig .tc := ⟨.hbm, 70, rfl⟩
abbrev main_call4_v1 : Ref sig .tc := ⟨.hbm, 71, rfl⟩
abbrev main_call4_cst : Ref sig .tc := ⟨.hbm, 72, rfl⟩
abbrev main_call4_v2 : Ref sig .tc := ⟨.hbm, 73, rfl⟩
abbrev main_call4_v3 : Ref sig .tc := ⟨.hbm, 74, rfl⟩
abbrev main_call4_cst_0 : Ref sig .tc := ⟨.hbm, 75, rfl⟩
abbrev main_call4_v4 : Ref sig .tc := ⟨.hbm, 76, rfl⟩
abbrev main_call4_v5 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_call5_v0 : Ref sig .tc := ⟨.hbm, 90, rfl⟩
abbrev main_call5_v1 : Ref sig .tc := ⟨.hbm, 91, rfl⟩
abbrev main_call5_cst : Ref sig .tc := ⟨.hbm, 92, rfl⟩
abbrev main_call5_v2 : Ref sig .tc := ⟨.hbm, 93, rfl⟩
abbrev main_call5_v3 : Ref sig .tc := ⟨.hbm, 94, rfl⟩
abbrev main_call5_cst_0 : Ref sig .tc := ⟨.hbm, 95, rfl⟩
abbrev main_call5_v4 : Ref sig .tc := ⟨.hbm, 96, rfl⟩
abbrev main_call5_v5 : Ref sig .tc := ⟨.hbm, 97, rfl⟩
abbrev main_v52 : Ref sig .tc := ⟨.hbm, 98, rfl⟩
abbrev main_v53 : Ref sig .tc := ⟨.hbm, 99, rfl⟩
abbrev main_v54 : Ref sig .tc := ⟨.hbm, 100, rfl⟩
abbrev main_v55 : Ref sig .tc := ⟨.hbm, 101, rfl⟩
abbrev main_v56 : Ref sig .tc := ⟨.hbm, 102, rfl⟩
abbrev main_v57 : Ref sig .tc := ⟨.hbm, 103, rfl⟩
abbrev main_v58 : Ref sig .tc := ⟨.hbm, 104, rfl⟩
abbrev main_v59 : Ref sig .tc := ⟨.hbm, 105, rfl⟩
abbrev main_v60 : Ref sig .tc := ⟨.hbm, 106, rfl⟩
abbrev main_v61 : Ref sig .tc := ⟨.hbm, 107, rfl⟩
abbrev main_v62 : Ref sig .tc := ⟨.hbm, 108, rfl⟩
abbrev main_v63 : Ref sig .tc := ⟨.hbm, 109, rfl⟩
abbrev main_call6_v0 : Ref sig .tc := ⟨.hbm, 110, rfl⟩
abbrev main_call6_v1 : Ref sig .tc := ⟨.hbm, 111, rfl⟩
abbrev main_call6_cst : Ref sig .tc := ⟨.hbm, 112, rfl⟩
abbrev main_call6_v2 : Ref sig .tc := ⟨.hbm, 113, rfl⟩
abbrev main_call6_v3 : Ref sig .tc := ⟨.hbm, 114, rfl⟩
abbrev main_call6_cst_0 : Ref sig .tc := ⟨.hbm, 115, rfl⟩
abbrev main_call6_v4 : Ref sig .tc := ⟨.hbm, 116, rfl⟩
abbrev main_call6_v5 : Ref sig .tc := ⟨.hbm, 117, rfl⟩
abbrev main_v64 : Ref sig .tc := ⟨.hbm, 118, rfl⟩
abbrev main_v65 : Ref sig .tc := ⟨.hbm, 119, rfl⟩
abbrev main_v66 : Ref sig .tc := ⟨.hbm, 120, rfl⟩
abbrev main_v67 : Ref sig .tc := ⟨.hbm, 121, rfl⟩
abbrev main_v68 : Ref sig .tc := ⟨.hbm, 122, rfl⟩
abbrev main_v69 : Ref sig .tc := ⟨.hbm, 123, rfl⟩
abbrev main_v70 : Ref sig .tc := ⟨.hbm, 124, rfl⟩
abbrev main_v71 : Ref sig .tc := ⟨.hbm, 125, rfl⟩
abbrev main_v72 : Ref sig .tc := ⟨.hbm, 126, rfl⟩
abbrev main_v73 : Ref sig .tc := ⟨.hbm, 127, rfl⟩
abbrev main_v74 : Ref sig .tc := ⟨.hbm, 128, rfl⟩
abbrev main_v75 : Ref sig .tc := ⟨.hbm, 129, rfl⟩
abbrev main_call7_v0 : Ref sig .tc := ⟨.hbm, 130, rfl⟩
abbrev main_call7_v1 : Ref sig .tc := ⟨.hbm, 131, rfl⟩
abbrev main_call7_cst : Ref sig .tc := ⟨.hbm, 132, rfl⟩
abbrev main_call7_v2 : Ref sig .tc := ⟨.hbm, 133, rfl⟩
abbrev main_call7_v3 : Ref sig .tc := ⟨.hbm, 134, rfl⟩
abbrev main_call7_cst_0 : Ref sig .tc := ⟨.hbm, 135, rfl⟩
abbrev main_call7_v4 : Ref sig .tc := ⟨.hbm, 136, rfl⟩
abbrev main_call7_v5 : Ref sig .tc := ⟨.hbm, 137, rfl⟩
abbrev main_v76 : Ref sig .tc := ⟨.hbm, 138, rfl⟩
abbrev main_v77 : Ref sig .tc := ⟨.hbm, 139, rfl⟩
abbrev main_v78 : Ref sig .tc := ⟨.hbm, 140, rfl⟩
abbrev main_v79 : Ref sig .tc := ⟨.hbm, 141, rfl⟩
abbrev main_v80 : Ref sig .tc := ⟨.hbm, 142, rfl⟩
abbrev main_v81 : Ref sig .tc := ⟨.hbm, 143, rfl⟩
abbrev main_v82 : Ref sig .tc := ⟨.hbm, 144, rfl⟩
abbrev main_v83 : Ref sig .tc := ⟨.hbm, 145, rfl⟩
abbrev main_v84 : Ref sig .tc := ⟨.hbm, 146, rfl⟩
abbrev main_v85 : Ref sig .tc := ⟨.hbm, 147, rfl⟩
abbrev main_v86 : Ref sig .tc := ⟨.hbm, 148, rfl⟩
abbrev main_v87 : Ref sig .tc := ⟨.hbm, 149, rfl⟩
abbrev main_call8_v0 : Ref sig .tc := ⟨.hbm, 150, rfl⟩
abbrev main_call8_v1 : Ref sig .tc := ⟨.hbm, 151, rfl⟩
abbrev main_call8_cst : Ref sig .tc := ⟨.hbm, 152, rfl⟩
abbrev main_call8_v2 : Ref sig .tc := ⟨.hbm, 153, rfl⟩
abbrev main_call8_v3 : Ref sig .tc := ⟨.hbm, 154, rfl⟩
abbrev main_call8_cst_0 : Ref sig .tc := ⟨.hbm, 155, rfl⟩
abbrev main_call8_v4 : Ref sig .tc := ⟨.hbm, 156, rfl⟩
abbrev main_call8_v5 : Ref sig .tc := ⟨.hbm, 157, rfl⟩
abbrev main_v88 : Ref sig .tc := ⟨.hbm, 158, rfl⟩
abbrev main_v89 : Ref sig .tc := ⟨.hbm, 159, rfl⟩
abbrev main_v90 : Ref sig .tc := ⟨.hbm, 160, rfl⟩
abbrev main_v91 : Ref sig .tc := ⟨.hbm, 161, rfl⟩
abbrev main_v92 : Ref sig .tc := ⟨.hbm, 162, rfl⟩
abbrev main_v93 : Ref sig .tc := ⟨.hbm, 163, rfl⟩
abbrev main_v94 : Ref sig .tc := ⟨.hbm, 164, rfl⟩
abbrev main_v95 : Ref sig .tc := ⟨.hbm, 165, rfl⟩
abbrev main_v96 : Ref sig .tc := ⟨.hbm, 166, rfl⟩
abbrev main_v97 : Ref sig .tc := ⟨.hbm, 167, rfl⟩
abbrev main_v98 : Ref sig .tc := ⟨.hbm, 168, rfl⟩
abbrev main_v99 : Ref sig .tc := ⟨.hbm, 169, rfl⟩
abbrev main_call9_v0 : Ref sig .tc := ⟨.hbm, 170, rfl⟩
abbrev main_call9_v1 : Ref sig .tc := ⟨.hbm, 171, rfl⟩
abbrev main_call9_cst : Ref sig .tc := ⟨.hbm, 172, rfl⟩
abbrev main_call9_v2 : Ref sig .tc := ⟨.hbm, 173, rfl⟩
abbrev main_call9_v3 : Ref sig .tc := ⟨.hbm, 174, rfl⟩
abbrev main_call9_cst_0 : Ref sig .tc := ⟨.hbm, 175, rfl⟩
abbrev main_call9_v4 : Ref sig .tc := ⟨.hbm, 176, rfl⟩
abbrev main_call9_v5 : Ref sig .tc := ⟨.hbm, 177, rfl⟩
abbrev main_v100 : Ref sig .tc := ⟨.hbm, 178, rfl⟩
abbrev main_v101 : Ref sig .tc := ⟨.hbm, 179, rfl⟩
abbrev main_v102 : Ref sig .tc := ⟨.hbm, 180, rfl⟩
abbrev main_v103 : Ref sig .tc := ⟨.hbm, 181, rfl⟩
abbrev main_v104 : Ref sig .tc := ⟨.hbm, 182, rfl⟩
abbrev main_v105 : Ref sig .tc := ⟨.hbm, 183, rfl⟩
abbrev main_v106 : Ref sig .tc := ⟨.hbm, 184, rfl⟩
abbrev main_v107 : Ref sig .tc := ⟨.hbm, 185, rfl⟩
abbrev main_v108 : Ref sig .tc := ⟨.hbm, 186, rfl⟩
abbrev main_v109 : Ref sig .tc := ⟨.hbm, 187, rfl⟩

abbrev nD : Nat := 1
abbrev τ : Topo := Topo.v7x

variable {F : FTy → Type} [FloatOps F]
-- ==== Kernel2.lean ====
abbrev S73 : Shape := ⟨1, ![73]⟩
abbrev S36864x7168 : Shape := ⟨2, ![36864, 7168]⟩
abbrev S8x7168x2048 : Shape := ⟨3, ![8, 7168, 2048]⟩
abbrev S36864x2048 : Shape := ⟨2, ![36864, 2048]⟩
abbrev S512x7168 : Shape := ⟨2, ![512, 7168]⟩
abbrev S1x7168x512 : Shape := ⟨3, ![1, 7168, 512]⟩
abbrev S1 : Shape := ⟨1, ![1]⟩
abbrev S512x512 : Shape := ⟨2, ![512, 512]⟩
abbrev S7168x512 : Shape := ⟨2, ![7168, 512]⟩

abbrev nBuf : Space → Nat
  | .hbm => 3
  | .vmem => 7
  | .smem => 1
  | _ => 0

abbrev bufTy : (tb : Table) → Fin (tcTables nBuf tb) → BufTy
  | .hbm, ⟨0, _⟩ => ⟨S36864x7168, .bf16⟩
  | .hbm, ⟨1, _⟩ => ⟨S8x7168x2048, .f32⟩
  | .hbm, ⟨2, _⟩ => ⟨S36864x2048, .f32⟩
  | .local _ .vmem, ⟨0, _⟩ => ⟨S512x7168, .bf16⟩
  | .local _ .vmem, ⟨1, _⟩ => ⟨S512x7168, .bf16⟩
  | .local _ .vmem, ⟨2, _⟩ => ⟨S1x7168x512, .f32⟩
  | .local _ .vmem, ⟨3, _⟩ => ⟨S1x7168x512, .f32⟩
  | .local _ .vmem, ⟨4, _⟩ => ⟨S512x512, .f32⟩
  | .local _ .vmem, ⟨5, _⟩ => ⟨S512x512, .f32⟩
  | .local _ .vmem, ⟨6, _⟩ => ⟨S7168x512, .bf16⟩
  | .local _ .smem, ⟨0, _⟩ => ⟨S73, .i32⟩
  | _, _ => ⟨S36864x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_v0 : Ref sig .tc := ⟨.hbm, 2, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 72], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_off2 (i : grid0.Coords) : Fin 1 → Nat :=
  let arg1 : BitVec 32 := BitVec.ofNat 32 (i 1).val
  let c1_i32 : BitVec 32 := 1#32
  let v5 : BitVec 32 := Scalar.subi arg1 c1_i32
  let c0_i32_0 : BitVec 32 := 0#32
  let v6 : BitVec 32 := Scalar.maxsi v5 c0_i32_0
  let v7 : Index := Scalar.indexCast v6
  ![v7.toNat]
def k0_cond2 (i : grid0.Coords) (v0 : BitVec 32) : BitVec 1 :=
  let arg1 : BitVec 32 := BitVec.ofNat 32 (i 1).val
  let v1 : BitVec 1 := Scalar.cmpi .slt arg1 v0
  let v14 : BitVec 32 := Scalar.extui v1
  let c0_i32_2 : BitVec 32 := 0#32
  let v15 : BitVec 1 := Scalar.cmpi .ne v14 c0_i32_2
  v15

def k0_cond3 (i : grid0.Coords) (v0 : BitVec 32) : BitVec 1 :=
  let arg1 : BitVec 32 := BitVec.ofNat 32 (i 1).val
  let v1 : BitVec 1 := Scalar.cmpi .slt arg1 v0
  let v_true : BitVec 1 := 1#1
  let v16 : BitVec 1 := Scalar.xori v1 v_true
  let v17 : BitVec 32 := Scalar.extui v16
  let c0_i32_3 : BitVec 32 := 0#32
  let v18 : BitVec 1 := Scalar.cmpi .ne v17 c0_i32_3
  v18

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (k0_off1_inb : ∀ i : grid0.Coords, ∀ a, (k0_off1 i) a + S1.size a ≤ S73.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S73) ![v0.toNat] S1.size (k0_off1_inb i)) numel1_S1
  let c0_i32 : BitVec 32 := 0#32
  let c0_i32_0 : BitVec 32 := 0#32
  ![v1.toNat, c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x7168 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x7168x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference2Ideal.lean ====
abbrev S73 : Shape := ⟨1, ![73]⟩
abbrev S36864x7168 : Shape := ⟨2, ![36864, 7168]⟩
abbrev S8x7168x2048 : Shape := ⟨3, ![8, 7168, 2048]⟩
abbrev S72 : Shape := ⟨1, ![72]⟩
abbrev S1 : Shape := ⟨1, ![1]⟩
abbrev S_ : Shape := ⟨0, ![]⟩
abbrev S72x1 : Shape := ⟨2, ![72, 1]⟩
abbrev S1x8 : Shape := ⟨2, ![1, 8]⟩
abbrev S72x8 : Shape := ⟨2, ![72, 8]⟩
abbrev S72x512x8 : Shape := ⟨3, ![72, 512, 8]⟩
abbrev S36864x8 : Shape := ⟨2, ![36864, 8]⟩
abbrev S36864x2048 : Shape := ⟨2, ![36864, 2048]⟩
abbrev S1x7168x2048 : Shape := ⟨3, ![1, 7168, 2048]⟩
abbrev S7168x2048 : Shape := ⟨2, ![7168, 2048]⟩
abbrev S36864x1 : Shape := ⟨2, ![36864, 1]⟩

abbrev nBuf : Space → Nat
  | .hbm => 82
  | .vmem => 0
  | .smem => 0
  | _ => 0

abbrev bufTy : (tb : Table) → Fin (tcTables nBuf tb) → BufTy
  | .hbm, ⟨0, _⟩ => ⟨S73, .i32⟩
  | .hbm, ⟨1, _⟩ => ⟨S36864x7168, .bf16⟩
  | .hbm, ⟨2, _⟩ => ⟨S8x7168x2048, .f32⟩
  | .hbm, ⟨3, _⟩ => ⟨S36864x7168, .f32⟩
  | .hbm, ⟨4, _⟩ => ⟨S72, .i32⟩
  | .hbm, ⟨5, _⟩ => ⟨S1, .i32⟩
  | .hbm, ⟨6, _⟩ => ⟨S_, .i32⟩
  | .hbm, ⟨7, _⟩ => ⟨S72, .i32⟩
  | .hbm, ⟨8, _⟩ => ⟨S72, .i1⟩
  | .hbm, ⟨9, _⟩ => ⟨S72x1, .i1⟩
  | .hbm, ⟨10, _⟩ => ⟨S72, .i32⟩
  | .hbm, ⟨11, _⟩ => ⟨S72x1, .i32⟩
  | .hbm, ⟨12, _⟩ => ⟨S1x8, .i32⟩
  | .hbm, ⟨13, _⟩ => ⟨S72x8, .i32⟩
  | .hbm, ⟨14, _⟩ => ⟨S72x8, .i32⟩
  | .hbm, ⟨15, _⟩ => ⟨S72x8, .i1⟩
  | .hbm, ⟨16, _⟩ => ⟨S72x8, .f32⟩
  | .hbm, ⟨17, _⟩ => ⟨S_, .f32⟩
  | .hbm, ⟨18, _⟩ => ⟨S_, .f32⟩
  | .hbm, ⟨19, _⟩ => ⟨S72x8, .i1⟩
  | .hbm, ⟨20, _⟩ => ⟨S72x8, .f32⟩
  | .hbm, ⟨21, _⟩ => ⟨S72x8, .f32⟩
  | .hbm, ⟨22, _⟩ => ⟨S72x512x8, .f32⟩
  | .hbm, ⟨23, _⟩ => ⟨S36864x8, .f32⟩
  | .hbm, ⟨24, _⟩ => ⟨S_, .f32⟩
  | .hbm, ⟨25, _⟩ => ⟨S36864x2048, .f32⟩
  | .hbm, ⟨26, _⟩ => ⟨S1x7168x2048, .f32⟩
  | .hbm, ⟨27, _⟩ => ⟨S7168x2048, .f32⟩
  | .hbm, ⟨28, _⟩ => ⟨S36864x2048, .f32⟩
  | .hbm, ⟨29, _⟩ => ⟨S36864x1, .f32⟩
  | .hbm, ⟨30, _⟩ => ⟨S36864x2048, .f32⟩
  | .hbm, ⟨31, _⟩ => ⟨S36864x2048, .f32⟩
  | .hbm, ⟨32, _⟩ => ⟨S36864x2048, .f32⟩
  | .hbm, ⟨33, _⟩ => ⟨S1x7168x2048, .f32⟩
  | .hbm, ⟨34, _⟩ => ⟨S7168x2048, .f32⟩
  | .hbm, ⟨35, _⟩ => ⟨S36864x2048, .f32⟩
  | .hbm, ⟨36, _⟩ => ⟨S36864x1, .f32⟩
  | .hbm, ⟨37, _⟩ => ⟨S36864x2048, .f32⟩
  | .hbm, ⟨38, _⟩ => ⟨S36864x2048, .f32⟩
  | .hbm, ⟨39, _⟩ => ⟨S36864x2048, .f32⟩
  | .hbm, ⟨40, _⟩ => ⟨S1x7168x2048, .f32⟩
  | .hbm, ⟨41, _⟩ => ⟨S7168x2048, .f32⟩
  | .hbm, ⟨42, _⟩ => ⟨S36864x2048, .f32⟩
  | .hbm, ⟨43, _⟩ => ⟨S36864x1, .f32⟩
  | .hbm, ⟨44, _⟩ => ⟨S36864x2048, .f32⟩
  | .hbm, ⟨45, _⟩ => ⟨S36864x2048, .f32⟩
  | .hbm, ⟨46, _⟩ => ⟨S36864x2048, .f32⟩
  | .hbm, ⟨47, _⟩ => ⟨S1x7168x2048, .f32⟩
  | .hbm, ⟨48, _⟩ => ⟨S7168x2048, .f32⟩
  | .hbm, ⟨49, _⟩ => ⟨S36864x2048, .f32⟩
  | .hbm, ⟨50, _⟩ => ⟨S36864x1, .f32⟩
  | .hbm, ⟨51, _⟩ => ⟨S36864x2048, .f32⟩
  | .hbm, ⟨52, _⟩ => ⟨S36864x2048, .f32⟩
  | .hbm, ⟨53, _⟩ => ⟨S36864x2048, .f32⟩
  | .hbm, ⟨54, _⟩ => ⟨S1x7168x2048, .f32⟩
  | .hbm, ⟨55, _⟩ => ⟨S7168x2048, .f32⟩
  | .hbm, ⟨56, _⟩ => ⟨S36864x2048, .f32⟩
  | .hbm, ⟨57, _⟩ => ⟨S36864x1, .f32⟩
  | .hbm, ⟨58, _⟩ => ⟨S36864x2048, .f32⟩
  | .hbm, ⟨59, _⟩ => ⟨S36864x2048, .f32⟩
  | .hbm, ⟨60, _⟩ => ⟨S36864x2048, .f32⟩
  | .hbm, ⟨61, _⟩ => ⟨S1x7168x2048, .f32⟩
  | .hbm, ⟨62, _⟩ => ⟨S7168x2048, .f32⟩
  | .hbm, ⟨63, _⟩ => ⟨S36864x2048, .f32⟩
  | .hbm, ⟨64, _⟩ => ⟨S36864x1, .f32⟩
  | .hbm, ⟨65, _⟩ => ⟨S36864x2048, .f32⟩
  | .hbm, ⟨66, _⟩ => ⟨S36864x2048, .f32⟩
  | .hbm, ⟨67, _⟩ => ⟨S36864x2048, .f32⟩
  | .hbm, ⟨68, _⟩ => ⟨S1x7168x2048, .f32⟩
  | .hbm, ⟨69, _⟩ => ⟨S7168x2048, .f32⟩
  | .hbm, ⟨70, _⟩ => ⟨S36864x2048, .f32⟩
  | .hbm, ⟨71, _⟩ => ⟨S36864x1, .f32⟩
  | .hbm, ⟨72, _⟩ => ⟨S36864x2048, .f32⟩
  | .hbm, ⟨73, _⟩ => ⟨S36864x2048, .f32⟩
  | .hbm, ⟨74, _⟩ => ⟨S36864x2048, .f32⟩
  | .hbm, ⟨75, _⟩ => ⟨S1x7168x2048, .f32⟩
  | .hbm, ⟨76, _⟩ => ⟨S7168x2048, .f32⟩
  | .hbm, ⟨77, _⟩ => ⟨S36864x2048, .f32⟩
  | .hbm, ⟨78, _⟩ => ⟨S36864x1, .f32⟩
  | .hbm, ⟨79, _⟩ => ⟨S36864x2048, .f32⟩
  | .hbm, ⟨80, _⟩ => ⟨S36864x2048, .f32⟩
  | .hbm, ⟨81, _⟩ => ⟨S36864x2048, .f32⟩
  | _, _ => ⟨S73, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_v8 : Ref sig .tc := ⟨.hbm, 16, rfl⟩
abbrev main_cst : Ref sig .tc := ⟨.hbm, 17, rfl⟩
abbrev main_call1_v0 : Ref sig .tc := ⟨.hbm, 18, rfl⟩
abbrev main_call1_v1 : Ref sig .tc := ⟨.hbm, 19, rfl⟩
abbrev main_call1_v2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_0 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩

abbrev nD : Nat := 1
abbrev τ : Topo := Topo.v7x

variable {F : FTy → Type} [FloatOps F]
-- ==== Kernel3.lean ====
abbrev S16384x2048 : Shape := ⟨2, ![16384, 2048]⟩
abbrev S2048 : Shape := ⟨1, ![2048]⟩
abbrev S2048x5632 : Shape := ⟨2, ![2048, 5632]⟩
abbrev S1x2048 : Shape := ⟨2, ![1, 2048]⟩
abbrev S16384x5632 : Shape := ⟨2, ![16384, 5632]⟩
abbrev S1024x2048 : Shape := ⟨2, ![1024, 2048]⟩
abbrev S2048x512 : Shape := ⟨2, ![2048, 512]⟩
abbrev S1024x512 : Shape := ⟨2, ![1024, 512]⟩
abbrev S1024 : Shape := ⟨1, ![1024]⟩
abbrev S1024x1 : Shape := ⟨2, ![1024, 1]⟩

abbrev nBuf : Space → Nat
  | .hbm => 8
  | .vmem => 10
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x5632, .f32⟩
  | .hbm, ⟨3, _⟩ => ⟨S2048x5632, .f32⟩
  | .hbm, ⟨4, _⟩ => ⟨S2048x5632, .bf16⟩
  | .hbm, ⟨5, _⟩ => ⟨S2048x5632, .bf16⟩
  | .hbm, ⟨6, _⟩ => ⟨S1x2048, .f32⟩
  | .hbm, ⟨7, _⟩ => ⟨S16384x5632, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S1024x512, .bf16⟩
  | .local _ .vmem, ⟨8, _⟩ => ⟨S1024x512, .bf16⟩
  | .local _ .vmem, ⟨9, _⟩ => ⟨S1024x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![16, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference3Ideal.lean ====
abbrev S16384x2048 : Shape := ⟨2, ![16384, 2048]⟩
abbrev S2048 : Shape := ⟨1, ![2048]⟩
abbrev S2048x5632 : Shape := ⟨2, ![2048, 5632]⟩
abbrev S_ : Shape := ⟨0, ![]⟩
abbrev S16384 : Shape := ⟨1, ![16384]⟩
abbrev S16384x1 : Shape := ⟨2, ![16384, 1]⟩
abbrev S1x2048 : Shape := ⟨2, ![1, 2048]⟩
abbrev S16384x5632 : Shape := ⟨2, ![16384, 5632]⟩

abbrev nBuf : Space → Nat
  | .hbm => 33
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x5632, .f32⟩
  | .hbm, ⟨3, _⟩ => ⟨S2048x5632, .f32⟩
  | .hbm, ⟨4, _⟩ => ⟨S16384x2048, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S16384x2048, .f32⟩
  | .hbm, ⟨16, _⟩ => ⟨S16384x2048, .f32⟩
  | .hbm, ⟨17, _⟩ => ⟨S1x2048, .f32⟩
  | .hbm, ⟨18, _⟩ => ⟨S16384x2048, .f32⟩
  | .hbm, ⟨19, _⟩ => ⟨S16384x2048, .f32⟩
  | .hbm, ⟨20, _⟩ => ⟨S16384x5632, .f32⟩
  | .hbm, ⟨21, _⟩ => ⟨S16384x5632, .f32⟩
  | .hbm, ⟨22, _⟩ => ⟨S16384x5632, .f32⟩
  | .hbm, ⟨23, _⟩ => ⟨S_, .f32⟩
  | .hbm, ⟨24, _⟩ => ⟨S16384x5632, .f32⟩
  | .hbm, ⟨25, _⟩ => ⟨S16384x5632, .f32⟩
  | .hbm, ⟨26, _⟩ => ⟨S_, .f32⟩
  | .hbm, ⟨27, _⟩ => ⟨S16384x5632, .f32⟩
  | .hbm, ⟨28, _⟩ => ⟨S16384x5632, .f32⟩
  | .hbm, ⟨29, _⟩ => ⟨S16384x5632, .f32⟩
  | .hbm, ⟨30, _⟩ => ⟨S16384x5632, .f32⟩
  | .hbm, ⟨31, _⟩ => ⟨S16384x5632, .f32⟩
  | .hbm, ⟨32, _⟩ => ⟨S16384x5632, .bf16⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_call0_v0 : Ref sig .tc := ⟨.hbm, 21, rfl⟩
abbrev main_call0_v1 : Ref sig .tc := ⟨.hbm, 22, rfl⟩
abbrev main_call0_cst : Ref sig .tc := ⟨.hbm, 23, rfl⟩
abbrev main_call0_v2 : Ref sig .tc := ⟨.hbm, 24, rfl⟩
abbrev main_call0_v3 : Ref sig .tc := ⟨.hbm, 25, rfl⟩
abbrev main_call0_cst_0 : Ref sig .tc := ⟨.hbm, 26, rfl⟩
abbrev main_call0_v4 : Ref sig .tc := ⟨.hbm, 27, rfl⟩
abbrev main_call0_v5 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩

abbrev nD : Nat := 1
abbrev τ : Topo := Topo.v7x

variable {F : FTy → Type} [FloatOps F]
-- ==== Kernel4.lean ====
abbrev S16384x5632 : Shape := ⟨2, ![16384, 5632]⟩
abbrev S5632x2048 : Shape := ⟨2, ![5632, 2048]⟩
abbrev S16384x2048 : Shape := ⟨2, ![16384, 2048]⟩
abbrev S512x5632 : Shape := ⟨2, ![512, 5632]⟩
abbrev S5632x1024 : Shape := ⟨2, ![5632, 1024]⟩
abbrev S512x1024 : Shape := ⟨2, ![512, 1024]⟩

abbrev nBuf : Space → Nat
  | .hbm => 5
  | .vmem => 8
  | .smem => 0
  | _ => 0

abbrev bufTy : (tb : Table) → Fin (tcTables nBuf tb) → BufTy
  | .hbm, ⟨0, _⟩ => ⟨S16384x5632, .bf16⟩
  | .hbm, ⟨1, _⟩ => ⟨S5632x2048, .f32⟩
  | .hbm, ⟨2, _⟩ => ⟨S16384x2048, .f32⟩
  | .hbm, ⟨3, _⟩ => ⟨S5632x2048, .bf16⟩
  | .hbm, ⟨4, _⟩ => ⟨S16384x2048, .f32⟩
  | .local _ .vmem, ⟨0, _⟩ => ⟨S512x5632, .bf16⟩
  | .local _ .vmem, ⟨1, _⟩ => ⟨S512x5632, .bf16⟩
  | .local _ .vmem, ⟨2, _⟩ => ⟨S5632x1024, .bf16⟩
  | .local _ .vmem, ⟨3, _⟩ => ⟨S5632x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | _, _ => ⟨S16384x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S5632x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference4Ideal.lean ====
abbrev S16384x5632 : Shape := ⟨2, ![16384, 5632]⟩
abbrev S5632x2048 : Shape := ⟨2, ![5632, 2048]⟩
abbrev S16384x2048 : Shape := ⟨2, ![16384, 2048]⟩

abbrev nBuf : Space → Nat
  | .hbm => 6
  | .vmem => 0
  | .smem => 0
  | _ => 0

abbrev bufTy : (tb : Table) → Fin (tcTables nBuf tb) → BufTy
  | .hbm, ⟨0, _⟩ => ⟨S16384x5632, .bf16⟩
  | .hbm, ⟨1, _⟩ => ⟨S5632x2048, .f32⟩
  | .hbm, ⟨2, _⟩ => ⟨S16384x2048, .f32⟩
  | .hbm, ⟨3, _⟩ => ⟨S16384x5632, .f32⟩
  | .hbm, ⟨4, _⟩ => ⟨S16384x2048, .f32⟩
  | .hbm, ⟨5, _⟩ => ⟨S16384x2048, .f32⟩
  | _, _ => ⟨S16384x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel5.lean ====
abbrev S16384x1024 : Shape := ⟨2, ![16384, 1024]⟩
abbrev S2048x2048 : Shape := ⟨2, ![2048, 2048]⟩
abbrev S16384x2048 : Shape := ⟨2, ![16384, 2048]⟩
abbrev S512x1024 : Shape := ⟨2, ![512, 1024]⟩
abbrev S1024x2048 : Shape := ⟨2, ![1024, 2048]⟩
abbrev S512x2048 : Shape := ⟨2, ![512, 2048]⟩

abbrev nBuf : Space → Nat
  | .hbm => 6
  | .vmem => 10
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S2048x2048, .f32⟩
  | .hbm, ⟨3, _⟩ => ⟨S16384x2048, .f32⟩
  | .hbm, ⟨4, _⟩ => ⟨S2048x2048, .bf16⟩
  | .hbm, ⟨5, _⟩ => ⟨S16384x2048, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S1024x2048, .bf16⟩
  | .local _ .vmem, ⟨5, _⟩ => ⟨S1024x2048, .bf16⟩
  | .local _ .vmem, ⟨6, _⟩ => ⟨S512x2048, .f32⟩
  | .local _ .vmem, ⟨7, _⟩ => ⟨S512x2048, .f32⟩
  | .local _ .vmem, ⟨8, _⟩ => ⟨S512x2048, .f32⟩
  | .local _ .vmem, ⟨9, _⟩ => ⟨S512x2048, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![32, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference5Ideal.lean ====
abbrev S16384x1024 : Shape := ⟨2, ![16384, 1024]⟩
abbrev S2048x2048 : Shape := ⟨2, ![2048, 2048]⟩
abbrev S16384x2048 : Shape := ⟨2, ![16384, 2048]⟩

abbrev nBuf : Space → Nat
  | .hbm => 8
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S2048x2048, .f32⟩
  | .hbm, ⟨3, _⟩ => ⟨S16384x2048, .f32⟩
  | .hbm, ⟨4, _⟩ => ⟨S16384x2048, .bf16⟩
  | .hbm, ⟨5, _⟩ => ⟨S16384x2048, .f32⟩
  | .hbm, ⟨6, _⟩ => ⟨S16384x2048, .f32⟩
  | .hbm, ⟨7, _⟩ => ⟨S16384x2048, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== Kernel6.lean ====
abbrev S16384x2048 : Shape := ⟨2, ![16384, 2048]⟩
abbrev S2048 : Shape := ⟨1, ![2048]⟩
abbrev S2048x6736 : Shape := ⟨2, ![2048, 6736]⟩
abbrev S128 : Shape := ⟨1, ![128]⟩
abbrev S_ : Shape := ⟨0, ![]⟩
abbrev S1x128 : Shape := ⟨2, ![1, 128]⟩
abbrev S2x128 : Shape := ⟨2, ![2, 128]⟩
abbrev S2048x80 : Shape := ⟨2, ![2048, 80]⟩
abbrev S2048x512 : Shape := ⟨2, ![2048, 512]⟩
abbrev S2048x2048 : Shape := ⟨2, ![2048, 2048]⟩
abbrev S2048x1024 : Shape := ⟨2, ![2048, 1024]⟩
abbrev S2048x7168 : Shape := ⟨2, ![2048, 7168]⟩
abbrev S1x2048 : Shape := ⟨2, ![1, 2048]⟩
abbrev S16384x7168 : Shape := ⟨2, ![16384, 7168]⟩
abbrev S16384x128 : Shape := ⟨2, ![16384, 128]⟩
abbrev S1024x2048 : Shape := ⟨2, ![1024, 2048]⟩
abbrev S1024x1024 : Shape := ⟨2, ![1024, 1024]⟩
abbrev S1024x128 : Shape := ⟨2, ![1024, 128]⟩
abbrev S1024 : Shape := ⟨1, ![1024]⟩
abbrev S1024x1 : Shape := ⟨2, ![1024, 1]⟩

abbrev nBuf : Space → Nat
  | .hbm => 25
  | .vmem => 11
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x6736, .f32⟩
  | .hbm, ⟨3, _⟩ => ⟨S128, .f32⟩
  | .hbm, ⟨4, _⟩ => ⟨S128, .f32⟩
  | .hbm, ⟨5, _⟩ => ⟨S_, .f32⟩
  | .hbm, ⟨6, _⟩ => ⟨S128, .f32⟩
  | .hbm, ⟨7, _⟩ => ⟨S128, .f32⟩
  | .hbm, ⟨8, _⟩ => ⟨S1x128, .f32⟩
  | .hbm, ⟨9, _⟩ => ⟨S1x128, .f32⟩
  | .hbm, ⟨10, _⟩ => ⟨S2x128, .f32⟩
  | .hbm, ⟨11, _⟩ => ⟨S2048x80, .f32⟩
  | .hbm, ⟨12, _⟩ => ⟨S_, .i32⟩
  | .hbm, ⟨13, _⟩ => ⟨S_, .f32⟩
  | .hbm, ⟨14, _⟩ => ⟨S2048x512, .f32⟩
  | .hbm, ⟨15, _⟩ => ⟨S2048x2048, .f32⟩
  | .hbm, ⟨16, _⟩ => ⟨S2048x2048, .f32⟩
  | .hbm, ⟨17, _⟩ => ⟨S2048x1024, .f32⟩
  | .hbm, ⟨18, _⟩ => ⟨S2048x1024, .f32⟩
  | .hbm, ⟨19, _⟩ => ⟨S2048x512, .f32⟩
  | .hbm, ⟨20, _⟩ => ⟨S2048x7168, .f32⟩
  | .hbm, ⟨21, _⟩ => ⟨S2048x7168, .bf16⟩
  | .hbm, ⟨22, _⟩ => ⟨S1x2048, .f32⟩
  | .hbm, ⟨23, _⟩ => ⟨S16384x7168, .bf16⟩
  | .hbm, ⟨24, _⟩ => ⟨S16384x128, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x1024, .bf16⟩
  | .local _ .vmem, ⟨4, _⟩ => ⟨S2048x1024, .bf16⟩
  | .local _ .vmem, ⟨5, _⟩ => ⟨S2x128, .f32⟩
  | .local _ .vmem, ⟨6, _⟩ => ⟨S1024x1024, .bf16⟩
  | .local _ .vmem, ⟨7, _⟩ => ⟨S1024x1024, .bf16⟩
  | .local _ .vmem, ⟨8, _⟩ => ⟨S1024x128, .f32⟩
  | .local _ .vmem, ⟨9, _⟩ => ⟨S1024x128, .f32⟩
  | .local _ .vmem, ⟨10, _⟩ => ⟨S1024x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c : Ref sig .tc := ⟨.hbm, 12, rfl⟩
abbrev main_call0_v0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15_0 : Ref sig .tc := ⟨.hbm, 23, rfl⟩
abbrev main_v15_1 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![16, 7], ![false, false]⟩

def k0_cond3 (i : grid0.Coords) : BitVec 1 :=
  let arg1 : BitVec 32 := BitVec.ofNat 32 (i 1).val
  let c6_i32 : BitVec 32 := 6#32
  let v14 : BitVec 1 := Scalar.cmpi .eq arg1 c6_i32
  let v15 : BitVec 32 := Scalar.extui v14
  let c0_i32_7 : BitVec 32 := 0#32
  let v16 : BitVec 1 := Scalar.cmpi .ne v15 c0_i32_7
  v16

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S2x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference6Ideal.lean ====
abbrev S16384x2048 : Shape := ⟨2, ![16384, 2048]⟩
abbrev S2048 : Shape := ⟨1, ![2048]⟩
abbrev S2048x6736 : Shape := ⟨2, ![2048, 6736]⟩
abbrev S128 : Shape := ⟨1, ![128]⟩
abbrev S_ : Shape := ⟨0, ![]⟩
abbrev S16384 : Shape := ⟨1, ![16384]⟩
abbrev S16384x1 : Shape := ⟨2, ![16384, 1]⟩
abbrev S1x2048 : Shape := ⟨2, ![1, 2048]⟩
abbrev S16384x6736 : Shape := ⟨2, ![16384, 6736]⟩
abbrev S16384x1024 : Shape := ⟨2, ![16384, 1024]⟩
abbrev S16384x256 : Shape := ⟨2, ![16384, 256]⟩
abbrev S16384x64 : Shape := ⟨2, ![16384, 64]⟩
abbrev S16384x16 : Shape := ⟨2, ![16384, 16]⟩
abbrev S16384x8x128 : Shape := ⟨3, ![16384, 8, 128]⟩
abbrev S16384x8 : Shape := ⟨2, ![16384, 8]⟩
abbrev S16384x8x1 : Shape := ⟨3, ![16384, 8, 1]⟩
abbrev S1x1x128 : Shape := ⟨3, ![1, 1, 128]⟩
abbrev S16384x2x128 : Shape := ⟨3, ![16384, 2, 128]⟩
abbrev S16384x2 : Shape := ⟨2, ![16384, 2]⟩
abbrev S16384x2x1 : Shape := ⟨3, ![16384, 2, 1]⟩
abbrev S16384x432 : Shape := ⟨2, ![16384, 432]⟩
abbrev S16384x512 : Shape := ⟨2, ![16384, 512]⟩
abbrev S16384x7168 : Shape := ⟨2, ![16384, 7168]⟩
abbrev S16384x128 : Shape := ⟨2, ![16384, 128]⟩

abbrev nBuf : Space → Nat
  | .hbm => 77
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x6736, .f32⟩
  | .hbm, ⟨3, _⟩ => ⟨S128, .f32⟩
  | .hbm, ⟨4, _⟩ => ⟨S128, .f32⟩
  | .hbm, ⟨5, _⟩ => ⟨S16384x2048, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x2048, .f32⟩
  | .hbm, ⟨17, _⟩ => ⟨S16384x2048, .f32⟩
  | .hbm, ⟨18, _⟩ => ⟨S1x2048, .f32⟩
  | .hbm, ⟨19, _⟩ => ⟨S16384x2048, .f32⟩
  | .hbm, ⟨20, _⟩ => ⟨S16384x2048, .f32⟩
  | .hbm, ⟨21, _⟩ => ⟨S16384x6736, .f32⟩
  | .hbm, ⟨22, _⟩ => ⟨S16384x1024, .f32⟩
  | .hbm, ⟨23, _⟩ => ⟨S16384x256, .f32⟩
  | .hbm, ⟨24, _⟩ => ⟨S16384x256, .f32⟩
  | .hbm, ⟨25, _⟩ => ⟨S16384x1024, .f32⟩
  | .hbm, ⟨26, _⟩ => ⟨S16384x64, .f32⟩
  | .hbm, ⟨27, _⟩ => ⟨S16384x16, .f32⟩
  | .hbm, ⟨28, _⟩ => ⟨S16384x1024, .f32⟩
  | .hbm, ⟨29, _⟩ => ⟨S16384x1024, .f32⟩
  | .hbm, ⟨30, _⟩ => ⟨S16384x1024, .f32⟩
  | .hbm, ⟨31, _⟩ => ⟨S16384x1024, .f32⟩
  | .hbm, ⟨32, _⟩ => ⟨S16384x8x128, .f32⟩
  | .hbm, ⟨33, _⟩ => ⟨S16384x8x128, .f32⟩
  | .hbm, ⟨34, _⟩ => ⟨S_, .f32⟩
  | .hbm, ⟨35, _⟩ => ⟨S16384x8, .f32⟩
  | .hbm, ⟨36, _⟩ => ⟨S16384x8x1, .f32⟩
  | .hbm, ⟨37, _⟩ => ⟨S_, .f32⟩
  | .hbm, ⟨38, _⟩ => ⟨S16384x8x1, .f32⟩
  | .hbm, ⟨39, _⟩ => ⟨S16384x8x1, .f32⟩
  | .hbm, ⟨40, _⟩ => ⟨S_, .f32⟩
  | .hbm, ⟨41, _⟩ => ⟨S16384x8x1, .f32⟩
  | .hbm, ⟨42, _⟩ => ⟨S16384x8x1, .f32⟩
  | .hbm, ⟨43, _⟩ => ⟨S16384x8x1, .f32⟩
  | .hbm, ⟨44, _⟩ => ⟨S16384x8x128, .f32⟩
  | .hbm, ⟨45, _⟩ => ⟨S16384x8x128, .f32⟩
  | .hbm, ⟨46, _⟩ => ⟨S1x1x128, .f32⟩
  | .hbm, ⟨47, _⟩ => ⟨S16384x8x128, .f32⟩
  | .hbm, ⟨48, _⟩ => ⟨S16384x8x128, .f32⟩
  | .hbm, ⟨49, _⟩ => ⟨S16384x1024, .f32⟩
  | .hbm, ⟨50, _⟩ => ⟨S_, .f32⟩
  | .hbm, ⟨51, _⟩ => ⟨S16384x1024, .f32⟩
  | .hbm, ⟨52, _⟩ => ⟨S16384x1024, .f32⟩
  | .hbm, ⟨53, _⟩ => ⟨S16384x2x128, .f32⟩
  | .hbm, ⟨54, _⟩ => ⟨S16384x2x128, .f32⟩
  | .hbm, ⟨55, _⟩ => ⟨S_, .f32⟩
  | .hbm, ⟨56, _⟩ => ⟨S16384x2, .f32⟩
  | .hbm, ⟨57, _⟩ => ⟨S16384x2x1, .f32⟩
  | .hbm, ⟨58, _⟩ => ⟨S_, .f32⟩
  | .hbm, ⟨59, _⟩ => ⟨S16384x2x1, .f32⟩
  | .hbm, ⟨60, _⟩ => ⟨S16384x2x1, .f32⟩
  | .hbm, ⟨61, _⟩ => ⟨S_, .f32⟩
  | .hbm, ⟨62, _⟩ => ⟨S16384x2x1, .f32⟩
  | .hbm, ⟨63, _⟩ => ⟨S16384x2x1, .f32⟩
  | .hbm, ⟨64, _⟩ => ⟨S16384x2x1, .f32⟩
  | .hbm, ⟨65, _⟩ => ⟨S16384x2x128, .f32⟩
  | .hbm, ⟨66, _⟩ => ⟨S16384x2x128, .f32⟩
  | .hbm, ⟨67, _⟩ => ⟨S1x1x128, .f32⟩
  | .hbm, ⟨68, _⟩ => ⟨S16384x2x128, .f32⟩
  | .hbm, ⟨69, _⟩ => ⟨S16384x2x128, .f32⟩
  | .hbm, ⟨70, _⟩ => ⟨S16384x256, .f32⟩
  | .hbm, ⟨71, _⟩ => ⟨S_, .f32⟩
  | .hbm, ⟨72, _⟩ => ⟨S16384x432, .f32⟩
  | .hbm, ⟨73, _⟩ => ⟨S16384x512, .f32⟩
  | .hbm, ⟨74, _⟩ => ⟨S16384x7168, .f32⟩
  | .hbm, ⟨75, _⟩ => ⟨S16384x7168, .bf16⟩
  | .hbm, ⟨76, _⟩ => ⟨S16384x128, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_2 : Ref sig .tc := ⟨.hbm, 34, rfl⟩
abbrev main_v26 : Ref sig .tc := ⟨.hbm, 35, rfl⟩
abbrev main_v27 : Ref sig .tc := ⟨.hbm, 36, rfl⟩
abbrev main_cst_3 : Ref sig .tc := ⟨.hbm, 37, rfl⟩
abbrev main_v28 : Ref sig .tc := ⟨.hbm, 38, rfl⟩
abbrev main_v29 : Ref sig .tc := ⟨.hbm, 39, rfl⟩
abbrev main_cst_4 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_cst_5 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_cst_6 : Ref sig .tc := ⟨.hbm, 55, rfl⟩
abbrev main_v43 : Ref sig .tc := ⟨.hbm, 56, rfl⟩
abbrev main_v44 : Ref sig .tc := ⟨.hbm, 57, rfl⟩
abbrev main_cst_7 : Ref sig .tc := ⟨.hbm, 58, rfl⟩
abbrev main_v45 : Ref sig .tc := ⟨.hbm, 59, rfl⟩
abbrev main_v46 : Ref sig .tc := ⟨.hbm, 60, rfl⟩
abbrev main_cst_8 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_cst_9 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩

abbrev nD : Nat := 1
abbrev τ : Topo := Topo.v7x

variable {F : FTy → Type} [FloatOps F]
-- ==== Kernel7.lean ====
abbrev S16384x2048 : Shape := ⟨2, ![16384, 2048]⟩
abbrev S2048 : Shape := ⟨1, ![2048]⟩
abbrev S2048x8 : Shape := ⟨2, ![2048, 8]⟩
abbrev S_ : Shape := ⟨0, ![]⟩
abbrev S2048x128 : Shape := ⟨2, ![2048, 128]⟩
abbrev S1x2048 : Shape := ⟨2, ![1, 2048]⟩
abbrev S16384x128 : Shape := ⟨2, ![16384, 128]⟩
abbrev S512x2048 : Shape := ⟨2, ![512, 2048]⟩
abbrev S512x128 : Shape := ⟨2, ![512, 128]⟩
abbrev S512 : Shape := ⟨1, ![512]⟩
abbrev S512x1 : Shape := ⟨2, ![512, 1]⟩

abbrev nBuf : Space → Nat
  | .hbm => 9
  | .vmem => 8
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x8, .f32⟩
  | .hbm, ⟨3, _⟩ => ⟨S_, .i32⟩
  | .hbm, ⟨4, _⟩ => ⟨S_, .f32⟩
  | .hbm, ⟨5, _⟩ => ⟨S2048x128, .f32⟩
  | .hbm, ⟨6, _⟩ => ⟨S1x2048, .f32⟩
  | .hbm, ⟨7, _⟩ => ⟨S16384x2048, .f32⟩
  | .hbm, ⟨8, _⟩ => ⟨S16384x128, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x128, .f32⟩
  | .local _ .vmem, ⟨4, _⟩ => ⟨S512x2048, .f32⟩
  | .local _ .vmem, ⟨5, _⟩ => ⟨S512x2048, .f32⟩
  | .local _ .vmem, ⟨6, _⟩ => ⟨S512x128, .f32⟩
  | .local _ .vmem, ⟨7, _⟩ => ⟨S512x128, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference7Ideal.lean ====
abbrev S16384x2048 : Shape := ⟨2, ![16384, 2048]⟩
abbrev S2048 : Shape := ⟨1, ![2048]⟩
abbrev S2048x8 : Shape := ⟨2, ![2048, 8]⟩
abbrev S_ : Shape := ⟨0, ![]⟩
abbrev S16384 : Shape := ⟨1, ![16384]⟩
abbrev S16384x1 : Shape := ⟨2, ![16384, 1]⟩
abbrev S1x2048 : Shape := ⟨2, ![1, 2048]⟩
abbrev S16384x8 : Shape := ⟨2, ![16384, 8]⟩
abbrev S16384x2 : Shape := ⟨2, ![16384, 2]⟩
abbrev S16384x116 : Shape := ⟨2, ![16384, 116]⟩
abbrev S16384x128 : Shape := ⟨2, ![16384, 128]⟩

abbrev nBuf : Space → Nat
  | .hbm => 42
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x8, .f32⟩
  | .hbm, ⟨3, _⟩ => ⟨S16384x2048, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x2048, .f32⟩
  | .hbm, ⟨15, _⟩ => ⟨S16384x2048, .f32⟩
  | .hbm, ⟨16, _⟩ => ⟨S1x2048, .f32⟩
  | .hbm, ⟨17, _⟩ => ⟨S16384x2048, .f32⟩
  | .hbm, ⟨18, _⟩ => ⟨S16384x2048, .f32⟩
  | .hbm, ⟨19, _⟩ => ⟨S16384x8, .f32⟩
  | .hbm, ⟨20, _⟩ => ⟨S16384x2, .f32⟩
  | .hbm, ⟨21, _⟩ => ⟨S16384x2, .i32⟩
  | .hbm, ⟨22, _⟩ => ⟨S_, .f32⟩
  | .hbm, ⟨23, _⟩ => ⟨S16384, .f32⟩
  | .hbm, ⟨24, _⟩ => ⟨S_, .f32⟩
  | .hbm, ⟨25, _⟩ => ⟨S16384, .f32⟩
  | .hbm, ⟨26, _⟩ => ⟨S16384, .f32⟩
  | .hbm, ⟨27, _⟩ => ⟨S16384x1, .f32⟩
  | .hbm, ⟨28, _⟩ => ⟨S16384x2, .f32⟩
  | .hbm, ⟨29, _⟩ => ⟨S16384x2, .f32⟩
  | .hbm, ⟨30, _⟩ => ⟨S16384x2, .f32⟩
  | .hbm, ⟨31, _⟩ => ⟨S_, .f32⟩
  | .hbm, ⟨32, _⟩ => ⟨S16384, .f32⟩
  | .hbm, ⟨33, _⟩ => ⟨S16384x1, .f32⟩
  | .hbm, ⟨34, _⟩ => ⟨S16384x2, .f32⟩
  | .hbm, ⟨35, _⟩ => ⟨S16384x2, .f32⟩
  | .hbm, ⟨36, _⟩ => ⟨S_, .f32⟩
  | .hbm, ⟨37, _⟩ => ⟨S16384x8, .f32⟩
  | .hbm, ⟨38, _⟩ => ⟨S_, .f32⟩
  | .hbm, ⟨39, _⟩ => ⟨S16384x116, .f32⟩
  | .hbm, ⟨40, _⟩ => ⟨S16384x2, .f32⟩
  | .hbm, ⟨41, _⟩ => ⟨S16384x128, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_values : Ref sig .tc := ⟨.hbm, 20, rfl⟩
abbrev main_indices : Ref sig .tc := ⟨.hbm, 21, rfl⟩
abbrev main_cst_2 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_cst_6 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩

abbrev nD : Nat := 1
abbrev τ : Topo := Topo.v7x

variable {F : FTy → Type} [FloatOps F]
-- ==== Proof.Gu.Kit.lean ====
/- The launch of the expert gate/up call: what @main hands the pipeline, the word table it prefetches, the
   windows' blocks, the staging and scratch memrefs, and the body's branch conditions. -/
module

public import proofs.«01_k».proof.Proof.Gen.KernelIdeal.Launch
public import proofs.«01_k».proof.Proof.Gen.KernelIdeal.Skeleton
public import Idealize.ShloMosaic.Lib.Pipeline.Kit
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Gu

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Window 0 (operand 1 (%arg1)) is fetched at every point, at any contents of the tables (its index map reads none). -/
theorem fetch0_0 (a : (pcfg0 (F := F)).Adm) : ∀ t : Fin (cfg0 a).N, ((cfg0 a).win 0).fetch t = true :=
  (fun t => (Pipeline.Window.fetchOf_reads cc0_transform_0 reads0_0 hreads0_0 1 (by decide) (by decide) (Pipeline.Window.sep_of_coord cc0_transform_0 1 0 (fun _ => rfl) (by decide)) (P := 1) (by decide) t).mpr (Nat.mod_one _) : ∀ t : Fin grid0.N, Pipeline.Window.fetchOf grid0 false cc0_transform_0 t = true)
/-- Window 3 (result 0 (%0)) is written back at every point, at any contents of the tables (its index map reads none). -/
theorem flush0_3 (a : (pcfg0 (F := F)).Adm) : ∀ t : Fin (cfg0 a).N, ((cfg0 a).win 3).flush t = true :=
  (fun t => (Pipeline.Window.flushOf_reads cc0_transform_3 reads0_3 hreads0_3 1 (by decide) (by decide) (Pipeline.Window.sep_of_coord cc0_transform_3 1 0 (fun _ => rfl) (by decide)) (P := 1) (m := 0) (by decide) rfl t).mpr (Nat.mod_one _) : ∀ t : Fin grid0.N, Pipeline.Window.flushOf grid0 true cc0_transform_3 t = true)

/-- The current staging memref of each window at point `t`: which of its buffers it is on. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_moe_gate_up (grid0.coords t) (Memref.whole main_arg0) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (Memref.whole cc0_scratch0) (Memref.isWhole_whole _) (Memref.whole cc0_scratch1) (Memref.isWhole_whole _)

variable (m : (ℓ : Loc nD τ sig) → Buf (Elt F) ℓ) (ρ : Dev nD → PrngReg)
/-! ## @main up to the region -/

/-- Core `c`'s TensorCore buffers when the region is entered: as launched (@main is the region alone). -/
abbrev V (c : Dev nD) (b : Ref sig .tc) : Buf (Elt F) ((c : Thread nD τ).loc b) := m ((c : Thread nD τ).loc b)

set_option maxHeartbeats 800000 in
/-- @main up to the region, at the certificate's variants `𝒱₀`: the region alone (`Pipeline.hmain_region` off
    `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_region pcfgs 0 defs₀ 𝒱₀ m main fun c => (main_chain c).trans rfl

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl
theorem V_main_arg3 (c : Dev nD) : V m c main_arg3 = m ((c : Thread nD τ).loc main_arg3) := rfl

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 1) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S73 .i32 := Memref.whole main_arg0
abbrev htbM0_0 : tbM0_0.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0)) := by
  unfold Pipeline.ΦT Pipeline.prefHeld
  rw [show (Finset.univ : Finset (Fin 1)) = {(0 : Fin 1)} from by decide, bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions -/

/-- The condition of the body's `scf.if` 0: over WORDS the body reads from its tables or input SMEM windows
    (`v0`, `v4`, `v8`), so no function of the point — a case variable: a hypothesis of each run, a `by_cases`
    of the obligation and an `if` of `outsAt`, stated over the argument blocks' words there. -/
abbrev cond0_0 (i : grid0.Coords) (v0 : BitVec 32) (v4 : BitVec 32) (v8 : BitVec 32) : Prop := (Scalar.cmpi .ne (Scalar.extui (Scalar.andi (Scalar.cmpi .slt (BitVec.ofNat 32 (i 1).val) v0) (Scalar.ori (Scalar.cmpi .eq (BitVec.ofNat 32 (i 1).val) 0#32) (Scalar.cmpi .ne v4 v8)))) 0#32) = 1#1

/-- The condition of the body's `scf.if` 1: over WORDS the body reads from its tables or input SMEM windows
    (`v0`), so no function of the point — a case variable: a hypothesis of each run, a `by_cases`
    of the obligation and an `if` of `outsAt`, stated over the argument blocks' words there. -/
abbrev cond0_1 (i : grid0.Coords) (v0 : BitVec 32) : Prop := (Scalar.cmpi .ne (Scalar.extui (Scalar.cmpi .slt (BitVec.ofNat 32 (i 1).val) v0)) 0#32) = 1#1

/-! ## The kernel body on any staging memrefs: a subtype the run finds -/

/-- Each window's current staging memref at point `t`, spelled as the pipeline passes it (`bodyAt0`), and its wholeness. -/
abbrev ms0_0 (hO : Ok m) (t : Fin (cfgM m hO).N) : Memref sig .tc .vmem S512x2048 .bf16 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x2048x1024 .f32 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x2048x1024 .f32 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S512x1024 .bf16 := spec0_3.stage ((cfgM m hO).slots t 3)
abbrev hs0_3 (hO : Ok m) (t : Fin (cfgM m hO).N) : (ms0_3 m hO t).IsWhole := hstage0_3 (((cfgM m hO).slots t 3).cast nbuf0_3)
/-- The scratch operands: whole scoped buffers of the kernel's own, passed beside the windows. -/
abbrev scM0_0 : Memref sig .tc .vmem S2048x1024 .bf16 := Memref.whole cc0_scratch0
abbrev scM0_1 : Memref sig .tc .vmem S2048x1024 .bf16 := Memref.whole cc0_scratch1

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.KernelIdeal.Gu

end
-- ==== Proof.Gu.Body.lean ====
/- The body of the expert gate/up call at a point, case by case of its conditionals: the first used tile of an
   expert's run (the weights' blocks are rounded into the two scratch buffers), a later tile of the run (the scratch
   is read as it stands), an unused tile (zeros). -/
module

public import proofs.«01_k».proof.Proof.Gu.Kit
public import Idealize.ShloMosaic.Lib.Pipeline.Value

@[expose] public section

set_option maxRecDepth 16384

noncomputable section

namespace Cert.KernelIdeal.Gu

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The number of used tiles: word 72 of the table. -/
abbrev word0 (c : Dev nD) (xt : TbBuf0 (F := F) c tbM0_0) : BitVec 32 :=
  tbM0_0.view.readAt (Elt F) (Rect.unit (s := S73) ![72] S1.size inb_S73_S1_72).toLoadRect xt (Shape.Idx.first (numel1_S1.symm ▸ Nat.one_pos))
/-- The expert of the tile at a point. -/
abbrev wordAt (c : Dev nD) (i : grid0.Coords) (xt : TbBuf0 (F := F) c tbM0_0) : BitVec 32 :=
  tbM0_0.view.readAt (Elt F) (Rect.unit (s := S73) (k0_off1 i) S1.size (k0_off1_inb i)).toLoadRect xt (Shape.Idx.first (numel1_S1.symm ▸ Nat.one_pos))
/-- The expert of the tile before it. -/
abbrev wordBefore (c : Dev nD) (i : grid0.Coords) (xt : TbBuf0 (F := F) c tbM0_0) : BitVec 32 :=
  tbM0_0.view.readAt (Elt F) (Rect.unit (s := S73) (k0_off2 i) S1.size (k0_off2_inb i)).toLoadRect xt (Shape.Idx.first (numel1_S1.symm ▸ Nat.one_pos))

theorem off2 : (![0, 0] : Fin 2 → ℕ) = fun _ => 0 := by decide
theorem off3 : (![0, 0, 0] : Fin 3 → ℕ) = fun _ => 0 := by decide

/-- A store over a whole buffer leaves what was stored. -/
theorem read_store {sig : RefSig} {κ : Kind} {sp : Space} {S : Shape} {e : EltTy} {Val : EltTy → Type} (v : View sig κ sp S e) (f : v.ty.Contents Val)
    {off : Fin S.rank → ℕ} (h : off = fun _ => 0) (inb : ∀ a, off a + S.size a ≤ S.size a) (w : S.Idx → Val e) :
    v.read Val (v.writes Val f [⟨Rect.unit off S.size inb, w⟩]) = w := by
  subst h; exact View.read_writes_whole v f w

/-- A load over a whole buffer reads its contents. -/
theorem load_whole {sig : RefSig} {κ : Kind} {sp : Space} {S : Shape} {e : EltTy} {Val : EltTy → Type} (m : Memref sig κ sp S e) (hm : m.IsWhole)
    {off : Fin S.rank → ℕ} (h : off = fun _ => 0) (inb : ∀ a, off a + S.size a ≤ S.size a) (X : S.Idx → Val e) :
    m.view.readAt Val (Rect.unit off S.size inb).toLoadRect (hm.unread X) = X := by
  rw [View.readAt_eq_ld, hm.read_unread, View.ld_unit_zero h]

set_option maxHeartbeats 1600000 in
/-- The first tile of an expert's run: both scratch buffers get the rounded weights, the output block is computed from them. -/
theorem body_first (c : Dev nD) (i : grid0.Coords) (arg3 : Memref sig .tc .vmem S512x2048 .bf16) (harg3 : arg3.IsWhole)
    (arg4 : Memref sig .tc .vmem S1x2048x1024 .f32) (harg4 : arg4.IsWhole) (arg5 : Memref sig .tc .vmem S1x2048x1024 .f32) (harg5 : arg5.IsWhole)
    (arg6 : Memref sig .tc .vmem S512x1024 .bf16) (harg6 : arg6.IsWhole) (arg7 : Memref sig .tc .vmem S2048x1024 .bf16) (harg7 : arg7.IsWhole)
    (arg8 : Memref sig .tc .vmem S2048x1024 .bf16) (harg8 : arg8.IsWhole)
    (x0 : Vec F S512x2048 .bf16) (x1 x2 : Vec F S1x2048x1024 .f32) (w7 w8 : Vec F S2048x1024 .bf16) (xt : TbBuf0 (F := F) c tbM0_0)
    (h0 : cond0_0 i (word0 c xt) (wordAt c i xt) (wordBefore c i xt))
    (h2 : k0_cond2 i (word0 c xt) = 1#1) (h3 : ¬k0_cond3 i (word0 c xt) = 1#1) (E : Set ℕ) (K : PUnit → sProp 𝕄) :
    iprop(owns (c : Thread nD τ) arg3 fullShare x0 ∗ owns (c : Thread nD τ) arg4 fullShare x1 ∗ owns (c : Thread nD τ) arg5 fullShare x2 ∗ (∃ d, owns (c : Thread nD τ) arg6 fullShare d)
        ∗ owns (c : Thread nD τ) arg7 fullShare w7 ∗ owns (c : Thread nD τ) arg8 fullShare w8 ∗ tbPt0 c tbM0_0 xt
        ∗ (iprop(owns (c : Thread nD τ) arg3 fullShare x0 ∗ owns (c : Thread nD τ) arg4 fullShare x1 ∗ owns (c : Thread nD τ) arg5 fullShare x2 ∗ owns (c : Thread nD τ) arg6 fullShare (k0_pay3 x0 (k0_pay1 x1) (k0_pay2 x2))
            ∗ owns (c : Thread nD τ) arg7 fullShare (k0_pay1 x1) ∗ owns (c : Thread nD τ) arg8 fullShare (k0_pay2 x2) ∗ tbPt0 c tbM0_0 xt) -∗ K ⟨⟩))
      ⊢ wp frame (wpE (defs₀ (F := F)) Variants.none c none) E (cc0_moe_gate_up i tbM0_0 htbM0_0 arg3 harg3 arg4 harg4 arg5 harg5 arg6 harg6 arg7 harg7 arg8 harg8) K := by
  simp only [cc0_moe_gate_up_eq_skeleton]; unfold cc0_moe_gate_up_skel
  unfold owns
  iintro ⟨⟨%f0, %hf0, H0⟩, ⟨%f1, %hf1, H1⟩, ⟨%f2, %hf2, H2⟩, ⟨%d3, %f3, -, H3⟩, ⟨%f4, %hf4, HS0⟩, ⟨%f5, %hf5, HS1⟩, HT0, Hk⟩
  obtain rfl := harg3.eq_unread hf0; obtain rfl := harg4.eq_unread hf1; obtain rfl := harg5.eq_unread hf2
  obtain rfl := harg7.eq_unread hf4; obtain rfl := harg8.eq_unread hf5
  sl_exec (disch := first | sl_exact h0 | sl_exact h2 | sl_exact h3)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; swap; · iexact H3
    ipureintro; rw [read_store _ _ off2]; unfold body_first.sl.v20 body_first.sl.v21 body_first.sl.HS0_1 body_first.sl.HS1_1
    rw [View.readCov_unit_zero _ off2, View.readCov_unit_zero _ off2, load_whole _ harg3 off2, load_whole _ harg4 off3, load_whole _ harg5 off3]
  isplitl [HS0]
  · iexists _; isplitr; swap; · iexact HS0
    ipureintro; unfold body_first.sl.HS0_1; rw [read_store _ _ off2, load_whole _ harg4 off3]
  isplitl [HS1]
  · iexists _; isplitr; swap; · iexact HS1
    ipureintro; unfold body_first.sl.HS1_1; rw [read_store _ _ off2, load_whole _ harg5 off3]
  iexact HT0

set_option maxHeartbeats 1600000 in
/-- A later tile of a run: the scratch buffers stay, the output block is computed from them. -/
theorem body_later (c : Dev nD) (i : grid0.Coords) (arg3 : Memref sig .tc .vmem S512x2048 .bf16) (harg3 : arg3.IsWhole)
    (arg4 : Memref sig .tc .vmem S1x2048x1024 .f32) (harg4 : arg4.IsWhole) (arg5 : Memref sig .tc .vmem S1x2048x1024 .f32) (harg5 : arg5.IsWhole)
    (arg6 : Memref sig .tc .vmem S512x1024 .bf16) (harg6 : arg6.IsWhole) (arg7 : Memref sig .tc .vmem S2048x1024 .bf16) (harg7 : arg7.IsWhole)
    (arg8 : Memref sig .tc .vmem S2048x1024 .bf16) (harg8 : arg8.IsWhole)
    (x0 : Vec F S512x2048 .bf16) (x1 x2 : Vec F S1x2048x1024 .f32) (w7 w8 : Vec F S2048x1024 .bf16) (xt : TbBuf0 (F := F) c tbM0_0)
    (h0 : ¬cond0_0 i (word0 c xt) (wordAt c i xt) (wordBefore c i xt))
    (h2 : k0_cond2 i (word0 c xt) = 1#1) (h3 : ¬k0_cond3 i (word0 c xt) = 1#1) (E : Set ℕ) (K : PUnit → sProp 𝕄) :
    iprop(owns (c : Thread nD τ) arg3 fullShare x0 ∗ owns (c : Thread nD τ) arg4 fullShare x1 ∗ owns (c : Thread nD τ) arg5 fullShare x2 ∗ (∃ d, owns (c : Thread nD τ) arg6 fullShare d)
        ∗ owns (c : Thread nD τ) arg7 fullShare w7 ∗ owns (c : Thread nD τ) arg8 fullShare w8 ∗ tbPt0 c tbM0_0 xt
        ∗ (iprop(owns (c : Thread nD τ) arg3 fullShare x0 ∗ owns (c : Thread nD τ) arg4 fullShare x1 ∗ owns (c : Thread nD τ) arg5 fullShare x2 ∗ owns (c : Thread nD τ) arg6 fullShare (k0_pay3 x0 w7 w8)
            ∗ owns (c : Thread nD τ) arg7 fullShare (w7) ∗ owns (c : Thread nD τ) arg8 fullShare (w8) ∗ tbPt0 c tbM0_0 xt) -∗ K ⟨⟩))
      ⊢ wp frame (wpE (defs₀ (F := F)) Variants.none c none) E (cc0_moe_gate_up i tbM0_0 htbM0_0 arg3 harg3 arg4 harg4 arg5 harg5 arg6 harg6 arg7 harg7 arg8 harg8) K := by
  simp only [cc0_moe_gate_up_eq_skeleton]; unfold cc0_moe_gate_up_skel
  unfold owns
  iintro ⟨⟨%f0, %hf0, H0⟩, ⟨%f1, %hf1, H1⟩, ⟨%f2, %hf2, H2⟩, ⟨%d3, %f3, -, H3⟩, ⟨%f4, %hf4, HS0⟩, ⟨%f5, %hf5, HS1⟩, HT0, Hk⟩
  obtain rfl := harg3.eq_unread hf0; obtain rfl := harg4.eq_unread hf1; obtain rfl := harg5.eq_unread hf2
  obtain rfl := harg7.eq_unread hf4; obtain rfl := harg8.eq_unread hf5
  sl_exec (disch := first | sl_exact h0 | sl_exact h2 | sl_exact h3)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; swap; · iexact H3
    ipureintro; rw [read_store _ _ off2, load_whole _ harg3 off2, load_whole _ harg7 off2, load_whole _ harg8 off2]
  isplitl [HS0]
  · iexists _; isplitr; swap; · iexact HS0
    ipureintro; exact harg7.read_unread _
  isplitl [HS1]
  · iexists _; isplitr; swap; · iexact HS1
    ipureintro; exact harg8.read_unread _
  iexact HT0

set_option maxHeartbeats 1600000 in
/-- A tile past the used ones: zeros, the scratch buffers stay. -/
theorem body_unused (c : Dev nD) (i : grid0.Coords) (arg3 : Memref sig .tc .vmem S512x2048 .bf16) (harg3 : arg3.IsWhole)
    (arg4 : Memref sig .tc .vmem S1x2048x1024 .f32) (harg4 : arg4.IsWhole) (arg5 : Memref sig .tc .vmem S1x2048x1024 .f32) (harg5 : arg5.IsWhole)
    (arg6 : Memref sig .tc .vmem S512x1024 .bf16) (harg6 : arg6.IsWhole) (arg7 : Memref sig .tc .vmem S2048x1024 .bf16) (harg7 : arg7.IsWhole)
    (arg8 : Memref sig .tc .vmem S2048x1024 .bf16) (harg8 : arg8.IsWhole)
    (x0 : Vec F S512x2048 .bf16) (x1 x2 : Vec F S1x2048x1024 .f32) (w7 w8 : Vec F S2048x1024 .bf16) (xt : TbBuf0 (F := F) c tbM0_0)
    (h0 : ¬cond0_0 i (word0 c xt) (wordAt c i xt) (wordBefore c i xt))
    (h2 : ¬k0_cond2 i (word0 c xt) = 1#1) (h3 : k0_cond3 i (word0 c xt) = 1#1) (E : Set ℕ) (K : PUnit → sProp 𝕄) :
    iprop(owns (c : Thread nD τ) arg3 fullShare x0 ∗ owns (c : Thread nD τ) arg4 fullShare x1 ∗ owns (c : Thread nD τ) arg5 fullShare x2 ∗ (∃ d, owns (c : Thread nD τ) arg6 fullShare d)
        ∗ owns (c : Thread nD τ) arg7 fullShare w7 ∗ owns (c : Thread nD τ) arg8 fullShare w8 ∗ tbPt0 c tbM0_0 xt
        ∗ (iprop(owns (c : Thread nD τ) arg3 fullShare x0 ∗ owns (c : Thread nD τ) arg4 fullShare x1 ∗ owns (c : Thread nD τ) arg5 fullShare x2 ∗ owns (c : Thread nD τ) arg6 fullShare (k0_pay4)
            ∗ owns (c : Thread nD τ) arg7 fullShare (w7) ∗ owns (c : Thread nD τ) arg8 fullShare (w8) ∗ tbPt0 c tbM0_0 xt) -∗ K ⟨⟩))
      ⊢ wp frame (wpE (defs₀ (F := F)) Variants.none c none) E (cc0_moe_gate_up i tbM0_0 htbM0_0 arg3 harg3 arg4 harg4 arg5 harg5 arg6 harg6 arg7 harg7 arg8 harg8) K := by
  simp only [cc0_moe_gate_up_eq_skeleton]; unfold cc0_moe_gate_up_skel
  unfold owns
  iintro ⟨⟨%f0, %hf0, H0⟩, ⟨%f1, %hf1, H1⟩, ⟨%f2, %hf2, H2⟩, ⟨%d3, %f3, -, H3⟩, ⟨%f4, %hf4, HS0⟩, ⟨%f5, %hf5, HS1⟩, HT0, Hk⟩
  obtain rfl := harg3.eq_unread hf0; obtain rfl := harg4.eq_unread hf1; obtain rfl := harg5.eq_unread hf2
  obtain rfl := harg7.eq_unread hf4; obtain rfl := harg8.eq_unread hf5
  sl_exec (disch := first | sl_exact h0 | sl_exact h2 | sl_exact h3)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; swap; · iexact H3
    ipureintro; exact read_store _ _ off2 _ _
  isplitl [HS0]
  · iexists _; isplitr; swap; · iexact HS0
    ipureintro; exact harg7.read_unread _
  isplitl [HS1]
  · iexists _; isplitr; swap; · iexact HS1
    ipureintro; exact harg8.read_unread _
  iexact HT0

end Cert.KernelIdeal.Gu

end
-- ==== Proof.Gu.Words.lean ====
/- The words the body and the index maps read of the table, and the branch conditions in terms of them: the number of
   used tiles is a signed bound on the tile, and the scratch is rewritten where the tile is the first or its expert
   differs from the tile's before. -/
module

public import proofs.«01_k».proof.Proof.Gu.Body

@[expose] public section

set_option maxRecDepth 16384

noncomputable section

namespace Cert.KernelIdeal.Gu

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Branch conditions -/

theorem bit_iff (b : BitVec 1) : Scalar.cmpi .ne (Scalar.extui b) 0#32 = 1#1 ↔ b = 1#1 := by
  revert b; decide

theorem bit_not_iff (b : BitVec 1) : Scalar.cmpi .ne (Scalar.extui (Scalar.xori b 1#1)) 0#32 = 1#1 ↔ ¬b = 1#1 := by
  revert b; decide

/-- A tile `n` is used under the bound `v`, the bound read signed. -/
def Used (n : ℕ) (v : BitVec 32) : Prop := (n : ℤ) < v.toInt

instance (n : ℕ) (v : BitVec 32) : Decidable (Used n v) := inferInstanceAs (Decidable (_ < _))

theorem toInt_small (n : ℕ) (hn : n < 72) : (BitVec.ofNat 32 n).toInt = n := by
  rw [BitVec.toInt_ofNat']; simp only [Int.bmod]; omega

theorem slt_iff (n : ℕ) (hn : n < 72) (v : BitVec 32) : Scalar.cmpi .slt (BitVec.ofNat 32 n) v = 1#1 ↔ Used n v := by
  show BitVec.ofBool (decide ((BitVec.ofNat 32 n).toInt < v.toInt)) = 1#1 ↔ _
  rw [toInt_small n hn]
  unfold Used
  by_cases h : (n : ℤ) < v.toInt <;> simp [h]

theorem tile_lt (i : grid0.Coords) : (i 1).val < 72 := (i 1).isLt
theorem col_lt (i : grid0.Coords) : (i 0).val < 7 := (i 0).isLt

theorem cond2_iff (i : grid0.Coords) (v : BitVec 32) : k0_cond2 i v = 1#1 ↔ Used (i 1).val v :=
  (bit_iff _).trans (slt_iff _ (tile_lt i) v)

theorem cond3_iff (i : grid0.Coords) (v : BitVec 32) : k0_cond3 i v = 1#1 ↔ ¬Used (i 1).val v :=
  (bit_not_iff _).trans (not_congr (slt_iff _ (tile_lt i) v))

theorem and_or_iff : ∀ a b c : BitVec 1, Scalar.andi a (Scalar.ori b c) = 1#1 ↔ a = 1#1 ∧ (b = 1#1 ∨ c = 1#1) := by decide

theorem eq_zero_iff (n : ℕ) (hn : n < 72) : Scalar.cmpi .eq (BitVec.ofNat 32 n) 0#32 = 1#1 ↔ n = 0 := by
  have := (by decide +kernel : ∀ n : Fin 72, Scalar.cmpi .eq (BitVec.ofNat 32 n.val) 0#32 = 1#1 ↔ n.val = 0) ⟨n, hn⟩
  exact this

theorem ne_iff (a b : BitVec 32) : Scalar.cmpi .ne a b = 1#1 ↔ a ≠ b := by
  show BitVec.ofBool (a != b) = 1#1 ↔ _
  by_cases h : a = b
  · simp [h]
  · rw [bne_iff_ne.2 h]; simp [h]

theorem cond0_iff (i : grid0.Coords) (v w u : BitVec 32) : cond0_0 i v w u ↔ Used (i 1).val v ∧ ((i 1).val = 0 ∨ w ≠ u) := by
  unfold cond0_0
  rw [bit_iff, and_or_iff, slt_iff _ (tile_lt i), eq_zero_iff _ (tile_lt i), ne_iff]

/-! ## The table's words -/

/-- Place `n` of the table. -/
def place (n : ℕ) (h : n < 73) : S73.Idx := fun a => ⟨n, by obtain rfl : a = 0 := Subsingleton.elim _ _; exact h⟩

/-- Word `n` of a table. -/
abbrev wd (X : S73.Idx → BitVec 32) (n : ℕ) (h : n < 73) : BitVec 32 := X (place n h)

theorem readWord (X : S73.Idx → BitVec 32) (off : Fin 1 → ℕ) (inb : ∀ a, off a + S1.size a ≤ S73.size a) (n : ℕ) (h : n < 73) (hn : off 0 = n) :
    X ((Rect.unit (s := S73) off S1.size inb).toLoadRect.idx (Shape.Idx.first (numel1_S1.symm ▸ Nat.one_pos))) = wd X n h := by
  unfold wd
  congr 1
  funext a
  apply Fin.ext
  obtain rfl : a = 0 := Subsingleton.elim _ _
  subst hn
  rfl

theorem off1_eq (i : grid0.Coords) : k0_off1 i 0 = (i 1).val :=
  (by decide +kernel : ∀ n : Fin 72, (BitVec.ofNat 32 n.val).toNat = n.val) ⟨(i 1).val, tile_lt i⟩

theorem off2_eq (i : grid0.Coords) : k0_off2 i 0 = (i 1).val - 1 :=
  (by decide +kernel : ∀ n : Fin 72, (Scalar.indexCast (Scalar.maxsi (Scalar.subi (BitVec.ofNat 32 n.val) 1#32) 0#32)).toNat = n.val - 1) ⟨(i 1).val, tile_lt i⟩

section
variable (c : Dev nD) (i : grid0.Coords) (xt : TbBuf0 (F := F) c tbM0_0)

theorem word0_eq : word0 c xt = wd xt 72 (by omega) := readWord xt _ inb_S73_S1_72 72 (by omega) rfl
theorem wordAt_eq : wordAt c i xt = wd xt (i 1).val (lt_trans (tile_lt i) (by omega)) := readWord xt _ (k0_off1_inb i) _ _ (off1_eq i)
theorem wordBefore_eq : wordBefore c i xt = wd xt ((i 1).val - 1) (lt_of_le_of_lt (Nat.sub_le _ _) (lt_trans (tile_lt i) (by omega))) :=
  readWord xt _ (k0_off2_inb i) _ _ (off2_eq i)
end

/-! ## The grid's points -/

theorem coords_eq : ∀ t : Fin grid0.N, (grid0.coords t 0).val = t.val / 72 ∧ (grid0.coords t 1).val = t.val % 72 := by decide +kernel

variable (m : (ℓ : Loc nD τ sig) → Buf (Elt F) ℓ)

/-! ## The tiles' experts -/

/-- The expert whose weights tile `n` takes. -/
def expert (m : (ℓ : Loc nD τ sig) → Buf (Elt F) ℓ) (n : ℕ) (h : n < 72) : ℕ := (wd (tbl m 0) n (lt_trans h (by omega))).toNat

theorem index1_eq (i : grid0.Coords) : cc0_transform_1 k0_off1_inb numel1_S1 (tbl m) i 0 = expert m (i 1).val (tile_lt i) :=
  congrArg BitVec.toNat (readWord (tbl m 0) _ (k0_off1_inb i) _ _ (off1_eq i))

theorem index2_eq (i : grid0.Coords) : cc0_transform_2 k0_off1_inb numel1_S1 (tbl m) i 0 = expert m (i 1).val (tile_lt i) :=
  congrArg BitVec.toNat (readWord (tbl m 0) _ (k0_off1_inb i) _ _ (off1_eq i))

/-- Under the windows' side condition every tile's expert is one of the eight. -/
theorem expert_lt {m : (ℓ : Loc nD τ sig) → Buf (Elt F) ℓ} (hO : Ok m) (i : grid0.Coords) : expert m (i 1).val (tile_lt i) < 8 := by
  obtain ⟨h, -⟩ := hO.1 i
  have h0 : (cc0_transform_1 k0_off1_inb numel1_S1 (tbl m) i 0 + 1) * 1 ≤ 8 := h 0
  rw [index1_eq] at h0
  omega

theorem colWord (i : grid0.Coords) : (BitVec.ofNat 32 (i 0).val).toNat = (i 0).val :=
  (by decide +kernel : ∀ n : Fin 7, (BitVec.ofNat 32 n.val).toNat = n.val) ⟨(i 0).val, col_lt i⟩

/-- Conversely the side condition holds where every tile's expert is one of the eight. -/
theorem ok_of_expert_lt (h : ∀ (n : ℕ) (hn : n < 72), expert m n hn < 8) : Ok m := by
  refine ⟨fun i => ⟨fun a => ?_, .inl rfl⟩, fun i => ⟨fun a => ?_, .inl rfl⟩⟩
  · have hi := h (i 1).val (tile_lt i)
    have hc := col_lt i
    match a with
    | ⟨0, _⟩ =>
      show (cc0_transform_1 k0_off1_inb numel1_S1 (tbl m) i 0 + 1) * 1 ≤ 8
      rw [index1_eq]; omega
    | ⟨1, _⟩ => show (0 + 1) * 2048 ≤ 2048; omega
    | ⟨2, _⟩ =>
      show ((BitVec.ofNat 32 (i 0).val).toNat + 1) * 1024 ≤ 7168
      rw [colWord]; omega
  · have hi := h (i 1).val (tile_lt i)
    have hc := col_lt i
    match a with
    | ⟨0, _⟩ =>
      show (cc0_transform_2 k0_off1_inb numel1_S1 (tbl m) i 0 + 1) * 1 ≤ 8
      rw [index2_eq]; omega
    | ⟨1, _⟩ => show (0 + 1) * 2048 ≤ 2048; omega
    | ⟨2, _⟩ =>
      show ((BitVec.ofNat 32 (i 0).val).toNat + 1) * 1024 ≤ 7168
      rw [colWord]; omega

/-- The entry of a weight array that entry `y` of the block of expert `e`, column block `j`, is. -/
abbrev weightAt (e : ℕ) (he : e < 8) (j : ℕ) (hj : j < 7) (y : S1x2048x1024.Idx) : S8x2048x7168.Idx := fun a => match a with
  | ⟨0, _⟩ => ⟨e, he⟩
  | ⟨1, _⟩ => ⟨(y 1).val, (y 1).isLt⟩
  | ⟨2, _⟩ => ⟨j * 1024 + (y 2).val, by have : (y 2).val < 1024 := (y 2).isLt; show _ < 7168; omega⟩

/-! ## The blocks the body reads, entry by entry -/

variable (hO : Ok m) (c : Dev nD) (t : Fin (cfgM m hO).N)

theorem iblk0_apply (y : S512x2048.Idx) : (iblk m hO c 0 t : S512x2048.Idx → Elt F .bf16) y
    = m ((c : Thread nD τ).loc main_arg1) (fun a => match a with
      | ⟨0, _⟩ => ⟨(grid0.coords t 1).val * 512 + (y 0).val, by have := tile_lt (grid0.coords t); have : (y 0).val < 512 := (y 0).isLt; show _ < 36864; omega⟩
      | ⟨1, _⟩ => ⟨(y 1).val, (y 1).isLt⟩) := by
  show V m c main_arg1 _ = _
  unfold V
  congr 1
  funext a
  apply Fin.ext
  have ho := off1_eq (grid0.coords t)
  match a with
  | ⟨0, _⟩ =>
    show (BitVec.ofNat 32 (grid0.coords t 1).val).toNat * 512 + 1 * (y 0).val = (grid0.coords t 1).val * 512 + (y 0).val
    rw [show (BitVec.ofNat 32 (grid0.coords t 1).val).toNat = (grid0.coords t 1).val from ho]; omega
  | ⟨1, _⟩ => show 0 * 2048 + 1 * (y 1).val = (y 1).val; omega

theorem iblk1_apply (y : S1x2048x1024.Idx) : (iblk m hO c 1 t : S1x2048x1024.Idx → Elt F .f32) y
    = m ((c : Thread nD τ).loc main_arg2) (weightAt (expert m (grid0.coords t 1).val (tile_lt _)) (expert_lt hO (grid0.coords t)) (grid0.coords t 0).val (col_lt _) y) := by
  show V m c main_arg2 _ = _
  unfold V
  congr 1
  funext a
  apply Fin.ext
  match a with
  | ⟨0, _⟩ =>
    show cc0_transform_1 k0_off1_inb numel1_S1 (tbl m) (grid0.coords t) 0 * 1 + 1 * (y 0).val = expert m (grid0.coords t 1).val (tile_lt _)
    rw [index1_eq]
    have : (y 0).val < 1 := (y 0).isLt
    omega
  | ⟨1, _⟩ => show 0 * 2048 + 1 * (y 1).val = (y 1).val; omega
  | ⟨2, _⟩ =>
    show (BitVec.ofNat 32 (grid0.coords t 0).val).toNat * 1024 + 1 * (y 2).val = (grid0.coords t 0).val * 1024 + (y 2).val
    rw [show (BitVec.ofNat 32 (grid0.coords t 0).val).toNat = (grid0.coords t 0).val from colWord _]; omega

theorem iblk2_apply (y : S1x2048x1024.Idx) : (iblk m hO c 2 t : S1x2048x1024.Idx → Elt F .f32) y
    = m ((c : Thread nD τ).loc main_arg3) (weightAt (expert m (grid0.coords t 1).val (tile_lt _)) (expert_lt hO (grid0.coords t)) (grid0.coords t 0).val (col_lt _) y) := by
  show V m c main_arg3 _ = _
  unfold V
  congr 1
  funext a
  apply Fin.ext
  match a with
  | ⟨0, _⟩ =>
    show cc0_transform_2 k0_off1_inb numel1_S1 (tbl m) (grid0.coords t) 0 * 1 + 1 * (y 0).val = expert m (grid0.coords t 1).val (tile_lt _)
    rw [index2_eq]
    have : (y 0).val < 1 := (y 0).isLt
    omega
  | ⟨1, _⟩ => show 0 * 2048 + 1 * (y 1).val = (y 1).val; omega
  | ⟨2, _⟩ =>
    show (BitVec.ofNat 32 (grid0.coords t 0).val).toNat * 1024 + 1 * (y 2).val = (grid0.coords t 0).val * 1024 + (y 2).val
    rw [show (BitVec.ofNat 32 (grid0.coords t 0).val).toNat = (grid0.coords t 0).val from colWord _]; omega

end Cert.KernelIdeal.Gu

end
-- ==== Proof.Gu.Frame.lean ====
/- The frame of the expert gate/up call with its values: what each point leaves in the output block, what the two scratch
   buffers hold between points, the body's obligation at a point and the run. -/
module

public import proofs.«01_k».proof.Proof.Gu.Words
public import Idealize.ShloMosaic.Lib.Claim

@[expose] public section

set_option maxRecDepth 16384

noncomputable section

namespace Cert.KernelIdeal.Gu

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the points leave -/

/-- The number of used tiles, as the table's last word. -/
abbrev bound (m : (ℓ : Loc nD τ sig) → Buf (Elt F) ℓ) : BitVec 32 := wd (tbl m 0) 72 (by omega)

/-- The output block at a point: the gated product of the tile with its expert's rounded weights, or zeros. -/
def outAt (hO : Ok m) (c : Dev nD) (t : Fin (cfgM m hO).N) : Vec F S512x1024 .bf16 :=
  if Used (grid0.coords t 1).val (bound m) then k0_pay3 (iblk m hO c 0 t) (k0_pay1 (iblk m hO c 1 t)) (k0_pay2 (iblk m hO c 2 t)) else k0_pay4

/-- What is known of the scratch buffers before point `n`: where the point before was a used tile, they hold that tile's
    rounded weights. -/
def Held (hO : Ok m) (c : Dev nD) (n : ℕ) (d7 d8 : Vec F S2048x1024 .bf16) : Prop :=
  ∀ t : Fin (cfgM m hO).N, t.val + 1 = n → Used (grid0.coords t 1).val (bound m) → d7 = k0_pay1 (iblk m hO c 1 t) ∧ d8 = k0_pay2 (iblk m hO c 2 t)

/-- The invariant between points: the scratch buffers as `Held` says, the generator register and the table. -/
def inv (hO : Ok m) (c : Dev nD) (n : ℕ) : sProp 𝕄 :=
  iprop(iprop((∃ d7, ∃ d8, ⌜Held m hO c n d7 d8⌝ ∗ owns (c : Thread nD τ) scM0_0 fullShare d7 ∗ owns (c : Thread nD τ) scM0_1 fullShare d8) ∗ (∃ r, prngReg c r)) ∗ tbPt0 c tbM0_0 (tbl m 0))

theorem weightAt_congr {e e' j j' : ℕ} (he : e < 8) (he' : e' < 8) (hj : j < 7) (hj' : j' < 7) (y : S1x2048x1024.Idx) (h1 : e = e') (h2 : j = j') :
    weightAt e he j hj y = weightAt e' he' j' hj' y := by
  subst h1 h2; rfl

/-- A later tile of a run follows a used tile with the same weights. -/
theorem weights_before (hO : Ok m) (c : Dev nD) (t : Fin (cfgM m hO).N) (hu : Used (grid0.coords t 1).val (bound m))
    (h1 : (grid0.coords t 1).val ≠ 0) (hw : wordAt c (grid0.coords t) (tbl m 0) = wordBefore c (grid0.coords t) (tbl m 0)) :
    ∃ t' : Fin (cfgM m hO).N, t'.val + 1 = t.val ∧ Used (grid0.coords t' 1).val (bound m)
      ∧ iblk m hO c 1 t' = iblk m hO c 1 t ∧ iblk m hO c 2 t' = iblk m hO c 2 t := by
  obtain ⟨e0, e1⟩ := coords_eq t
  have ht : 0 < t.val := by omega
  have hN : t.val < (cfgM m hO).N := t.isLt
  let t' : Fin (cfgM m hO).N := ⟨t.val - 1, by omega⟩
  obtain ⟨e0', e1'⟩ := coords_eq t'
  have hv : t'.val = t.val - 1 := rfl
  have hc0 : (grid0.coords t' 0).val = (grid0.coords t 0).val := by omega
  have hc1 : (grid0.coords t' 1).val = (grid0.coords t 1).val - 1 := by omega
  have hex : expert m (grid0.coords t' 1).val (tile_lt _) = expert m (grid0.coords t 1).val (tile_lt _) := by
    have hw' := (wordAt_eq c (grid0.coords t) (tbl m 0)).symm.trans (hw.trans (wordBefore_eq c (grid0.coords t) (tbl m 0)))
    unfold expert
    simp only [hc1]
    exact congrArg BitVec.toNat hw'.symm
  refine ⟨t', by omega, ?_, ?_, ?_⟩
  · unfold Used at hu ⊢; omega
  · refine funext fun y => ?_
    refine (iblk1_apply m hO c t' y).trans (Eq.trans ?_ (iblk1_apply m hO c t y).symm)
    exact congrArg _ (weightAt_congr _ _ _ _ y hex hc0)
  · refine funext fun y => ?_
    refine (iblk2_apply m hO c t' y).trans (Eq.trans ?_ (iblk2_apply m hO c t y).symm)
    exact congrArg _ (weightAt_congr _ _ _ _ y hex hc0)

/-! ## The pipeline's proof data -/

/-- The proof data of the pipeline on core `c`: the arrays as the region finds them, each input's buffer at its block, the
    output's at `outAt`, the invariant `inv`. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => outAt m hO c t
  Φ t := inv m hO c t.val
  q _ := fullShare
  owed _ := 0

theorem A_eq (hO : Ok m) (c : Dev nD) (w : Fin (cfgM m hO).W) : (dats m hO 0 c).A w = V m c (Pipeline.arrRef spec0 w) := by
  dsimp only [dats]

theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = outAt m hO c t := by dsimp only [dats]; try rfl

theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d

theorem Phi_eq (hO : Ok m) (c : Dev nD) (t : Fin ((cfgM m hO).N + 1)) : (dats m hO 0 c).Φ t = inv m hO c t.val := by dsimp only [dats]

/-! ## The body's obligation -/

/-- What the body is called with at point `t`, -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d)))

/-- and what it returns. -/
def bodyPost (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t))

/-- What the buffers hold after a used tile is what `Held` asks before the next point. -/
theorem held_succ (hO : Ok m) (c : Dev nD) (t : Fin (cfgM m hO).N) : Held m hO c (t.val + 1) (k0_pay1 (iblk m hO c 1 t)) (k0_pay2 (iblk m hO c 2 t)) := by
  intro t' ht' _
  obtain rfl : t' = t := Fin.ext (by omega)
  exact ⟨rfl, rfl⟩

/-- After an unused tile nothing is asked. -/
theorem held_unused (hO : Ok m) (c : Dev nD) (t : Fin (cfgM m hO).N) (h : ¬Used (grid0.coords t 1).val (bound m)) (d7 d8 : Vec F S2048x1024 .bf16) :
    Held m hO c (t.val + 1) d7 d8 := by
  intro t' ht' hu
  obtain rfl : t' = t := Fin.ext (by omega)
  exact absurd hu h

set_option maxHeartbeats 1600000 in
/-- The body at any point, by its three cases. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2]
  rw [show (dats m hO 0 c).owesAt () t.succ = (dats m hO 0 c).owesAt () t.castSucc from rfl,
    after0_0, after0_1, after0_2, after0_3]
  rw [Phi_eq, Phi_eq, Fin.val_castSucc, Fin.val_succ]
  unfold inv
  have w0 : word0 c (tbl m 0) = bound m := word0_eq c (tbl m 0)
  by_cases hu : Used (grid0.coords t 1).val (bound m)
  · have h2 : k0_cond2 (grid0.coords t) (word0 c (tbl m 0)) = 1#1 := (cond2_iff _ _).2 (w0 ▸ hu)
    have h3 : ¬k0_cond3 (grid0.coords t) (word0 c (tbl m 0)) = 1#1 := fun h => (cond3_iff _ _).1 h (w0 ▸ hu)
    rw [show outAt m hO c t = k0_pay3 (iblk m hO c 0 t) (k0_pay1 (iblk m hO c 1 t)) (k0_pay2 (iblk m hO c 2 t)) from if_pos hu]
    by_cases h0 : cond0_0 (grid0.coords t) (word0 c (tbl m 0)) (wordAt c (grid0.coords t) (tbl m 0)) (wordBefore c (grid0.coords t) (tbl m 0))
    · iintro ⟨⟨⟨⟨%d7, %d8, %hd, HS0, HS1⟩, Hg⟩, HT0⟩, Ho, ⟨%d0, H0⟩, ⟨%d1, H1⟩, ⟨%d2, H2⟩, ⟨%d3, H3⟩⟩
      iapply (body_first c (grid0.coords t) _ _ _ _ _ _ _ _ _ _ _ _ (iblk m hO c 0 t) (iblk m hO c 1 t) (iblk m hO c 2 t) d7 d8 (tbl m 0) h0 h2 h3 Set.univ _)
      isplitl [H0]; · iexact H0
      isplitl [H1]; · iexact H1
      isplitl [H2]; · iexact H2
      isplitl [H3]; · iexists _; iexact H3
      isplitl [HS0]; · iexact HS0
      isplitl [HS1]; · iexact HS1
      isplitl [HT0]; · iexact HT0
      iintro ⟨H0, H1, H2, H3, HS0, HS1, HT0⟩
      isplitl [HS0 HS1 Hg HT0]
      · isplitl [HS0 HS1 Hg]
        · isplitl [HS0 HS1]
          · iexists (k0_pay1 (iblk m hO c 1 t)), (k0_pay2 (iblk m hO c 2 t))
            isplitr; · ipureintro; exact held_succ m hO c t
            isplitl [HS0]; · iexact HS0
            iexact HS1
          iexact Hg
        iexact HT0
      isplitl [Ho]; · iexact Ho
      isplitl [H0]; · iexact H0
      isplitl [H1]; · iexact H1
      isplitl [H2]; · iexact H2
      iexact H3
    · have hn : (grid0.coords t 1).val ≠ 0 := fun h => h0 ((cond0_iff _ _ _ _).2 ⟨w0 ▸ hu, .inl h⟩)
      have hw : wordAt c (grid0.coords t) (tbl m 0) = wordBefore c (grid0.coords t) (tbl m 0) :=
        by_contra fun h => h0 ((cond0_iff _ _ _ _).2 ⟨w0 ▸ hu, .inr h⟩)
      obtain ⟨t', ht', hu', e1, e2⟩ := weights_before m hO c t hu hn hw
      iintro ⟨⟨⟨⟨%d7, %d8, %hd, HS0, HS1⟩, Hg⟩, HT0⟩, Ho, ⟨%d0, H0⟩, ⟨%d1, H1⟩, ⟨%d2, H2⟩, ⟨%d3, H3⟩⟩
      obtain ⟨r7, r8⟩ := hd t' ht' hu'
      rw [e1] at r7
      rw [e2] at r8
      subst r7 r8
      iapply (body_later c (grid0.coords t) _ _ _ _ _ _ _ _ _ _ _ _ (iblk m hO c 0 t) (iblk m hO c 1 t) (iblk m hO c 2 t) (k0_pay1 (iblk m hO c 1 t)) (k0_pay2 (iblk m hO c 2 t)) (tbl m 0) h0 h2 h3 Set.univ _)
      isplitl [H0]; · iexact H0
      isplitl [H1]; · iexact H1
      isplitl [H2]; · iexact H2
      isplitl [H3]; · iexists _; iexact H3
      isplitl [HS0]; · iexact HS0
      isplitl [HS1]; · iexact HS1
      isplitl [HT0]; · iexact HT0
      iintro ⟨H0, H1, H2, H3, HS0, HS1, HT0⟩
      isplitl [HS0 HS1 Hg HT0]
      · isplitl [HS0 HS1 Hg]
        · isplitl [HS0 HS1]
          · iexists (k0_pay1 (iblk m hO c 1 t)), (k0_pay2 (iblk m hO c 2 t))
            isplitr; · ipureintro; exact held_succ m hO c t
            isplitl [HS0]; · iexact HS0
            iexact HS1
          iexact Hg
        iexact HT0
      isplitl [Ho]; · iexact Ho
      isplitl [H0]; · iexact H0
      isplitl [H1]; · iexact H1
      isplitl [H2]; · iexact H2
      iexact H3
  · have h2 : ¬k0_cond2 (grid0.coords t) (word0 c (tbl m 0)) = 1#1 := fun h => hu (w0 ▸ (cond2_iff _ _).1 h)
    have h3 : k0_cond3 (grid0.coords t) (word0 c (tbl m 0)) = 1#1 := (cond3_iff _ _).2 (w0.symm ▸ hu)
    have h0 : ¬cond0_0 (grid0.coords t) (word0 c (tbl m 0)) (wordAt c (grid0.coords t) (tbl m 0)) (wordBefore c (grid0.coords t) (tbl m 0)) :=
      fun h => hu (w0 ▸ ((cond0_iff _ _ _ _).1 h).1)
    rw [show outAt m hO c t = k0_pay4 from if_neg hu]
    iintro ⟨⟨⟨⟨%d7, %d8, %hd, HS0, HS1⟩, Hg⟩, HT0⟩, Ho, ⟨%d0, H0⟩, ⟨%d1, H1⟩, ⟨%d2, H2⟩, ⟨%d3, H3⟩⟩
    iapply (body_unused c (grid0.coords t) _ _ _ _ _ _ _ _ _ _ _ _ (iblk m hO c 0 t) (iblk m hO c 1 t) (iblk m hO c 2 t) d7 d8 (tbl m 0) h0 h2 h3 Set.univ _)
    isplitl [H0]; · iexact H0
    isplitl [H1]; · iexact H1
    isplitl [H2]; · iexact H2
    isplitl [H3]; · iexists _; iexact H3
    isplitl [HS0]; · iexact HS0
    isplitl [HS1]; · iexact HS1
    isplitl [HT0]; · iexact HT0
    iintro ⟨H0, H1, H2, H3, HS0, HS1, HT0⟩
    isplitl [HS0 HS1 Hg HT0]
    · isplitl [HS0 HS1 Hg]
      · isplitl [HS0 HS1]
        · iexists d7, d8
          isplitr; · ipureintro; exact held_unused m hO c t hu _ _
          isplitl [HS0]; · iexact HS0
          iexact HS1
        iexact Hg
      iexact HT0
    isplitl [Ho]; · iexact Ho
    isplitl [H0]; · iexact H0
    isplitl [H1]; · iexact H1
    isplitl [H2]; · iexact H2
    iexact H3

end Cert.KernelIdeal.Gu

end
-- ==== Proof.Gu.Run.lean ====
/- The launch of the expert gate/up call: the body's obligation at every point and the run. -/
module

public import proofs.«01_k».proof.Proof.Gu.Frame

@[expose] public section

set_option maxRecDepth 16384

noncomputable section

namespace Cert.KernelIdeal.Gu

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body table's row at point `t`'s slots is the body at that point. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The output window is stored at every point: one of its two stores always runs. -/
theorem busy (hO : Ok m) (i : grid0.Coords) : (cfgM m hO).idle 3 i = false := by
  show (!(k0_cond2 i ((tbl m).atD 0 ![72]) == 1#1) && !(k0_cond3 i ((tbl m).atD 0 ![72]) == 1#1)) = false
  by_cases hu : Used (i 1).val ((tbl m).atD 0 ![72])
  · rw [(cond2_iff _ _).2 hu]; rfl
  · rw [(cond3_iff _ _).2 hu]; simp

/-- A choice on a bit known false takes its second branch. -/
theorem of_busy {A B : sProp 𝕄} : ∀ {b : Bool}, b = false → (B ⊢ (match b with | true => A | false => B)) := by
  rintro _ rfl; exact .rfl

theorem body_obligation (hO : Ok m) (c : Dev nD) : BodyObligation (dats (F := F) m hO 0 c) (defs₀ (F := F)) Variants.none () Set.univ := fun t => by
  rw [bigSep_W0, bigSep_W0, defs₀_row m hO]
  refine triple_restated (sound_body m hO c t) rfl .rfl fun _ => ?_
  exact sep_mono .rfl (sep_mono .rfl (sep_mono .rfl (sep_mono .rfl (sep_mono .rfl (of_busy (busy m hO _))))))

/-! ## The run -/

theorem inv_start (hO : Ok m) (c : Dev nD) : iprop(Pipeline.ΦA spec0 c ∗ Pipeline.ΦT pre0 (tbl m) c) ⊢ inv m hO c 0 := by
  rw [PhiT0_eq, PhiA0_eq]
  unfold inv
  iintro ⟨⟨⟨⟨%d7, HS0⟩, ⟨%d8, HS1⟩⟩, Hg⟩, HT0⟩
  isplitl [HS0 HS1 Hg]
  · isplitl [HS0 HS1]
    · iexists d7, d8
      isplitr; · ipureintro; intro t ht; exact absurd ht (Nat.succ_ne_zero _)
      isplitl [HS0]; · iexact HS0
      iexact HS1
    iexact Hg
  iexact HT0

theorem inv_end (hO : Ok m) (c : Dev nD) (n : ℕ) : inv m hO c n ⊢ (Pipeline.ΦA spec0 c : sProp 𝕄) := by
  rw [PhiA0_eq]
  unfold inv
  iintro ⟨⟨⟨%d7, %d8, %hd, HS0, HS1⟩, Hg⟩, HT0⟩
  isplitl [HS0 HS1]
  · isplitl [HS0]
    · iexists d7; iexact HS0
    iexists d8; iexact HS1
  iexact Hg

set_option backward.isDefEq.respectTransparency.types false in
/-- The launch: every execution terminates with the arrays as the proof data says and every semaphore counter at zero. -/
theorem run_main_quiescent (hO : Ok m) : θ_run defs (onTc (τ := τ) (main (F := F))) (s₀ m ρ)
    (fun r => Pipeline.FramePost (Pipeline.pin pcfgs fun _ => adm m hO) (dats m hO) 0 (V m) r ∧ r.2.sem = fun _ => 0) :=
  Pipeline.θ_run_frameP_track (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m)
    (hin := fun c => inv_start m hO c) (hout := fun c => inv_end m hO c _)

end Cert.KernelIdeal.Gu

end
-- ==== Proof.Gu.Result.lean ====
/- The output array of the expert gate/up call after the run: at each entry what the point that writes its block left there. -/
module

public import proofs.«01_k».proof.Proof.Gu.Run
public import Idealize.ShloMosaic.Lib.Pipeline.Value
public import Idealize.ShloMosaic.Lib.Pipeline.Cells

@[expose] public section

set_option maxRecDepth 16384

noncomputable section

namespace Cert.KernelIdeal.Gu

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The point that writes the block of entry `i` back, -/
def pointOf (i : S36864x7168.Idx) : Fin grid0.N :=
  ⟨(i 1).val / 1024 * 72 + (i 0).val / 512, by
    rw [N_0]; have h0 : (i 0).val < 36864 := (i 0).isLt; have h1 : (i 1).val < 7168 := (i 1).isLt; omega⟩

/-- and the entry's place in the block. -/
def placeIn (i : S36864x7168.Idx) : S512x1024.Idx := fun a => match a with
  | ⟨0, _⟩ => ⟨(i 0).val % 512, Nat.mod_lt _ (by decide)⟩
  | ⟨1, _⟩ => ⟨(i 1).val % 1024, Nat.mod_lt _ (by decide)⟩

/-- The array the run leaves. -/
def result (hO : Ok m) (c : Dev nD) : Buf (Elt F) ((c : Thread nD τ).loc main_v0) := fun i => outAt m hO c (pointOf i) (placeIn i)

/-- The block indices of the output window. -/
theorem index3 (i : grid0.Coords) : cc0_transform_3 i 0 = (i 1).val ∧ cc0_transform_3 i 1 = (i 0).val :=
  ⟨off1_eq i, colWord i⟩

/-- What a point writes back is its block of `result`. -/
theorem flushed_eq (hO : Ok m) (c : Dev nD) (t : Fin (cfgM m hO).N) :
    (dats m hO 0 c).flushed 3 t = (((cfgM m hO).win 3).blk t).view.read (Elt F) (result m hO c) := by
  show ((cfgM m hO).win 3).cut (grid0.coords t) ((dats m hO 0 c).after 3 t) = _
  rw [after0_3]
  obtain ⟨e0, e1⟩ := coords_eq t
  obtain ⟨f0, f1⟩ := index3 (grid0.coords t)
  refine funext fun (y : S512x1024.Idx) => ?_
  have hy0 : (y 0).val < 512 := (y 0).isLt
  have hy1 : (y 1).val < 1024 := (y 1).isLt
  obtain ⟨e, he⟩ : ∃ e : S36864x7168.Idx, e = (((cfgM m hO).win 3).blk t).view.emb y := ⟨_, rfl⟩
  have hb0 : (e 0).val = cc0_transform_3 (grid0.coords t) 0 * 512 + 1 * (y 0).val := by rw [he]; rfl
  have hb1 : (e 1).val = cc0_transform_3 (grid0.coords t) 1 * 1024 + 1 * (y 1).val := by rw [he]; rfl
  rw [f0, e1] at hb0
  rw [f1, e0] at hb1
  have ht : t.val < 504 := lt_of_lt_of_eq t.isLt N_0
  have hp : pointOf e = t := by
    apply Fin.ext
    show (e 1).val / 1024 * 72 + (e 0).val / 512 = t.val
    rw [hb0, hb1]
    omega
  have hl : placeIn e = y := by
    funext a; apply Fin.ext
    match a with
    | ⟨0, _⟩ => show (e 0).val % 512 = (y 0).val; rw [hb0]; omega
    | ⟨1, _⟩ => show (e 1).val % 1024 = (y 1).val; rw [hb1]; omega
  have hr : result m hO c e = outAt m hO c t y := by
    unfold result
    rw [hp, hl]
  rw [he] at hr
  exact hr.symm

/-- An entry of a rectangle of the result array is in the view of that rectangle. -/
theorem mem_slice (R : Rect S36864x7168) (i : S36864x7168.Idx) (h : i ∈ R.set) : i ∈ ((View.whole main_v0).slice R).set := by
  rw [View.set_slice_whole]; exact h

/-- Every entry is in the block of the point that writes it. -/
theorem covered (hO : Ok m) (i : S36864x7168.Idx) : i ∈ (((cfgM m hO).win 3).blk (pointOf i)).view.set := by
  refine mem_slice (((cfgM m hO).win 3).rect (pointOf i)) i ?_
  obtain ⟨e0, e1⟩ := coords_eq (pointOf i)
  obtain ⟨f0, f1⟩ := index3 (grid0.coords (pointOf i))
  have hv : (pointOf i).val = (i 1).val / 1024 * 72 + (i 0).val / 512 := rfl
  have h0 : (i 0).val < 36864 := (i 0).isLt
  have h1 : (i 1).val < 7168 := (i 1).isLt
  refine (LoadRect.mem_set _).2 fun a => ?_
  match a with
  | ⟨0, _⟩ =>
    refine ⟨(i 0).val % 512, Nat.mod_lt _ (by decide), ?_⟩
    show (i 0).val = cc0_transform_3 (grid0.coords (pointOf i)) 0 * 512 + 1 * ((i 0).val % 512)
    rw [f0, e1]; omega
  | ⟨1, _⟩ =>
    refine ⟨(i 1).val % 1024, Nat.mod_lt _ (by decide), ?_⟩
    show (i 1).val = cc0_transform_3 (grid0.coords (pointOf i)) 1 * 1024 + 1 * ((i 1).val % 1024)
    rw [f1, e0]; omega

/-- The output window is written back at every point: each has a block of its own. -/
theorem final (hO : Ok m) (c : Dev nD) : (dats m hO 0 c).arrAt 3 (cfgM m hO).N = result m hO c :=
  (dats m hO 0 c).arrAt_eq_of_cover 3 _ (fun t _ => flushed_eq m hO c t) (fun i => ⟨pointOf i, flush0_3 (adm m hO) _, covered m hO i⟩)

/-- The run, read: the result array at `result`, the arguments as launched, the counters at zero. -/
theorem run (hO : Ok m) : θ_run defs (onTc (τ := τ) (main (F := F))) ⟨m, fun _ => 0, ρ⟩ fun r => (∀ c : Dev nD,
      r.2.mem ((c.tc : Thread nD τ).loc main_v0) = result m hO c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0 :=
  (θ_run defs _ _).mono (fun r h => ⟨fun c => ⟨((h.1 c).1 3).trans (final m hO c),
      ((h.1 c).2 main_arg0 (by decide : main_arg0 ∈ Pipeline.restRefs sig spec0)).trans (V_main_arg0 m c),
      ((h.1 c).1 0).trans (((dats m hO 0 c).arrAt_in 0 rfl _).trans ((A_eq m hO c 0).trans (V_main_arg1 m c))),
      ((h.1 c).1 1).trans (((dats m hO 0 c).arrAt_in 1 rfl _).trans ((A_eq m hO c 1).trans (V_main_arg2 m c))),
      ((h.1 c).1 2).trans (((dats m hO 0 c).arrAt_in 2 rfl _).trans ((A_eq m hO c 2).trans (V_main_arg3 m c)))⟩, h.2⟩)
    (run_main_quiescent m ρ hO)

end Cert.KernelIdeal.Gu

end
-- ==== Proof.Experts.Spec.lean ====
/- What the expert layer computes for a row of the grouped tokens, as sums over the extended reals: both programs of each claim are
   shown to leave it. -/
module

public import Idealize.ShloMosaic.Lib.Pointwise
public import Idealize.ShloMosaic.PureOps.Ideal

@[expose] public section

set_option maxRecDepth 16384

noncomputable section

namespace Cert.Experts

open Idealize.ShloMosaic

/-- Entry `(r, j)` of the product of the grouped rows with the weights of expert `e`. -/
def prodAt {K M : ℕ} (x : (⟨2, ![36864, K]⟩ : Shape).Idx → EReal) (w : (⟨3, ![8, K, M]⟩ : Shape).Idx → EReal)
    (e : Fin 8) (r : Fin 36864) (j : Fin M) : EReal :=
  ∑ k : Fin K, x (ix2 r k) * w (ix3 e k j)

/-- The tile of 512 rows that row `r` lies in. -/
abbrev tile (r : Fin 36864) : Fin 72 := ⟨r.val / 512, by omega⟩

/-- Tile `n` is in use: the table's last word counts more tiles. -/
def InUse (tab : (⟨1, ![73]⟩ : Shape).Idx → BitVec 32) (n : Fin 72) : Prop :=
  (n.val : ℤ) < (tab (ix1 72)).toInt

instance (tab : (⟨1, ![73]⟩ : Shape).Idx → BitVec 32) (n : Fin 72) : Decidable (InUse tab n) := inferInstanceAs (Decidable (_ < _))

/-- The table's word of tile `n`: the number of the tile's expert. -/
abbrev word (tab : (⟨1, ![73]⟩ : Shape).Idx → BitVec 32) (n : Fin 72) : BitVec 32 := tab (ix1 n.castSucc)

/-- The gate of expert `e` for row `r`: one when `e` is the expert of the row's tile and the tile is in use, else zero. -/
def gate (tab : (⟨1, ![73]⟩ : Shape).Idx → BitVec 32) (e : ℕ) (r : Fin 36864) : EReal :=
  if InUse tab (tile r) then (if word tab (tile r) = BitVec.ofNat 32 e then 1 else 0) else 0

/-- The select of a converted one-bit word, by its two conditions. -/
theorem select_bit (p q : Bool) :
    Scalar.select (BitVec.ofBool p) (FloatOps.uitofp (F := Ideal) .f32 (BitVec.ofBool q) : EReal) 0 = if p then (if q then 1 else 0) else 0 := by
  have h0 : (FloatOps.uitofp (F := Ideal) .f32 0#1 : EReal) = 0 := by show (((0#1 : BitVec 1).toNat : ℝ) : EReal) = 0; simp
  have h1 : (FloatOps.uitofp (F := Ideal) .f32 1#1 : EReal) = 1 := by show (((1#1 : BitVec 1).toNat : ℝ) : EReal) = 1; simp
  cases p <;> cases q <;> simp [Scalar.select, h0, h1]

/-- The gate as the reference computes it: the comparison of two words, converted, where the tile's number is below the last word. -/
theorem gate_eq (tab : (⟨1, ![73]⟩ : Shape).Idx → BitVec 32) (e : ℕ) (r : Fin 36864) :
    Scalar.select (IntOp.cmpi .slt (BitVec.ofNat 32 (r.val / 512)) (tab (ix1 72)))
      (FloatOps.uitofp (F := Ideal) .f32 (IntOp.cmpi .eq (word tab (tile r)) (BitVec.ofNat 32 e)) : EReal) 0 = gate tab e r := by
  have hs : (BitVec.ofNat 32 (r.val / 512)).toInt = (r.val / 512 : ℕ) := by
    rw [BitVec.toInt_ofNat']; simp only [Int.bmod]; omega
  have h := select_bit ((BitVec.ofNat 32 (r.val / 512)).slt (tab (ix1 72))) (word tab (tile r) == BitVec.ofNat 32 e)
  refine h.trans ?_
  unfold gate InUse
  rw [BitVec.slt, hs]
  simp only [decide_eq_true_eq, beq_iff_eq]
  congr

/-- The gated sum over the experts, in the order the reference adds it up. -/
def gated (g f : Fin 8 → EReal) : EReal :=
  0 + g 0 * f 0 + g 1 * f 1 + g 2 * f 2 + g 3 * f 3 + g 4 * f 4 + g 5 * f 5 + g 6 * f 6 + g 7 * f 7

/-- With the gates of one row the sum is its expert's term, or zero where the tile is not in use. -/
theorem gated_eq (tab : (⟨1, ![73]⟩ : Shape).Idx → BitVec 32) (r : Fin 36864) (e : Fin 8) (he : (word tab (tile r)).toNat = e.val) (f : Fin 8 → EReal) :
    gated (fun a => gate tab a.val r) f = if InUse tab (tile r) then f e else 0 := by
  have hw : word tab (tile r) = BitVec.ofNat 32 e.val := by
    apply BitVec.eq_of_toNat_eq; rw [he, BitVec.toNat_ofNat]; omega
  by_cases hu : InUse tab (tile r)
  · simp only [gated, gate, hu, if_true, hw]
    fin_cases e <;> simp
  · simp only [gated, gate, hu, if_false]
    simp

/-- The hidden entry: SiLU of the gate product times the up product. -/
def swiglu (g u : EReal) : EReal := g * Ideal.logistic g * u

/-- The sum of two arrays at an index. -/
theorem add_at {s : Shape} (a b : FVec Ideal s .f32) (j : s.Idx) {x y : EReal} (ha : a j = x) (hb : b j = y) : addf a b j = x + y := by
  subst ha; subst hb; rfl

/-- The product of two arrays at an index. -/
theorem mul_at {s : Shape} (a b : FVec Ideal s .f32) (j : s.Idx) {x y : EReal} (ha : a j = x) (hb : b j = y) : mulf a b j = x * y := by
  subst ha; subst hb; rfl

end Cert.Experts
-- ==== Proof.Gu.Value.lean ====
/- What the expert gate/up call leaves, entry by entry, over the extended reals. -/
module

public import proofs.«01_k».proof.Proof.Gu.Result
public import proofs.«01_k».proof.Proof.Experts.Spec
public import Idealize.ShloMosaic.Lib.Pointwise

@[expose] public section

set_option maxRecDepth 16384

noncomputable section

namespace Cert.KernelIdeal.Gu

open Cert.KernelIdeal.Gen Cert.Experts
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- The stored gate weights are the block's. -/
theorem pay1_apply (w : Vec Ideal S1x2048x1024 .f32) (j0 : Fin 2048) (j1 : Fin 1024) : k0_pay1 (F := Ideal) w (ix2 j0 j1) = w (ix3 0 j0 j1) := by
  pointwise [k0_pay1]

/-- The stored up weights are the block's. -/
theorem pay2_apply (w : Vec Ideal S1x2048x1024 .f32) (j0 : Fin 2048) (j1 : Fin 1024) : k0_pay2 (F := Ideal) w (ix2 j0 j1) = w (ix3 0 j0 j1) := by
  pointwise [k0_pay2]

/-- What a point in use stores. -/
theorem pay3_apply (x : Vec Ideal S512x2048 .bf16) (g u : Vec Ideal S2048x1024 .bf16) (j0 : Fin 512) (j1 : Fin 1024) :
    k0_pay3 (F := Ideal) x g u (ix2 j0 j1) = swiglu (∑ k : Fin 2048, x (ix2 j0 k) * g (ix2 k j1)) (∑ k : Fin 2048, x (ix2 j0 k) * u (ix2 k j1)) := by
  pointwise [k0_pay3, swiglu]

/-- What any other point stores. -/
theorem pay4_apply (j : S512x1024.Idx) : k0_pay4 (F := Ideal) j = (0 : EReal) := by
  pointwise [k0_pay4]

section

variable {F : FTy → Type} [FloatOps F] (m : (ℓ : Loc nD τ sig) → Buf (Elt F) ℓ) (c : Dev nD)

/-- The table's words as the two programs' arguments name them. -/
theorem word_eq (n : ℕ) (h : n < 72) : (wd (tbl m 0) n (by omega) : BitVec 32) = word (m ((c : Thread nD τ).loc main_arg0)) ⟨n, h⟩ := by
  obtain rfl : c = 0 := Subsingleton.elim _ _
  show m _ _ = m _ _
  congr 1
  funext a
  obtain rfl : a = 0 := Subsingleton.elim _ _
  rfl

/-- The table's last word likewise. -/
theorem last_eq : (bound m : BitVec 32) = (m ((c : Thread nD τ).loc main_arg0) : S73.Idx → BitVec 32) (ix1 72) := by
  obtain rfl : c = 0 := Subsingleton.elim _ _
  show m _ _ = m _ _
  congr 1
  funext a
  obtain rfl : a = 0 := Subsingleton.elim _ _
  rfl

end

variable (m : (ℓ : Loc nD τ sig) → Buf (Elt Ideal) ℓ) (hO : Ok m) (c : Dev nD)

/-- The point that writes entry `i`: its column block and its tile. -/
theorem coords_pointOf (i : S36864x7168.Idx) :
    (grid0.coords (pointOf i) 1).val = (i 0).val / 512 ∧ (grid0.coords (pointOf i) 0).val = (i 1).val / 1024 := by
  have h0 : (i 0).val < 36864 := (i 0).isLt
  have h1 : (i 1).val < 7168 := (i 1).isLt
  obtain ⟨ha, hb⟩ := coords_eq (pointOf i)
  rw [ha, hb]
  show ((i 1).val / 1024 * 72 + (i 0).val / 512) % 72 = _ ∧ ((i 1).val / 1024 * 72 + (i 0).val / 512) / 72 = _
  omega

/-- Entry `(r, k)` of the block of rows that the point of entry `i` reads. -/
theorem rows_apply (i : S36864x7168.Idx) (j0 : Fin 36864) (hi : (i 0).val = j0.val) (k : Fin 2048) :
    (iblk m hO c 0 (pointOf i) : S512x2048.Idx → EReal) (ix2 ⟨j0.val % 512, Nat.mod_lt _ (by omega)⟩ k)
    = (m ((c : Thread nD τ).loc main_arg1) : S36864x2048.Idx → EReal) (ix2 j0 k) := by
  obtain ⟨h1, h0⟩ := coords_pointOf i
  refine (iblk0_apply m hO c (pointOf i) _).trans (congrArg (m ((c : Thread nD τ).loc main_arg1) : S36864x2048.Idx → EReal) ?_)
  funext a
  apply Fin.ext
  match a with
  | ⟨0, _⟩ =>
    show (grid0.coords (pointOf i) 1).val * 512 + j0.val % 512 = j0.val
    rw [h1, hi]; omega
  | ⟨1, _⟩ => rfl

/-- The place in a weight array of the block entry `(k, r)` that the point of entry `i` reads. -/
theorem weight_place (i : S36864x7168.Idx) (j0 : Fin 36864) (j1 : Fin 7168) (hi0 : (i 0).val = j0.val) (hi1 : (i 1).val = j1.val) (e : Fin 8)
    (he : (word (m ((c : Thread nD τ).loc main_arg0)) (tile j0)).toNat = e.val) (k : Fin 2048) :
    weightAt (expert m (grid0.coords (pointOf i) 1).val (tile_lt _)) (expert_lt hO (grid0.coords (pointOf i))) (grid0.coords (pointOf i) 0).val (col_lt _)
      (ix3 0 k ⟨j1.val % 1024, Nat.mod_lt _ (by omega)⟩) = ix3 e k j1 := by
  obtain ⟨h1, h0⟩ := coords_pointOf i
  funext a
  apply Fin.ext
  match a with
  | ⟨0, _⟩ =>
    show expert m (grid0.coords (pointOf i) 1).val (tile_lt _) = e.val
    rw [← he]
    refine congrArg BitVec.toNat ((word_eq m c _ (tile_lt _)).trans ?_)
    congr 2
    rw [h1, hi0]
  | ⟨1, _⟩ => rfl
  | ⟨2, _⟩ =>
    show (grid0.coords (pointOf i) 0).val * 1024 + j1.val % 1024 = j1.val
    rw [h0, hi1]; omega

/-- The stored gate weights of the point of entry `i`, in column `j1`, are its expert's. -/
theorem gates_apply (i : S36864x7168.Idx) (j0 : Fin 36864) (j1 : Fin 7168) (hi0 : (i 0).val = j0.val) (hi1 : (i 1).val = j1.val) (e : Fin 8)
    (he : (word (m ((c : Thread nD τ).loc main_arg0)) (tile j0)).toNat = e.val) (k : Fin 2048) :
    k0_pay1 (F := Ideal) (iblk m hO c 1 (pointOf i)) (ix2 k ⟨j1.val % 1024, Nat.mod_lt _ (by omega)⟩)
    = (m ((c : Thread nD τ).loc main_arg2) : S8x2048x7168.Idx → EReal) (ix3 e k j1) :=
  (pay1_apply (iblk m hO c 1 (pointOf i)) k ⟨j1.val % 1024, Nat.mod_lt _ (by omega)⟩).trans
    ((iblk1_apply m hO c (pointOf i) (ix3 0 k ⟨j1.val % 1024, Nat.mod_lt _ (by omega)⟩)).trans
      (congrArg (m ((c : Thread nD τ).loc main_arg2) : S8x2048x7168.Idx → EReal) (weight_place m hO c i j0 j1 hi0 hi1 e he k)))

/-- The stored up weights likewise. -/
theorem ups_apply (i : S36864x7168.Idx) (j0 : Fin 36864) (j1 : Fin 7168) (hi0 : (i 0).val = j0.val) (hi1 : (i 1).val = j1.val) (e : Fin 8)
    (he : (word (m ((c : Thread nD τ).loc main_arg0)) (tile j0)).toNat = e.val) (k : Fin 2048) :
    k0_pay2 (F := Ideal) (iblk m hO c 2 (pointOf i)) (ix2 k ⟨j1.val % 1024, Nat.mod_lt _ (by omega)⟩)
    = (m ((c : Thread nD τ).loc main_arg3) : S8x2048x7168.Idx → EReal) (ix3 e k j1) :=
  (pay2_apply (iblk m hO c 2 (pointOf i)) k ⟨j1.val % 1024, Nat.mod_lt _ (by omega)⟩).trans
    ((iblk2_apply m hO c (pointOf i) (ix3 0 k ⟨j1.val % 1024, Nat.mod_lt _ (by omega)⟩)).trans
      (congrArg (m ((c : Thread nD τ).loc main_arg3) : S8x2048x7168.Idx → EReal) (weight_place m hO c i j0 j1 hi0 hi1 e he k)))

/-- An entry's place in its block. -/
theorem placeIn_eq (i : S36864x7168.Idx) (j0 : Fin 36864) (j1 : Fin 7168) (hi0 : (i 0).val = j0.val) (hi1 : (i 1).val = j1.val) :
    placeIn i = ix2 ⟨j0.val % 512, Nat.mod_lt _ (by omega)⟩ ⟨j1.val % 1024, Nat.mod_lt _ (by omega)⟩ := by
  funext a
  apply Fin.ext
  match a with
  | ⟨0, _⟩ => exact congrArg (· % 512) hi0
  | ⟨1, _⟩ => exact congrArg (· % 1024) hi1

/-- The array the run leaves, entry by entry: the expert's SiLU product where the row's tile is in use, zero elsewhere. -/
theorem result_apply (i : S36864x7168.Idx) (j0 : Fin 36864) (j1 : Fin 7168) (hi0 : (i 0).val = j0.val) (hi1 : (i 1).val = j1.val) (e : Fin 8)
    (he : (word (m ((c : Thread nD τ).loc main_arg0)) (tile j0)).toNat = e.val) :
    (result m hO c : S36864x7168.Idx → EReal) i = if InUse (m ((c : Thread nD τ).loc main_arg0)) (tile j0) then
      swiglu (prodAt (m ((c : Thread nD τ).loc main_arg1)) (m ((c : Thread nD τ).loc main_arg2)) e j0 j1)
        (prodAt (m ((c : Thread nD τ).loc main_arg1)) (m ((c : Thread nD τ).loc main_arg3)) e j0 j1) else (0 : EReal) := by
  obtain ⟨h1, h0⟩ := coords_pointOf i
  unfold result outAt
  have hu : Used (grid0.coords (pointOf i) 1).val (bound m) ↔ InUse (m ((c : Thread nD τ).loc main_arg0)) (tile j0) := by
    unfold Used InUse
    rw [h1, last_eq m c, hi0]
  by_cases h : InUse (m ((c : Thread nD τ).loc main_arg0)) (tile j0)
  · rw [if_pos h, if_pos (hu.2 h), placeIn_eq i j0 j1 hi0 hi1]
    refine (pay3_apply _ _ _ _ _).trans ?_
    unfold prodAt
    refine congrArg₂ swiglu (Finset.sum_congr rfl fun k _ => ?_) (Finset.sum_congr rfl fun k _ => ?_)
    · exact congrArg₂ (fun a b : EReal => a * b) (rows_apply m hO c i j0 hi0 k) (gates_apply m hO c i j0 j1 hi0 hi1 e he k)
    · exact congrArg₂ (fun a b : EReal => a * b) (rows_apply m hO c i j0 hi0 k) (ups_apply m hO c i j0 j1 hi0 hi1 e he k)
  · rw [if_neg h, if_neg (fun x => h (hu.1 x))]
    exact pay4_apply (placeIn i)

end Cert.KernelIdeal.Gu
-- ==== Proof.Gu.Ref.lean ====
/- The reference of the expert gate/up call, entry by entry. -/
module

public import proofs.«01_k».proof.Proof.Gen.ReferenceIdeal.Run
public import proofs.«01_k».proof.Proof.Experts.Spec
public import Idealize.ShloMosaic.Lib.Pointwise

@[expose] public section

set_option maxRecDepth 16384

noncomputable section

namespace Cert.ReferenceIdeal.Gu

open Cert.ReferenceIdeal Cert.ReferenceIdeal.Gen Cert.ReferenceIdeal.Value Cert.Experts
open Idealize.ShloMosaic Idealize.ShloMosaic.TcCoe Idealize.SL.Sem

/-- A product of the rows with one expert's weights, at an entry. -/
theorem prod_apply (x : FVec Ideal S36864x2048 .f32) (w : FVec Ideal S8x2048x7168 .f32) (e : ℕ) (he : e < 8)
    (h : S8x2048x7168.Slices ![e, 0, 0] S1x2048x7168) (j0 : Fin 36864) (j1 : Fin 7168) :
    Host.dotGeneral dot_S36864x2048_S2048x7168_S36864x7168_1_0_0_1_n_n none x
      (shapeCast S2048x7168 (extractStridedSlice S1x2048x7168 ![e, 0, 0] w h) shapeCasts_S1x2048x7168_S2048x7168) (ix2 j0 j1)
    = prodAt x w ⟨e, he⟩ j0 j1 := by
  pointwise [prodAt]

/-- The reference's gates at an entry. -/
theorem gate_apply (V0 : Valuation τ sig (Elt Ideal)) (e : Fin 8) (j0 : Fin 36864) :
    res_main_v11 (F := Ideal) V0 (ix2 j0 e) = gate (V0 (Proc.devRef .tc main_arg0)) e.val j0 := by
  pointwise [res_main_v11]
  have h0 : (id (constant (F := Ideal) S_ .f32 0#32) : FVec Ideal S_ .f32) ix0 = (0 : EReal) := by
    show constant (F := Ideal) S_ .f32 0#32 ix0 = (0 : EReal)
    pointwise []
  rw [h0]
  exact gate_eq _ _ _

/-- The SiLU of an array times another, as the reference writes it, at an entry. -/
theorem swiglu_apply (g u : FVec Ideal S36864x7168 .f32) (j : S36864x7168.Idx) {x y : EReal} (hg : g j = x) (hu : u j = y) :
    mulf (mulf g (Host.divf (broadcastInDim S36864x7168 ![] bcast_S_S36864x7168 (constant S_ .f32 0x3F800000#32))
        (addf (broadcastInDim S36864x7168 ![] bcast_S_S36864x7168 (constant S_ .f32 0x3F800000#32)) (Host.exp (Host.negf g))))) u j
    = swiglu x y := by
  subst hg; subst hu
  pointwise []
  rfl

/-- The gated term of expert `e` at an entry. -/
def term (V0 : Valuation τ sig (Elt Ideal)) (e : Fin 8) (j0 : Fin 36864) (j1 : Fin 7168) : EReal :=
  gate (V0 (Proc.devRef .tc main_arg0)) e.val j0
    * swiglu (prodAt (res_main_v0 V0) (V0 (Proc.devRef .tc main_arg2)) e j0 j1) (prodAt (res_main_v0 V0) (V0 (Proc.devRef .tc main_arg3)) e j0 j1)

/-- One expert's gated term at an entry. -/
theorem term_apply (V0 : Valuation τ sig (Elt Ideal)) (e : ℕ) (he : e < 8) (h : S36864x8.Slices ![0, e] S36864x1)
    (g u : FVec Ideal S36864x7168 .f32) (j0 : Fin 36864) (j1 : Fin 7168)
    (hg : g (ix2 j0 j1) = prodAt (res_main_v0 V0) (V0 (Proc.devRef .tc main_arg2)) ⟨e, he⟩ j0 j1)
    (hu : u (ix2 j0 j1) = prodAt (res_main_v0 V0) (V0 (Proc.devRef .tc main_arg3)) ⟨e, he⟩ j0 j1) :
    mulf (broadcastInDim S36864x7168 ![0, 1] bcast_S36864x1_S36864x7168_0_1 (extractStridedSlice S36864x1 ![0, e] (res_main_v11 V0) h))
      (mulf (mulf g (Host.divf (broadcastInDim S36864x7168 ![] bcast_S_S36864x7168 (constant S_ .f32 0x3F800000#32))
        (addf (broadcastInDim S36864x7168 ![] bcast_S_S36864x7168 (constant S_ .f32 0x3F800000#32)) (Host.exp (Host.negf g))))) u) (ix2 j0 j1)
    = term V0 ⟨e, he⟩ j0 j1 := by
  unfold term
  refine mul_at _ _ _ ?_ (swiglu_apply g u _ hg hu)
  rw [← gate_apply V0 ⟨e, he⟩ j0]
  pointwise []

/-- The array the sum starts from. -/
theorem zero_apply (j : S36864x7168.Idx) :
    (broadcastInDim S36864x7168 ![] bcast_S_S36864x7168 (constant (F := Ideal) S_ .f32 0x00000000#32) : FVec Ideal S36864x7168 .f32) j = (0 : EReal) := by
  pointwise []

/-- The first six experts' sum at an entry. -/
theorem sum_apply (V0 : Valuation τ sig (Elt Ideal)) (j0 : Fin 36864) (j1 : Fin 7168) :
    res_main_v84 (F := Ideal) V0 (ix2 j0 j1)
    = 0 + term V0 0 j0 j1 + term V0 1 j0 j1 + term V0 2 j0 j1 + term V0 3 j0 j1 + term V0 4 j0 j1 + term V0 5 j0 j1 := by
  unfold res_main_v84
  exact add_at _ _ _ (add_at _ _ _ (add_at _ _ _ (add_at _ _ _ (add_at _ _ _ (add_at _ _ _ (zero_apply _)
    (term_apply V0 0 (by omega) _ _ _ j0 j1 (prod_apply _ _ 0 (by omega) _ j0 j1) (prod_apply _ _ 0 (by omega) _ j0 j1)))
    (term_apply V0 1 (by omega) _ _ _ j0 j1 (prod_apply _ _ 1 (by omega) _ j0 j1) (prod_apply _ _ 1 (by omega) _ j0 j1)))
    (term_apply V0 2 (by omega) _ _ _ j0 j1 (prod_apply _ _ 2 (by omega) _ j0 j1) (prod_apply _ _ 2 (by omega) _ j0 j1)))
    (term_apply V0 3 (by omega) _ _ _ j0 j1 (prod_apply _ _ 3 (by omega) _ j0 j1) (prod_apply _ _ 3 (by omega) _ j0 j1)))
    (term_apply V0 4 (by omega) _ _ _ j0 j1 (prod_apply _ _ 4 (by omega) _ j0 j1) (prod_apply _ _ 4 (by omega) _ j0 j1)))
    (term_apply V0 5 (by omega) _ _ _ j0 j1 (prod_apply _ _ 5 (by omega) _ j0 j1) (prod_apply _ _ 5 (by omega) _ j0 j1))

/-- What the reference's result is shown to hold. -/
def result (tab : S73.Idx → BitVec 32) (x : S36864x2048.Idx → EReal) (wg wu : S8x2048x7168.Idx → EReal) : S36864x7168.Idx → EReal := fun j =>
  gated (fun e => gate tab e.val (j 0)) fun e => swiglu (prodAt x wg e (j 0) (j 1)) (prodAt x wu e (j 0) (j 1))

/-- The reference runs and leaves that array, its arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v109)
        = result (m ((c.tc : Thread nD τ).loc main_arg0)) (m ((c.tc : Thread nD τ).loc main_arg1)) (m ((c.tc : Thread nD τ).loc main_arg2))
            (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun r h c => ⟨(h c).1.trans (funext fun j => ?_), (h c).2⟩) (Value.run (F := Ideal) m ρ)
  obtain ⟨j0, j1, rfl⟩ : ∃ (j0 : Fin 36864) (j1 : Fin 7168), j = ix2 j0 j1 := ⟨j 0, j 1, eq_ix2 j⟩
  exact add_at _ _ _ (add_at _ _ _ (sum_apply _ j0 j1)
    (term_apply _ 6 (by omega) _ _ _ j0 j1 (prod_apply _ _ 6 (by omega) _ j0 j1) (prod_apply _ _ 6 (by omega) _ j0 j1)))
    (term_apply _ 7 (by omega) _ _ _ j0 j1 (prod_apply _ _ 7 (by omega) _ j0 j1) (prod_apply _ _ 7 (by omega) _ j0 j1))

end Cert.ReferenceIdeal.Gu
-- ==== Proof.Gu.Claims.lean ====
/- The claims about the expert gate/up call: the frames, and that over the extended reals it computes the reference. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Pre_experts_in_range
public import proofs.«01_k».proof.Proof.Gu.Value
public import proofs.«01_k».proof.Proof.Gu.Ref
public import Idealize.ShloMosaic.Adequacy
public import Idealize.ShloMosaic.Init

@[expose] public section

set_option maxRecDepth 16384

noncomputable section

namespace Cert.Proof.Gu

open Idealize.ShloMosaic Idealize.ShloMosaic.TcCoe Idealize.SL.Sem

/-- The predicate, read at a tile: the tile's expert number is below eight. -/
theorem word_lt {F : FTy → Type} [FloatOps F] (tab : IVec Cert.Pre_experts_in_range.S73 32) (x : FVec F Cert.Pre_experts_in_range.S36864x2048 .bf16)
    (wg wu : FVec F Cert.Pre_experts_in_range.S8x2048x7168 .f32) (h : Cert.Pre_experts_in_range.fn (F := F) tab x wg wu = fun _ => 1#1) (n : Fin 72) :
    (Cert.Experts.word tab n).toNat < 8 := by
  have andi_one (a b : BitVec 1) : IntOp.andi a b = 1#1 ↔ a = 1#1 ∧ b = 1#1 := by revert a b; decide
  have hk := congrFun h (ix1 n)
  simp only [Cert.Pre_experts_in_range.fn, constantI, broadcastInDim, cmpi, andi, andi_one, extractStridedSlice] at hk
  have at_n (P : BitVec 32 → Prop) (I : Cert.Pre_experts_in_range.S73.Idx) (hP : P (tab I)) (hI : (I 0).val = n.val) : P (Cert.Experts.word tab n) := by
    have e : I = ix1 n.castSucc := by
      funext a
      obtain rfl : a = 0 := Subsingleton.elim _ _
      exact Fin.ext hI
    subst e; exact hP
  have h1 := at_n (fun v => IntOp.cmpi .sge v 0#32 = 1#1) _ hk.1 (Nat.zero_add _)
  have h2 := at_n (fun v => IntOp.cmpi .slt v 8#32 = 1#1) _ hk.2 (Nat.zero_add _)
  generalize Cert.Experts.word tab n = w at h1 h2
  clear hk at_n h
  simp only [IntOp.cmpi] at h1 h2
  have bit (b : Bool) (hb : BitVec.ofBool b = 1#1) : b = true := by revert hb; cases b <;> decide
  have h1 := bit _ h1
  have h2 := bit _ h2
  simp only [BitVec.sle, BitVec.slt, decide_eq_true_eq] at h1 h2
  have e0 : (0#32).toInt = 0 := by decide
  have e8 : (8#32).toInt = 8 := by decide
  rw [e0] at h1
  rw [e8] at h2
  rw [BitVec.toInt_eq_toNat_cond] at h1 h2
  have := w.isLt
  split at h1 <;> split at h2 <;> omega

/-- The side condition of the launch, from the predicate. -/
theorem ok_of_pre {F : FTy → Type} [FloatOps F] (m : (ℓ : Loc Cert.KernelIdeal.nD Cert.KernelIdeal.τ Cert.KernelIdeal.sig) → Buf (Elt F) ℓ)
    (h : ∀ n : Fin 72, (Cert.Experts.word (m (((0 : Dev Cert.KernelIdeal.nD) : Thread Cert.KernelIdeal.nD Cert.KernelIdeal.τ).loc Cert.KernelIdeal.main_arg0)) n).toNat < 8) :
    Cert.KernelIdeal.Gu.Ok m :=
  Cert.KernelIdeal.Gu.ok_of_expert_lt m fun n hn => by
    have hw := Cert.KernelIdeal.Gu.word_eq m 0 n hn
    show (Cert.KernelIdeal.Gu.wd _ n _).toNat < 8
    rw [hw]; exact h ⟨n, hn⟩

/-- The body tables of the two programs, which have the same text. -/
theorem defs₀_eq : Cert.Kernel.defs₀ (F := Bits) = Cert.KernelIdeal.defs₀ (F := Bits) := by
  unfold Cert.Kernel.defs₀ Cert.KernelIdeal.defs₀
  refine congrArg (Defs.onTc (nD := Cert.Kernel.nD) (τ := Cert.Kernel.τ) (sig := Cert.Kernel.sig) (Val := Elt Bits) (Λ := Cert.Kernel.Λ₀)) ?_
  funext l p
  match l, p with
  | 0, (t, s) => rfl
  | ⟨n + 1, h⟩, _ => exact absurd h (Nat.not_lt.2 (Nat.le_add_left _ _))

/-- The two programs' definitions. -/
theorem defs_eq : Cert.Kernel.defs (F := Bits) = Cert.KernelIdeal.defs (F := Bits) :=
  congrArg (Pipeline.defs (Cert.KernelIdeal.pcfgs (F := Bits))) defs₀_eq

/-- The kernel's frame. -/
theorem frame_kernel : Cert.quiescent_Kernel := fun m ρ h => by
  have hO : Cert.KernelIdeal.Gu.Ok (F := Bits) m := ok_of_pre (F := Bits) m (word_lt (F := Bits) _ _ _ _ (h 0))
  have r := Cert.KernelIdeal.Gu.run (F := Bits) m ρ hO
  rw [← defs_eq] at r
  exact (θ_run Cert.Kernel.defs _ _).mono (fun _ h => ⟨fun c => (h.1 c).2, h.2⟩) r

/-- The idealized kernel's frame. -/
theorem frame_kernelIdeal : Cert.quiescent_KernelIdeal := fun m ρ h =>
  (θ_run Cert.KernelIdeal.defs _ _).mono (fun _ h => ⟨fun c => (h.1 c).2, h.2⟩)
    (Cert.KernelIdeal.Gu.run (F := Ideal) m ρ (ok_of_pre m (word_lt _ _ _ _ (h 0))))

/-- The reference's frame. -/
theorem frame_referenceIdeal : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Gu.run m ρ)

/-- The same under the precondition. -/
theorem frame_referenceIdeal_pre : Cert.quiescent_ReferenceIdeal_pre_experts_in_range := fun m ρ _ => frame_referenceIdeal m ρ trivial

/-- The kernel computes the reference over the extended reals. -/
theorem algebraic : Cert.algebraic_KernelIdeal_ReferenceIdeal := fun m ρ m' ρ' h hm => by
  have hw := fun c => word_lt _ _ _ _ (h c)
  have hO := ok_of_pre m (hw 0)
  refine ⟨fun c => Cert.KernelIdeal.Gu.result m hO c, (θ_run Cert.KernelIdeal.defs _ _).mono (fun _ h => h.1) (Cert.KernelIdeal.Gu.run (F := Ideal) m ρ hO),
    (θ_run Cert.ReferenceIdeal.defs _ _).mono (fun r h c => ⟨(h c).1.trans ?_, (h c).2⟩) (Cert.ReferenceIdeal.Gu.run m' ρ')⟩
  obtain ⟨h0, h1, h2, h3⟩ := hm c
  rw [h0, h1, h2, h3]
  funext i
  exact (Cert.Experts.gated_eq _ (i 0) ⟨_, hw c (Cert.Experts.tile (i 0))⟩ rfl _).trans
    (Cert.KernelIdeal.Gu.result_apply m hO c i (i 0) (i 1) rfl rfl ⟨_, hw c (Cert.Experts.tile (i 0))⟩ rfl).symm

end Cert.Proof.Gu
-- ==== Proof.Down.Kit.lean ====
/- The launch of the expert down call: what @main hands the pipeline, the word table it prefetches, the
   windows' blocks, the staging and scratch memrefs, and the body's branch conditions. -/
module

public import proofs.«01_k».proof.Proof.Gen.Kernel2Ideal.Launch
public import proofs.«01_k».proof.Proof.Gen.Kernel2Ideal.Skeleton
public import Idealize.ShloMosaic.Lib.Pipeline.Kit
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Kernel2Ideal.Down

open Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Window 0 (operand 1 (%arg1)) is fetched at every point, at any contents of the tables (its index map reads none). -/
theorem fetch0_0 (a : (pcfg0 (F := F)).Adm) : ∀ t : Fin (cfg0 a).N, ((cfg0 a).win 0).fetch t = true :=
  (fun t => (Pipeline.Window.fetchOf_reads cc0_transform_0 reads0_0 hreads0_0 1 (by decide) (by decide) (Pipeline.Window.sep_of_coord cc0_transform_0 1 0 (fun _ => rfl) (by decide)) (P := 1) (by decide) t).mpr (Nat.mod_one _) : ∀ t : Fin grid0.N, Pipeline.Window.fetchOf grid0 false cc0_transform_0 t = true)
/-- Window 2 (result 0 (%0)) is written back at every point, at any contents of the tables (its index map reads none). -/
theorem flush0_2 (a : (pcfg0 (F := F)).Adm) : ∀ t : Fin (cfg0 a).N, ((cfg0 a).win 2).flush t = true :=
  (fun t => (Pipeline.Window.flushOf_reads cc0_transform_2 reads0_2 hreads0_2 1 (by decide) (by decide) (Pipeline.Window.sep_of_coord cc0_transform_2 1 0 (fun _ => rfl) (by decide)) (P := 1) (m := 0) (by decide) rfl t).mpr (Nat.mod_one _) : ∀ t : Fin grid0.N, Pipeline.Window.flushOf grid0 true cc0_transform_2 t = true)

/-- The current staging memref of each window at point `t`: which of its buffers it is on. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_moe_down (grid0.coords t) (Memref.whole main_arg0) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (Memref.whole cc0_scratch0) (Memref.isWhole_whole _)

variable (m : (ℓ : Loc nD τ sig) → Buf (Elt F) ℓ) (ρ : Dev nD → PrngReg)
/-! ## @main up to the region -/

/-- Core `c`'s TensorCore buffers when the region is entered: as launched (@main is the region alone). -/
abbrev V (c : Dev nD) (b : Ref sig .tc) : Buf (Elt F) ((c : Thread nD τ).loc b) := m ((c : Thread nD τ).loc b)

set_option maxHeartbeats 800000 in
/-- @main up to the region, at the certificate's variants `𝒱₀`: the region alone (`Pipeline.hmain_region` off
    `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_region pcfgs 0 defs₀ 𝒱₀ m main fun c => (main_chain c).trans rfl

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 1) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S73 .i32 := Memref.whole main_arg0
abbrev htbM0_0 : tbM0_0.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0)) := by
  unfold Pipeline.ΦT Pipeline.prefHeld
  rw [show (Finset.univ : Finset (Fin 1)) = {(0 : Fin 1)} from by decide, bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-! ## The body's branch conditions -/

/-- The condition of the body's `scf.if` 0: over WORDS the body reads from its tables or input SMEM windows
    (`v0`, `v4`, `v8`), so no function of the point — a case variable: a hypothesis of each run, a `by_cases`
    of the obligation and an `if` of `outsAt`, stated over the argument blocks' words there. -/
abbrev cond0_0 (i : grid0.Coords) (v0 : BitVec 32) (v4 : BitVec 32) (v8 : BitVec 32) : Prop := (Scalar.cmpi .ne (Scalar.extui (Scalar.andi (Scalar.cmpi .slt (BitVec.ofNat 32 (i 1).val) v0) (Scalar.ori (Scalar.cmpi .eq (BitVec.ofNat 32 (i 1).val) 0#32) (Scalar.cmpi .ne v4 v8)))) 0#32) = 1#1

/-- The condition of the body's `scf.if` 1: over WORDS the body reads from its tables or input SMEM windows
    (`v0`), so no function of the point — a case variable: a hypothesis of each run, a `by_cases`
    of the obligation and an `if` of `outsAt`, stated over the argument blocks' words there. -/
abbrev cond0_1 (i : grid0.Coords) (v0 : BitVec 32) : Prop := (Scalar.cmpi .ne (Scalar.extui (Scalar.cmpi .slt (BitVec.ofNat 32 (i 1).val) v0)) 0#32) = 1#1

/-! ## The kernel body on any staging memrefs: a subtype the run finds -/

/-- Each window's current staging memref at point `t`, spelled as the pipeline passes it (`bodyAt0`), and its wholeness. -/
abbrev ms0_0 (hO : Ok m) (t : Fin (cfgM m hO).N) : Memref sig .tc .vmem S512x7168 .bf16 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x7168x512 .f32 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S512x512 .f32 := spec0_2.stage ((cfgM m hO).slots t 2)
abbrev hs0_2 (hO : Ok m) (t : Fin (cfgM m hO).N) : (ms0_2 m hO t).IsWhole := hstage0_2 (((cfgM m hO).slots t 2).cast nbuf0_2)
/-- The scratch operands: whole scoped buffers of the kernel's own, passed beside the windows. -/
abbrev scM0_0 : Memref sig .tc .vmem S7168x512 .bf16 := Memref.whole cc0_scratch0
/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop((∃ d, owns (c : Thread nD τ) scM0_0 fullShare d) ∗ (∃ r, prngReg c r)) := by
  unfold Pipeline.ΦA; rw [scopedRest0_eq]; simp only [scM0_0, owns_whole]; try rfl

end Cert.Kernel2Ideal.Down

end
-- ==== Proof.Down.Body.lean ====
/- The body of the expert down call at a point, case by case of its conditionals: the first used tile of an
   expert's run (the weights' blocks are rounded into the two scratch buffers), a later tile of the run (the scratch
   is read as it stands), an unused tile (zeros). -/
module

public import proofs.«01_k».proof.Proof.Down.Kit
public import Idealize.ShloMosaic.Lib.Pipeline.Value

@[expose] public section

set_option maxRecDepth 16384

noncomputable section

namespace Cert.Kernel2Ideal.Down

open Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The number of used tiles: word 72 of the table. -/
abbrev word0 (c : Dev nD) (xt : TbBuf0 (F := F) c tbM0_0) : BitVec 32 :=
  tbM0_0.view.readAt (Elt F) (Rect.unit (s := S73) ![72] S1.size inb_S73_S1_72).toLoadRect xt (Shape.Idx.first (numel1_S1.symm ▸ Nat.one_pos))
/-- The expert of the tile at a point. -/
abbrev wordAt (c : Dev nD) (i : grid0.Coords) (xt : TbBuf0 (F := F) c tbM0_0) : BitVec 32 :=
  tbM0_0.view.readAt (Elt F) (Rect.unit (s := S73) (k0_off1 i) S1.size (k0_off1_inb i)).toLoadRect xt (Shape.Idx.first (numel1_S1.symm ▸ Nat.one_pos))
/-- The expert of the tile before it. -/
abbrev wordBefore (c : Dev nD) (i : grid0.Coords) (xt : TbBuf0 (F := F) c tbM0_0) : BitVec 32 :=
  tbM0_0.view.readAt (Elt F) (Rect.unit (s := S73) (k0_off2 i) S1.size (k0_off2_inb i)).toLoadRect xt (Shape.Idx.first (numel1_S1.symm ▸ Nat.one_pos))

theorem off2 : (![0, 0] : Fin 2 → ℕ) = fun _ => 0 := by decide
theorem off3 : (![0, 0, 0] : Fin 3 → ℕ) = fun _ => 0 := by decide

/-- A store over a whole buffer leaves what was stored. -/
theorem read_store {sig : RefSig} {κ : Kind} {sp : Space} {S : Shape} {e : EltTy} {Val : EltTy → Type} (v : View sig κ sp S e) (f : v.ty.Contents Val)
    {off : Fin S.rank → ℕ} (h : off = fun _ => 0) (inb : ∀ a, off a + S.size a ≤ S.size a) (w : S.Idx → Val e) :
    v.read Val (v.writes Val f [⟨Rect.unit off S.size inb, w⟩]) = w := by
  subst h; exact View.read_writes_whole v f w

/-- A load over a whole buffer reads its contents. -/
theorem load_whole {sig : RefSig} {κ : Kind} {sp : Space} {S : Shape} {e : EltTy} {Val : EltTy → Type} (m : Memref sig κ sp S e) (hm : m.IsWhole)
    {off : Fin S.rank → ℕ} (h : off = fun _ => 0) (inb : ∀ a, off a + S.size a ≤ S.size a) (X : S.Idx → Val e) :
    m.view.readAt Val (Rect.unit off S.size inb).toLoadRect (hm.unread X) = X := by
  rw [View.readAt_eq_ld, hm.read_unread, View.ld_unit_zero h]

set_option maxHeartbeats 1600000 in
/-- The first tile of an expert's run: the scratch buffer gets the rounded weights, the output block is computed from them. -/
theorem body_first (c : Dev nD) (i : grid0.Coords) (arg3 : Memref sig .tc .vmem S512x7168 .bf16) (harg3 : arg3.IsWhole)
    (arg4 : Memref sig .tc .vmem S1x7168x512 .f32) (harg4 : arg4.IsWhole)
    (arg5 : Memref sig .tc .vmem S512x512 .f32) (harg5 : arg5.IsWhole) (arg6 : Memref sig .tc .vmem S7168x512 .bf16) (harg6 : arg6.IsWhole)
    (x0 : Vec F S512x7168 .bf16) (x1 : Vec F S1x7168x512 .f32) (w6 : Vec F S7168x512 .bf16) (xt : TbBuf0 (F := F) c tbM0_0)
    (h0 : cond0_0 i (word0 c xt) (wordAt c i xt) (wordBefore c i xt))
    (h2 : k0_cond2 i (word0 c xt) = 1#1) (h3 : ¬k0_cond3 i (word0 c xt) = 1#1) (E : Set ℕ) (K : PUnit → sProp 𝕄) :
    iprop(owns (c : Thread nD τ) arg3 fullShare x0 ∗ owns (c : Thread nD τ) arg4 fullShare x1 ∗ (∃ d, owns (c : Thread nD τ) arg5 fullShare d)
        ∗ owns (c : Thread nD τ) arg6 fullShare w6 ∗ tbPt0 c tbM0_0 xt
        ∗ (iprop(owns (c : Thread nD τ) arg3 fullShare x0 ∗ owns (c : Thread nD τ) arg4 fullShare x1 ∗ owns (c : Thread nD τ) arg5 fullShare (k0_pay2 x0 (k0_pay1 x1))
            ∗ owns (c : Thread nD τ) arg6 fullShare (k0_pay1 x1) ∗ tbPt0 c tbM0_0 xt) -∗ K ⟨⟩))
      ⊢ wp frame (wpE (defs₀ (F := F)) Variants.none c none) E (cc0_moe_down i tbM0_0 htbM0_0 arg3 harg3 arg4 harg4 arg5 harg5 arg6 harg6) K := by
  simp only [cc0_moe_down_eq_skeleton]; unfold cc0_moe_down_skel
  unfold owns
  iintro ⟨⟨%f0, %hf0, H0⟩, ⟨%f1, %hf1, H1⟩, ⟨%d2, %f2, -, H2⟩, ⟨%f3, %hf3, HS0⟩, HT0, Hk⟩
  obtain rfl := harg3.eq_unread hf0; obtain rfl := harg4.eq_unread hf1; obtain rfl := harg6.eq_unread hf3
  sl_exec (disch := first | sl_exact h0 | sl_exact h2 | sl_exact h3)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; swap; · iexact H2
    ipureintro; rw [read_store _ _ off2]; unfold body_first.sl.v20 body_first.sl.HS0_1
    rw [View.readCov_unit_zero _ off2, load_whole _ harg3 off2, load_whole _ harg4 off3]
  isplitl [HS0]
  · iexists _; isplitr; swap; · iexact HS0
    ipureintro; unfold body_first.sl.HS0_1; rw [read_store _ _ off2, load_whole _ harg4 off3]
  iexact HT0

set_option maxHeartbeats 1600000 in
/-- A later tile of a run: the scratch buffer stays, the output block is computed from them. -/
theorem body_later (c : Dev nD) (i : grid0.Coords) (arg3 : Memref sig .tc .vmem S512x7168 .bf16) (harg3 : arg3.IsWhole)
    (arg4 : Memref sig .tc .vmem S1x7168x512 .f32) (harg4 : arg4.IsWhole)
    (arg5 : Memref sig .tc .vmem S512x512 .f32) (harg5 : arg5.IsWhole) (arg6 : Memref sig .tc .vmem S7168x512 .bf16) (harg6 : arg6.IsWhole)
    (x0 : Vec F S512x7168 .bf16) (x1 : Vec F S1x7168x512 .f32) (w6 : Vec F S7168x512 .bf16) (xt : TbBuf0 (F := F) c tbM0_0)
    (h0 : ¬cond0_0 i (word0 c xt) (wordAt c i xt) (wordBefore c i xt))
    (h2 : k0_cond2 i (word0 c xt) = 1#1) (h3 : ¬k0_cond3 i (word0 c xt) = 1#1) (E : Set ℕ) (K : PUnit → sProp 𝕄) :
    iprop(owns (c : Thread nD τ) arg3 fullShare x0 ∗ owns (c : Thread nD τ) arg4 fullShare x1 ∗ (∃ d, owns (c : Thread nD τ) arg5 fullShare d)
        ∗ owns (c : Thread nD τ) arg6 fullShare w6 ∗ tbPt0 c tbM0_0 xt
        ∗ (iprop(owns (c : Thread nD τ) arg3 fullShare x0 ∗ owns (c : Thread nD τ) arg4 fullShare x1 ∗ owns (c : Thread nD τ) arg5 fullShare (k0_pay2 x0 w6)
            ∗ owns (c : Thread nD τ) arg6 fullShare (w6) ∗ tbPt0 c tbM0_0 xt) -∗ K ⟨⟩))
      ⊢ wp frame (wpE (defs₀ (F := F)) Variants.none c none) E (cc0_moe_down i tbM0_0 htbM0_0 arg3 harg3 arg4 harg4 arg5 harg5 arg6 harg6) K := by
  simp only [cc0_moe_down_eq_skeleton]; unfold cc0_moe_down_skel
  unfold owns
  iintro ⟨⟨%f0, %hf0, H0⟩, ⟨%f1, %hf1, H1⟩, ⟨%d2, %f2, -, H2⟩, ⟨%f3, %hf3, HS0⟩, HT0, Hk⟩
  obtain rfl := harg3.eq_unread hf0; obtain rfl := harg4.eq_unread hf1; obtain rfl := harg6.eq_unread hf3
  sl_exec (disch := first | sl_exact h0 | sl_exact h2 | sl_exact h3)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; swap; · iexact H2
    ipureintro; rw [read_store _ _ off2, load_whole _ harg3 off2, load_whole _ harg6 off2]
  isplitl [HS0]
  · iexists _; isplitr; swap; · iexact HS0
    ipureintro; exact harg6.read_unread _
  iexact HT0

set_option maxHeartbeats 1600000 in
/-- A tile past the used ones: zeros, the scratch buffer stays. -/
theorem body_unused (c : Dev nD) (i : grid0.Coords) (arg3 : Memref sig .tc .vmem S512x7168 .bf16) (harg3 : arg3.IsWhole)
    (arg4 : Memref sig .tc .vmem S1x7168x512 .f32) (harg4 : arg4.IsWhole)
    (arg5 : Memref sig .tc .vmem S512x512 .f32) (harg5 : arg5.IsWhole) (arg6 : Memref sig .tc .vmem S7168x512 .bf16) (harg6 : arg6.IsWhole)
    (x0 : Vec F S512x7168 .bf16) (x1 : Vec F S1x7168x512 .f32) (w6 : Vec F S7168x512 .bf16) (xt : TbBuf0 (F := F) c tbM0_0)
    (h0 : ¬cond0_0 i (word0 c xt) (wordAt c i xt) (wordBefore c i xt))
    (h2 : ¬k0_cond2 i (word0 c xt) = 1#1) (h3 : k0_cond3 i (word0 c xt) = 1#1) (E : Set ℕ) (K : PUnit → sProp 𝕄) :
    iprop(owns (c : Thread nD τ) arg3 fullShare x0 ∗ owns (c : Thread nD τ) arg4 fullShare x1 ∗ (∃ d, owns (c : Thread nD τ) arg5 fullShare d)
        ∗ owns (c : Thread nD τ) arg6 fullShare w6 ∗ tbPt0 c tbM0_0 xt
        ∗ (iprop(owns (c : Thread nD τ) arg3 fullShare x0 ∗ owns (c : Thread nD τ) arg4 fullShare x1 ∗ owns (c : Thread nD τ) arg5 fullShare (k0_pay3)
            ∗ owns (c : Thread nD τ) arg6 fullShare (w6) ∗ tbPt0 c tbM0_0 xt) -∗ K ⟨⟩))
      ⊢ wp frame (wpE (defs₀ (F := F)) Variants.none c none) E (cc0_moe_down i tbM0_0 htbM0_0 arg3 harg3 arg4 harg4 arg5 harg5 arg6 harg6) K := by
  simp only [cc0_moe_down_eq_skeleton]; unfold cc0_moe_down_skel
  unfold owns
  iintro ⟨⟨%f0, %hf0, H0⟩, ⟨%f1, %hf1, H1⟩, ⟨%d2, %f2, -, H2⟩, ⟨%f3, %hf3, HS0⟩, HT0, Hk⟩
  obtain rfl := harg3.eq_unread hf0; obtain rfl := harg4.eq_unread hf1; obtain rfl := harg6.eq_unread hf3
  sl_exec (disch := first | sl_exact h0 | sl_exact h2 | sl_exact h3)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; swap; · iexact H2
    ipureintro; exact read_store _ _ off2 _ _
  isplitl [HS0]
  · iexists _; isplitr; swap; · iexact HS0
    ipureintro; exact harg6.read_unread _
  iexact HT0

end Cert.Kernel2Ideal.Down

end
-- ==== Proof.Down.Words.lean ====
/- The words the body and the index maps read of the table, and the branch conditions in terms of them: the number of
   used tiles is a signed bound on the tile, and the scratch is rewritten where the tile is the first or its expert
   differs from the tile's before. -/
module

public import proofs.«01_k».proof.Proof.Down.Body

@[expose] public section

set_option maxRecDepth 16384

noncomputable section

namespace Cert.Kernel2Ideal.Down

open Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Branch conditions -/

theorem bit_iff (b : BitVec 1) : Scalar.cmpi .ne (Scalar.extui b) 0#32 = 1#1 ↔ b = 1#1 := by
  revert b; decide

theorem bit_not_iff (b : BitVec 1) : Scalar.cmpi .ne (Scalar.extui (Scalar.xori b 1#1)) 0#32 = 1#1 ↔ ¬b = 1#1 := by
  revert b; decide

/-- A tile `n` is used under the bound `v`, the bound read signed. -/
def Used (n : ℕ) (v : BitVec 32) : Prop := (n : ℤ) < v.toInt

instance (n : ℕ) (v : BitVec 32) : Decidable (Used n v) := inferInstanceAs (Decidable (_ < _))

theorem toInt_small (n : ℕ) (hn : n < 72) : (BitVec.ofNat 32 n).toInt = n := by
  rw [BitVec.toInt_ofNat']; simp only [Int.bmod]; omega

theorem slt_iff (n : ℕ) (hn : n < 72) (v : BitVec 32) : Scalar.cmpi .slt (BitVec.ofNat 32 n) v = 1#1 ↔ Used n v := by
  show BitVec.ofBool (decide ((BitVec.ofNat 32 n).toInt < v.toInt)) = 1#1 ↔ _
  rw [toInt_small n hn]
  unfold Used
  by_cases h : (n : ℤ) < v.toInt <;> simp [h]

theorem tile_lt (i : grid0.Coords) : (i 1).val < 72 := (i 1).isLt
theorem col_lt (i : grid0.Coords) : (i 0).val < 4 := (i 0).isLt

theorem cond2_iff (i : grid0.Coords) (v : BitVec 32) : k0_cond2 i v = 1#1 ↔ Used (i 1).val v :=
  (bit_iff _).trans (slt_iff _ (tile_lt i) v)

theorem cond3_iff (i : grid0.Coords) (v : BitVec 32) : k0_cond3 i v = 1#1 ↔ ¬Used (i 1).val v :=
  (bit_not_iff _).trans (not_congr (slt_iff _ (tile_lt i) v))

theorem and_or_iff : ∀ a b c : BitVec 1, Scalar.andi a (Scalar.ori b c) = 1#1 ↔ a = 1#1 ∧ (b = 1#1 ∨ c = 1#1) := by decide

theorem eq_zero_iff (n : ℕ) (hn : n < 72) : Scalar.cmpi .eq (BitVec.ofNat 32 n) 0#32 = 1#1 ↔ n = 0 := by
  have := (by decide +kernel : ∀ n : Fin 72, Scalar.cmpi .eq (BitVec.ofNat 32 n.val) 0#32 = 1#1 ↔ n.val = 0) ⟨n, hn⟩
  exact this

theorem ne_iff (a b : BitVec 32) : Scalar.cmpi .ne a b = 1#1 ↔ a ≠ b := by
  show BitVec.ofBool (a != b) = 1#1 ↔ _
  by_cases h : a = b
  · simp [h]
  · rw [bne_iff_ne.2 h]; simp [h]

theorem cond0_iff (i : grid0.Coords) (v w u : BitVec 32) : cond0_0 i v w u ↔ Used (i 1).val v ∧ ((i 1).val = 0 ∨ w ≠ u) := by
  unfold cond0_0
  rw [bit_iff, and_or_iff, slt_iff _ (tile_lt i), eq_zero_iff _ (tile_lt i), ne_iff]

/-! ## The table's words -/

/-- Place `n` of the table. -/
def place (n : ℕ) (h : n < 73) : S73.Idx := fun a => ⟨n, by obtain rfl : a = 0 := Subsingleton.elim _ _; exact h⟩

/-- Word `n` of a table. -/
abbrev wd (X : S73.Idx → BitVec 32) (n : ℕ) (h : n < 73) : BitVec 32 := X (place n h)

theorem readWord (X : S73.Idx → BitVec 32) (off : Fin 1 → ℕ) (inb : ∀ a, off a + S1.size a ≤ S73.size a) (n : ℕ) (h : n < 73) (hn : off 0 = n) :
    X ((Rect.unit (s := S73) off S1.size inb).toLoadRect.idx (Shape.Idx.first (numel1_S1.symm ▸ Nat.one_pos))) = wd X n h := by
  unfold wd
  congr 1
  funext a
  apply Fin.ext
  obtain rfl : a = 0 := Subsingleton.elim _ _
  subst hn
  rfl

theorem off1_eq (i : grid0.Coords) : k0_off1 i 0 = (i 1).val :=
  (by decide +kernel : ∀ n : Fin 72, (BitVec.ofNat 32 n.val).toNat = n.val) ⟨(i 1).val, tile_lt i⟩

theorem off2_eq (i : grid0.Coords) : k0_off2 i 0 = (i 1).val - 1 :=
  (by decide +kernel : ∀ n : Fin 72, (Scalar.indexCast (Scalar.maxsi (Scalar.subi (BitVec.ofNat 32 n.val) 1#32) 0#32)).toNat = n.val - 1) ⟨(i 1).val, tile_lt i⟩

section
variable (c : Dev nD) (i : grid0.Coords) (xt : TbBuf0 (F := F) c tbM0_0)

theorem word0_eq : word0 c xt = wd xt 72 (by omega) := readWord xt _ inb_S73_S1_72 72 (by omega) rfl
theorem wordAt_eq : wordAt c i xt = wd xt (i 1).val (lt_trans (tile_lt i) (by omega)) := readWord xt _ (k0_off1_inb i) _ _ (off1_eq i)
theorem wordBefore_eq : wordBefore c i xt = wd xt ((i 1).val - 1) (lt_of_le_of_lt (Nat.sub_le _ _) (lt_trans (tile_lt i) (by omega))) :=
  readWord xt _ (k0_off2_inb i) _ _ (off2_eq i)
end

/-! ## The grid's points -/

theorem coords_eq : ∀ t : Fin grid0.N, (grid0.coords t 0).val = t.val / 72 ∧ (grid0.coords t 1).val = t.val % 72 := by decide +kernel

variable (m : (ℓ : Loc nD τ sig) → Buf (Elt F) ℓ)

/-! ## The tiles' experts -/

/-- The expert whose weights tile `n` takes. -/
def expert (m : (ℓ : Loc nD τ sig) → Buf (Elt F) ℓ) (n : ℕ) (h : n < 72) : ℕ := (wd (tbl m 0) n (lt_trans h (by omega))).toNat

theorem index1_eq (i : grid0.Coords) : cc0_transform_1 k0_off1_inb numel1_S1 (tbl m) i 0 = expert m (i 1).val (tile_lt i) :=
  congrArg BitVec.toNat (readWord (tbl m 0) _ (k0_off1_inb i) _ _ (off1_eq i))

/-- Under the windows' side condition every tile's expert is one of the eight. -/
theorem expert_lt {m : (ℓ : Loc nD τ sig) → Buf (Elt F) ℓ} (hO : Ok m) (i : grid0.Coords) : expert m (i 1).val (tile_lt i) < 8 := by
  obtain ⟨h, -⟩ := hO i
  have h0 : (cc0_transform_1 k0_off1_inb numel1_S1 (tbl m) i 0 + 1) * 1 ≤ 8 := h 0
  rw [index1_eq] at h0
  omega

theorem colWord (i : grid0.Coords) : (BitVec.ofNat 32 (i 0).val).toNat = (i 0).val :=
  (by decide +kernel : ∀ n : Fin 4, (BitVec.ofNat 32 n.val).toNat = n.val) ⟨(i 0).val, col_lt i⟩

/-- Conversely the side condition holds where every tile's expert is one of the eight. -/
theorem ok_of_expert_lt (h : ∀ (n : ℕ) (hn : n < 72), expert m n hn < 8) : Ok m := by
  refine fun i => ⟨fun a => ?_, .inl rfl⟩
  · have hi := h (i 1).val (tile_lt i)
    have hc := col_lt i
    match a with
    | ⟨0, _⟩ =>
      show (cc0_transform_1 k0_off1_inb numel1_S1 (tbl m) i 0 + 1) * 1 ≤ 8
      rw [index1_eq]; omega
    | ⟨1, _⟩ => show (0 + 1) * 7168 ≤ 7168; omega
    | ⟨2, _⟩ =>
      show ((BitVec.ofNat 32 (i 0).val).toNat + 1) * 512 ≤ 2048
      rw [colWord]; omega

/-- The entry of a weight array that entry `y` of the block of expert `e`, column block `j`, is. -/
abbrev weightAt (e : ℕ) (he : e < 8) (j : ℕ) (hj : j < 4) (y : S1x7168x512.Idx) : S8x7168x2048.Idx := fun a => match a with
  | ⟨0, _⟩ => ⟨e, he⟩
  | ⟨1, _⟩ => ⟨(y 1).val, (y 1).isLt⟩
  | ⟨2, _⟩ => ⟨j * 512 + (y 2).val, by have : (y 2).val < 512 := (y 2).isLt; show _ < 2048; omega⟩

/-! ## The blocks the body reads, entry by entry -/

variable (hO : Ok m) (c : Dev nD) (t : Fin (cfgM m hO).N)

theorem iblk0_apply (y : S512x7168.Idx) : (iblk m hO c 0 t : S512x7168.Idx → Elt F .bf16) y
    = m ((c : Thread nD τ).loc main_arg1) (fun a => match a with
      | ⟨0, _⟩ => ⟨(grid0.coords t 1).val * 512 + (y 0).val, by have := tile_lt (grid0.coords t); have : (y 0).val < 512 := (y 0).isLt; show _ < 36864; omega⟩
      | ⟨1, _⟩ => ⟨(y 1).val, (y 1).isLt⟩) := by
  show V m c main_arg1 _ = _
  unfold V
  congr 1
  funext a
  apply Fin.ext
  have ho := off1_eq (grid0.coords t)
  match a with
  | ⟨0, _⟩ =>
    show (BitVec.ofNat 32 (grid0.coords t 1).val).toNat * 512 + 1 * (y 0).val = (grid0.coords t 1).val * 512 + (y 0).val
    rw [show (BitVec.ofNat 32 (grid0.coords t 1).val).toNat = (grid0.coords t 1).val from ho]; omega
  | ⟨1, _⟩ => show 0 * 7168 + 1 * (y 1).val = (y 1).val; omega

theorem iblk1_apply (y : S1x7168x512.Idx) : (iblk m hO c 1 t : S1x7168x512.Idx → Elt F .f32) y
    = m ((c : Thread nD τ).loc main_arg2) (weightAt (expert m (grid0.coords t 1).val (tile_lt _)) (expert_lt hO (grid0.coords t)) (grid0.coords t 0).val (col_lt _) y) := by
  show V m c main_arg2 _ = _
  unfold V
  congr 1
  funext a
  apply Fin.ext
  match a with
  | ⟨0, _⟩ =>
    show cc0_transform_1 k0_off1_inb numel1_S1 (tbl m) (grid0.coords t) 0 * 1 + 1 * (y 0).val = expert m (grid0.coords t 1).val (tile_lt _)
    rw [index1_eq]
    have : (y 0).val < 1 := (y 0).isLt
    omega
  | ⟨1, _⟩ => show 0 * 7168 + 1 * (y 1).val = (y 1).val; omega
  | ⟨2, _⟩ =>
    show (BitVec.ofNat 32 (grid0.coords t 0).val).toNat * 512 + 1 * (y 2).val = (grid0.coords t 0).val * 512 + (y 2).val
    rw [show (BitVec.ofNat 32 (grid0.coords t 0).val).toNat = (grid0.coords t 0).val from colWord _]; omega

end Cert.Kernel2Ideal.Down

end
-- ==== Proof.Down.Frame.lean ====
/- The frame of the expert down call with its values: what each point leaves in the output block, what the two scratch
   buffers hold between points, the body's obligation at a point and the run. -/
module

public import proofs.«01_k».proof.Proof.Down.Words
public import Idealize.ShloMosaic.Lib.Claim

@[expose] public section

set_option maxRecDepth 16384

noncomputable section

namespace Cert.Kernel2Ideal.Down

open Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the points leave -/

/-- The number of used tiles, as the table's last word. -/
abbrev bound (m : (ℓ : Loc nD τ sig) → Buf (Elt F) ℓ) : BitVec 32 := wd (tbl m 0) 72 (by omega)

/-- The output block at a point: the product of the tile with its expert's rounded weights, or zeros. -/
def outAt (hO : Ok m) (c : Dev nD) (t : Fin (cfgM m hO).N) : Vec F S512x512 .f32 :=
  if Used (grid0.coords t 1).val (bound m) then k0_pay2 (iblk m hO c 0 t) (k0_pay1 (iblk m hO c 1 t)) else k0_pay3

/-- What is known of the scratch buffer before point `n`: where the point before was a used tile, it holds that tile's
    rounded weights. -/
def Held (hO : Ok m) (c : Dev nD) (n : ℕ) (d6 : Vec F S7168x512 .bf16) : Prop :=
  ∀ t : Fin (cfgM m hO).N, t.val + 1 = n → Used (grid0.coords t 1).val (bound m) → d6 = k0_pay1 (iblk m hO c 1 t)

/-- The invariant between points: the scratch buffer as `Held` says, the generator register and the table. -/
def inv (hO : Ok m) (c : Dev nD) (n : ℕ) : sProp 𝕄 :=
  iprop(iprop((∃ d6, ⌜Held m hO c n d6⌝ ∗ owns (c : Thread nD τ) scM0_0 fullShare d6) ∗ (∃ r, prngReg c r)) ∗ tbPt0 c tbM0_0 (tbl m 0))

theorem weightAt_congr {e e' j j' : ℕ} (he : e < 8) (he' : e' < 8) (hj : j < 4) (hj' : j' < 4) (y : S1x7168x512.Idx) (h1 : e = e') (h2 : j = j') :
    weightAt e he j hj y = weightAt e' he' j' hj' y := by
  subst h1 h2; rfl

/-- A later tile of a run follows a used tile with the same weights. -/
theorem weights_before (hO : Ok m) (c : Dev nD) (t : Fin (cfgM m hO).N) (hu : Used (grid0.coords t 1).val (bound m))
    (h1 : (grid0.coords t 1).val ≠ 0) (hw : wordAt c (grid0.coords t) (tbl m 0) = wordBefore c (grid0.coords t) (tbl m 0)) :
    ∃ t' : Fin (cfgM m hO).N, t'.val + 1 = t.val ∧ Used (grid0.coords t' 1).val (bound m)
      ∧ iblk m hO c 1 t' = iblk m hO c 1 t := by
  obtain ⟨e0, e1⟩ := coords_eq t
  have ht : 0 < t.val := by omega
  have hN : t.val < (cfgM m hO).N := t.isLt
  let t' : Fin (cfgM m hO).N := ⟨t.val - 1, by omega⟩
  obtain ⟨e0', e1'⟩ := coords_eq t'
  have hv : t'.val = t.val - 1 := rfl
  have hc0 : (grid0.coords t' 0).val = (grid0.coords t 0).val := by omega
  have hc1 : (grid0.coords t' 1).val = (grid0.coords t 1).val - 1 := by omega
  have hex : expert m (grid0.coords t' 1).val (tile_lt _) = expert m (grid0.coords t 1).val (tile_lt _) := by
    have hw' := (wordAt_eq c (grid0.coords t) (tbl m 0)).symm.trans (hw.trans (wordBefore_eq c (grid0.coords t) (tbl m 0)))
    unfold expert
    simp only [hc1]
    exact congrArg BitVec.toNat hw'.symm
  refine ⟨t', by omega, ?_, ?_⟩
  · unfold Used at hu ⊢; omega
  · refine funext fun y => ?_
    refine (iblk1_apply m hO c t' y).trans (Eq.trans ?_ (iblk1_apply m hO c t y).symm)
    exact congrArg _ (weightAt_congr _ _ _ _ y hex hc0)

/-! ## The pipeline's proof data -/

/-- The proof data of the pipeline on core `c`: the arrays as the region finds them, each input's buffer at its block, the
    output's at `outAt`, the invariant `inv`. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => outAt m hO c t
  Φ t := inv m hO c t.val
  q _ := fullShare
  owed _ := 0

theorem A_eq (hO : Ok m) (c : Dev nD) (w : Fin (cfgM m hO).W) : (dats m hO 0 c).A w = V m c (Pipeline.arrRef spec0 w) := by
  dsimp only [dats]

theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = outAt m hO c t := by dsimp only [dats]; try rfl

theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem Phi_eq (hO : Ok m) (c : Dev nD) (t : Fin ((cfgM m hO).N + 1)) : (dats m hO 0 c).Φ t = inv m hO c t.val := by dsimp only [dats]

/-! ## The body's obligation -/

/-- What the body is called with at point `t`, -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d)))

/-- and what it returns. -/
def bodyPost (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t))

/-- What the buffer holds after a used tile is what `Held` asks before the next point. -/
theorem held_succ (hO : Ok m) (c : Dev nD) (t : Fin (cfgM m hO).N) : Held m hO c (t.val + 1) (k0_pay1 (iblk m hO c 1 t)) := by
  intro t' ht' _
  obtain rfl : t' = t := Fin.ext (by omega)
  rfl

/-- After an unused tile nothing is asked. -/
theorem held_unused (hO : Ok m) (c : Dev nD) (t : Fin (cfgM m hO).N) (h : ¬Used (grid0.coords t 1).val (bound m)) (d6 : Vec F S7168x512 .bf16) :
    Held m hO c (t.val + 1) d6 := by
  intro t' ht' hu
  obtain rfl : t' = t := Fin.ext (by omega)
  exact absurd hu h

set_option maxHeartbeats 1600000 in
/-- The body at any point, by its three cases. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1]
  rw [show (dats m hO 0 c).owesAt () t.succ = (dats m hO 0 c).owesAt () t.castSucc from rfl,
    after0_0, after0_1, after0_2]
  rw [Phi_eq, Phi_eq, Fin.val_castSucc, Fin.val_succ]
  unfold inv
  have w0 : word0 c (tbl m 0) = bound m := word0_eq c (tbl m 0)
  by_cases hu : Used (grid0.coords t 1).val (bound m)
  · have h2 : k0_cond2 (grid0.coords t) (word0 c (tbl m 0)) = 1#1 := (cond2_iff _ _).2 (w0 ▸ hu)
    have h3 : ¬k0_cond3 (grid0.coords t) (word0 c (tbl m 0)) = 1#1 := fun h => (cond3_iff _ _).1 h (w0 ▸ hu)
    rw [show outAt m hO c t = k0_pay2 (iblk m hO c 0 t) (k0_pay1 (iblk m hO c 1 t)) from if_pos hu]
    by_cases h0 : cond0_0 (grid0.coords t) (word0 c (tbl m 0)) (wordAt c (grid0.coords t) (tbl m 0)) (wordBefore c (grid0.coords t) (tbl m 0))
    · iintro ⟨⟨⟨⟨%d6, %hd, HS0⟩, Hg⟩, HT0⟩, Ho, ⟨%d0, H0⟩, ⟨%d1, H1⟩, ⟨%d2, H2⟩⟩
      iapply (body_first c (grid0.coords t) _ _ _ _ _ _ _ _ (iblk m hO c 0 t) (iblk m hO c 1 t) d6 (tbl m 0) h0 h2 h3 Set.univ _)
      isplitl [H0]; · iexact H0
      isplitl [H1]; · iexact H1
      isplitl [H2]; · iexists _; iexact H2
      isplitl [HS0]; · iexact HS0
      isplitl [HT0]; · iexact HT0
      iintro ⟨H0, H1, H2, HS0, HT0⟩
      isplitl [HS0 Hg HT0]
      · isplitl [HS0 Hg]
        · isplitl [HS0]
          · iexists (k0_pay1 (iblk m hO c 1 t))
            isplitr; · ipureintro; exact held_succ m hO c t
            iexact HS0
          iexact Hg
        iexact HT0
      isplitl [Ho]; · iexact Ho
      isplitl [H0]; · iexact H0
      isplitl [H1]; · iexact H1
      iexact H2
    · have hn : (grid0.coords t 1).val ≠ 0 := fun h => h0 ((cond0_iff _ _ _ _).2 ⟨w0 ▸ hu, .inl h⟩)
      have hw : wordAt c (grid0.coords t) (tbl m 0) = wordBefore c (grid0.coords t) (tbl m 0) :=
        by_contra fun h => h0 ((cond0_iff _ _ _ _).2 ⟨w0 ▸ hu, .inr h⟩)
      obtain ⟨t', ht', hu', e1⟩ := weights_before m hO c t hu hn hw
      iintro ⟨⟨⟨⟨%d6, %hd, HS0⟩, Hg⟩, HT0⟩, Ho, ⟨%d0, H0⟩, ⟨%d1, H1⟩, ⟨%d2, H2⟩⟩
      have r6 := hd t' ht' hu'
      rw [e1] at r6
      subst r6
      iapply (body_later c (grid0.coords t) _ _ _ _ _ _ _ _ (iblk m hO c 0 t) (iblk m hO c 1 t) (k0_pay1 (iblk m hO c 1 t)) (tbl m 0) h0 h2 h3 Set.univ _)
      isplitl [H0]; · iexact H0
      isplitl [H1]; · iexact H1
      isplitl [H2]; · iexists _; iexact H2
      isplitl [HS0]; · iexact HS0
      isplitl [HT0]; · iexact HT0
      iintro ⟨H0, H1, H2, HS0, HT0⟩
      isplitl [HS0 Hg HT0]
      · isplitl [HS0 Hg]
        · isplitl [HS0]
          · iexists (k0_pay1 (iblk m hO c 1 t))
            isplitr; · ipureintro; exact held_succ m hO c t
            iexact HS0
          iexact Hg
        iexact HT0
      isplitl [Ho]; · iexact Ho
      isplitl [H0]; · iexact H0
      isplitl [H1]; · iexact H1
      iexact H2
  · have h2 : ¬k0_cond2 (grid0.coords t) (word0 c (tbl m 0)) = 1#1 := fun h => hu (w0 ▸ (cond2_iff _ _).1 h)
    have h3 : k0_cond3 (grid0.coords t) (word0 c (tbl m 0)) = 1#1 := (cond3_iff _ _).2 (w0.symm ▸ hu)
    have h0 : ¬cond0_0 (grid0.coords t) (word0 c (tbl m 0)) (wordAt c (grid0.coords t) (tbl m 0)) (wordBefore c (grid0.coords t) (tbl m 0)) :=
      fun h => hu (w0 ▸ ((cond0_iff _ _ _ _).1 h).1)
    rw [show outAt m hO c t = k0_pay3 from if_neg hu]
    iintro ⟨⟨⟨⟨%d6, %hd, HS0⟩, Hg⟩, HT0⟩, Ho, ⟨%d0, H0⟩, ⟨%d1, H1⟩, ⟨%d2, H2⟩⟩
    iapply (body_unused c (grid0.coords t) _ _ _ _ _ _ _ _ (iblk m hO c 0 t) (iblk m hO c 1 t) d6 (tbl m 0) h0 h2 h3 Set.univ _)
    isplitl [H0]; · iexact H0
    isplitl [H1]; · iexact H1
    isplitl [H2]; · iexists _; iexact H2
    isplitl [HS0]; · iexact HS0
    isplitl [HT0]; · iexact HT0
    iintro ⟨H0, H1, H2, HS0, HT0⟩
    isplitl [HS0 Hg HT0]
    · isplitl [HS0 Hg]
      · isplitl [HS0]
        · iexists d6
          isplitr; · ipureintro; exact held_unused m hO c t hu _
          iexact HS0
        iexact Hg
      iexact HT0
    isplitl [Ho]; · iexact Ho
    isplitl [H0]; · iexact H0
    isplitl [H1]; · iexact H1
    iexact H2

end Cert.Kernel2Ideal.Down

end
-- ==== Proof.Down.Run.lean ====
/- The launch of the expert down call: the body's obligation at every point and the run. -/
module

public import proofs.«01_k».proof.Proof.Down.Frame

@[expose] public section

set_option maxRecDepth 16384

noncomputable section

namespace Cert.Kernel2Ideal.Down

open Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body table's row at point `t`'s slots is the body at that point. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The output window is stored at every point: one of its two stores always runs. -/
theorem busy (hO : Ok m) (i : grid0.Coords) : (cfgM m hO).idle 2 i = false := by
  show (!(k0_cond2 i ((tbl m).atD 0 ![72]) == 1#1) && !(k0_cond3 i ((tbl m).atD 0 ![72]) == 1#1)) = false
  by_cases hu : Used (i 1).val ((tbl m).atD 0 ![72])
  · rw [(cond2_iff _ _).2 hu]; rfl
  · rw [(cond3_iff _ _).2 hu]; simp

/-- A choice on a bit known false takes its second branch. -/
theorem of_busy {A B : sProp 𝕄} : ∀ {b : Bool}, b = false → (B ⊢ (match b with | true => A | false => B)) := by
  rintro _ rfl; exact .rfl

theorem body_obligation (hO : Ok m) (c : Dev nD) : BodyObligation (dats (F := F) m hO 0 c) (defs₀ (F := F)) Variants.none () Set.univ := fun t => by
  rw [bigSep_W0, bigSep_W0, defs₀_row m hO]
  refine triple_restated (sound_body m hO c t) rfl .rfl fun _ => ?_
  exact sep_mono .rfl (sep_mono .rfl (sep_mono .rfl (sep_mono .rfl (of_busy (busy m hO _)))))

/-! ## The run -/

theorem inv_start (hO : Ok m) (c : Dev nD) : iprop(Pipeline.ΦA spec0 c ∗ Pipeline.ΦT pre0 (tbl m) c) ⊢ inv m hO c 0 := by
  rw [PhiT0_eq, PhiA0_eq]
  unfold inv
  iintro ⟨⟨⟨%d6, HS0⟩, Hg⟩, HT0⟩
  isplitl [HS0 Hg]
  · isplitl [HS0]
    · iexists d6
      isplitr; · ipureintro; intro t ht; exact absurd ht (Nat.succ_ne_zero _)
      iexact HS0
    iexact Hg
  iexact HT0

theorem inv_end (hO : Ok m) (c : Dev nD) (n : ℕ) : inv m hO c n ⊢ (Pipeline.ΦA spec0 c : sProp 𝕄) := by
  rw [PhiA0_eq]
  unfold inv
  iintro ⟨⟨⟨%d6, %hd, HS0⟩, Hg⟩, HT0⟩
  isplitl [HS0]
  · iexists d6; iexact HS0
  iexact Hg

set_option backward.isDefEq.respectTransparency.types false in
/-- The launch: every execution terminates with the arrays as the proof data says and every semaphore counter at zero. -/
theorem run_main_quiescent (hO : Ok m) : θ_run defs (onTc (τ := τ) (main (F := F))) (s₀ m ρ)
    (fun r => Pipeline.FramePost (Pipeline.pin pcfgs fun _ => adm m hO) (dats m hO) 0 (V m) r ∧ r.2.sem = fun _ => 0) :=
  Pipeline.θ_run_frameP_track (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m)
    (hin := fun c => inv_start m hO c) (hout := fun c => inv_end m hO c _)

end Cert.Kernel2Ideal.Down

end
-- ==== Proof.Down.Result.lean ====
/- The output array of the expert down call after the run: at each entry what the point that writes its block left there. -/
module

public import proofs.«01_k».proof.Proof.Down.Run
public import Idealize.ShloMosaic.Lib.Pipeline.Value
public import Idealize.ShloMosaic.Lib.Pipeline.Cells

@[expose] public section

set_option maxRecDepth 16384

noncomputable section

namespace Cert.Kernel2Ideal.Down

open Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The point that writes the block of entry `i` back, -/
def pointOf (i : S36864x2048.Idx) : Fin grid0.N :=
  ⟨(i 1).val / 512 * 72 + (i 0).val / 512, by
    rw [N_0]; have h0 : (i 0).val < 36864 := (i 0).isLt; have h1 : (i 1).val < 2048 := (i 1).isLt; omega⟩

/-- and the entry's place in the block. -/
def placeIn (i : S36864x2048.Idx) : S512x512.Idx := fun a => match a with
  | ⟨0, _⟩ => ⟨(i 0).val % 512, Nat.mod_lt _ (by decide)⟩
  | ⟨1, _⟩ => ⟨(i 1).val % 512, Nat.mod_lt _ (by decide)⟩

/-- The array the run leaves. -/
def result (hO : Ok m) (c : Dev nD) : Buf (Elt F) ((c : Thread nD τ).loc main_v0) := fun i => outAt m hO c (pointOf i) (placeIn i)

/-- The block indices of the output window. -/
theorem index2 (i : grid0.Coords) : cc0_transform_2 i 0 = (i 1).val ∧ cc0_transform_2 i 1 = (i 0).val :=
  ⟨off1_eq i, colWord i⟩

/-- What a point writes back is its block of `result`. -/
theorem flushed_eq (hO : Ok m) (c : Dev nD) (t : Fin (cfgM m hO).N) :
    (dats m hO 0 c).flushed 2 t = (((cfgM m hO).win 2).blk t).view.read (Elt F) (result m hO c) := by
  show ((cfgM m hO).win 2).cut (grid0.coords t) ((dats m hO 0 c).after 2 t) = _
  rw [after0_2]
  obtain ⟨e0, e1⟩ := coords_eq t
  obtain ⟨f0, f1⟩ := index2 (grid0.coords t)
  refine funext fun (y : S512x512.Idx) => ?_
  have hy0 : (y 0).val < 512 := (y 0).isLt
  have hy1 : (y 1).val < 512 := (y 1).isLt
  obtain ⟨e, he⟩ : ∃ e : S36864x2048.Idx, e = (((cfgM m hO).win 2).blk t).view.emb y := ⟨_, rfl⟩
  have hb0 : (e 0).val = cc0_transform_2 (grid0.coords t) 0 * 512 + 1 * (y 0).val := by rw [he]; rfl
  have hb1 : (e 1).val = cc0_transform_2 (grid0.coords t) 1 * 512 + 1 * (y 1).val := by rw [he]; rfl
  rw [f0, e1] at hb0
  rw [f1, e0] at hb1
  have ht : t.val < 288 := lt_of_lt_of_eq t.isLt N_0
  have hp : pointOf e = t := by
    apply Fin.ext
    show (e 1).val / 512 * 72 + (e 0).val / 512 = t.val
    rw [hb0, hb1]
    omega
  have hl : placeIn e = y := by
    funext a; apply Fin.ext
    match a with
    | ⟨0, _⟩ => show (e 0).val % 512 = (y 0).val; rw [hb0]; omega
    | ⟨1, _⟩ => show (e 1).val % 512 = (y 1).val; rw [hb1]; omega
  have hr : result m hO c e = outAt m hO c t y := by
    unfold result
    rw [hp, hl]
  rw [he] at hr
  exact hr.symm

/-- An entry of a rectangle of the result array is in the view of that rectangle. -/
theorem mem_slice (R : Rect S36864x2048) (i : S36864x2048.Idx) (h : i ∈ R.set) : i ∈ ((View.whole main_v0).slice R).set := by
  rw [View.set_slice_whole]; exact h

/-- Every entry is in the block of the point that writes it. -/
theorem covered (hO : Ok m) (i : S36864x2048.Idx) : i ∈ (((cfgM m hO).win 2).blk (pointOf i)).view.set := by
  refine mem_slice (((cfgM m hO).win 2).rect (pointOf i)) i ?_
  obtain ⟨e0, e1⟩ := coords_eq (pointOf i)
  obtain ⟨f0, f1⟩ := index2 (grid0.coords (pointOf i))
  have hv : (pointOf i).val = (i 1).val / 512 * 72 + (i 0).val / 512 := rfl
  have h0 : (i 0).val < 36864 := (i 0).isLt
  have h1 : (i 1).val < 2048 := (i 1).isLt
  refine (LoadRect.mem_set _).2 fun a => ?_
  match a with
  | ⟨0, _⟩ =>
    refine ⟨(i 0).val % 512, Nat.mod_lt _ (by decide), ?_⟩
    show (i 0).val = cc0_transform_2 (grid0.coords (pointOf i)) 0 * 512 + 1 * ((i 0).val % 512)
    rw [f0, e1]; omega
  | ⟨1, _⟩ =>
    refine ⟨(i 1).val % 512, Nat.mod_lt _ (by decide), ?_⟩
    show (i 1).val = cc0_transform_2 (grid0.coords (pointOf i)) 1 * 512 + 1 * ((i 1).val % 512)
    rw [f1, e0]; omega

/-- The output window is written back at every point: each has a block of its own. -/
theorem final (hO : Ok m) (c : Dev nD) : (dats m hO 0 c).arrAt 2 (cfgM m hO).N = result m hO c :=
  (dats m hO 0 c).arrAt_eq_of_cover 2 _ (fun t _ => flushed_eq m hO c t) (fun i => ⟨pointOf i, flush0_2 (adm m hO) _, covered m hO i⟩)

/-- The run, read: the result array at `result`, the arguments as launched, the counters at zero. -/
theorem run (hO : Ok m) : θ_run defs (onTc (τ := τ) (main (F := F))) ⟨m, fun _ => 0, ρ⟩ fun r => (∀ c : Dev nD,
      r.2.mem ((c.tc : Thread nD τ).loc main_v0) = result m hO c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0 :=
  (θ_run defs _ _).mono (fun r h => ⟨fun c => ⟨((h.1 c).1 2).trans (final m hO c),
      ((h.1 c).2 main_arg0 (by decide : main_arg0 ∈ Pipeline.restRefs sig spec0)).trans (V_main_arg0 m c),
      ((h.1 c).1 0).trans (((dats m hO 0 c).arrAt_in 0 rfl _).trans ((A_eq m hO c 0).trans (V_main_arg1 m c))),
      ((h.1 c).1 1).trans (((dats m hO 0 c).arrAt_in 1 rfl _).trans ((A_eq m hO c 1).trans (V_main_arg2 m c)))⟩, h.2⟩)
    (run_main_quiescent m ρ hO)

end Cert.Kernel2Ideal.Down

end
-- ==== Proof.Down.Value.lean ====
/- What the expert down call leaves, entry by entry, over the extended reals. -/
module

public import proofs.«01_k».proof.Proof.Down.Result
public import proofs.«01_k».proof.Proof.Experts.Spec
public import Idealize.ShloMosaic.Lib.Pointwise

@[expose] public section

set_option maxRecDepth 16384

noncomputable section

namespace Cert.Kernel2Ideal.Down

open Cert.Kernel2Ideal.Gen Cert.Experts
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- The stored weights are the block's. -/
theorem pay1_apply (w : Vec Ideal S1x7168x512 .f32) (j0 : Fin 7168) (j1 : Fin 512) : k0_pay1 (F := Ideal) w (ix2 j0 j1) = w (ix3 0 j0 j1) := by
  pointwise [k0_pay1]

/-- What a point in use stores. -/
theorem pay2_apply (x : Vec Ideal S512x7168 .bf16) (w : Vec Ideal S7168x512 .bf16) (j0 : Fin 512) (j1 : Fin 512) :
    k0_pay2 (F := Ideal) x w (ix2 j0 j1) = ∑ k : Fin 7168, x (ix2 j0 k) * w (ix2 k j1) := by
  pointwise [k0_pay2]

/-- What any other point stores. -/
theorem pay3_apply (j : S512x512.Idx) : k0_pay3 (F := Ideal) j = (0 : EReal) := by
  pointwise [k0_pay3]

section

variable {F : FTy → Type} [FloatOps F] (m : (ℓ : Loc nD τ sig) → Buf (Elt F) ℓ) (c : Dev nD)

/-- The table's words as the two programs' arguments name them. -/
theorem word_eq (n : ℕ) (h : n < 72) : (wd (tbl m 0) n (by omega) : BitVec 32) = word (m ((c : Thread nD τ).loc main_arg0)) ⟨n, h⟩ := by
  obtain rfl : c = 0 := Subsingleton.elim _ _
  show m _ _ = m _ _
  congr 1
  funext a
  obtain rfl : a = 0 := Subsingleton.elim _ _
  rfl

/-- The table's last word likewise. -/
theorem last_eq : (bound m : BitVec 32) = (m ((c : Thread nD τ).loc main_arg0) : S73.Idx → BitVec 32) (ix1 72) := by
  obtain rfl : c = 0 := Subsingleton.elim _ _
  show m _ _ = m _ _
  congr 1
  funext a
  obtain rfl : a = 0 := Subsingleton.elim _ _
  rfl

end

variable (m : (ℓ : Loc nD τ sig) → Buf (Elt Ideal) ℓ) (hO : Ok m) (c : Dev nD)

/-- The point that writes entry `i`: its column block and its tile. -/
theorem coords_pointOf (i : S36864x2048.Idx) :
    (grid0.coords (pointOf i) 1).val = (i 0).val / 512 ∧ (grid0.coords (pointOf i) 0).val = (i 1).val / 512 := by
  have h0 : (i 0).val < 36864 := (i 0).isLt
  have h1 : (i 1).val < 2048 := (i 1).isLt
  obtain ⟨ha, hb⟩ := coords_eq (pointOf i)
  rw [ha, hb]
  show ((i 1).val / 512 * 72 + (i 0).val / 512) % 72 = _ ∧ ((i 1).val / 512 * 72 + (i 0).val / 512) / 72 = _
  omega

/-- Entry `(r, k)` of the block of rows that the point of entry `i` reads. -/
theorem rows_apply (i : S36864x2048.Idx) (j0 : Fin 36864) (hi : (i 0).val = j0.val) (k : Fin 7168) :
    (iblk m hO c 0 (pointOf i) : S512x7168.Idx → EReal) (ix2 ⟨j0.val % 512, Nat.mod_lt _ (by omega)⟩ k)
    = (m ((c : Thread nD τ).loc main_arg1) : S36864x7168.Idx → EReal) (ix2 j0 k) := by
  obtain ⟨h1, h0⟩ := coords_pointOf i
  refine (iblk0_apply m hO c (pointOf i) _).trans (congrArg (m ((c : Thread nD τ).loc main_arg1) : S36864x7168.Idx → EReal) ?_)
  funext a
  apply Fin.ext
  match a with
  | ⟨0, _⟩ =>
    show (grid0.coords (pointOf i) 1).val * 512 + j0.val % 512 = j0.val
    rw [h1, hi]; omega
  | ⟨1, _⟩ => rfl

/-- The place in a weight array of the block entry `(k, r)` that the point of entry `i` reads. -/
theorem weight_place (i : S36864x2048.Idx) (j0 : Fin 36864) (j1 : Fin 2048) (hi0 : (i 0).val = j0.val) (hi1 : (i 1).val = j1.val) (e : Fin 8)
    (he : (word (m ((c : Thread nD τ).loc main_arg0)) (tile j0)).toNat = e.val) (k : Fin 7168) :
    weightAt (expert m (grid0.coords (pointOf i) 1).val (tile_lt _)) (expert_lt hO (grid0.coords (pointOf i))) (grid0.coords (pointOf i) 0).val (col_lt _)
      (ix3 0 k ⟨j1.val % 512, Nat.mod_lt _ (by omega)⟩) = ix3 e k j1 := by
  obtain ⟨h1, h0⟩ := coords_pointOf i
  funext a
  apply Fin.ext
  match a with
  | ⟨0, _⟩ =>
    show expert m (grid0.coords (pointOf i) 1).val (tile_lt _) = e.val
    rw [← he]
    refine congrArg BitVec.toNat ((word_eq m c _ (tile_lt _)).trans ?_)
    congr 2
    rw [h1, hi0]
  | ⟨1, _⟩ => rfl
  | ⟨2, _⟩ =>
    show (grid0.coords (pointOf i) 0).val * 512 + j1.val % 512 = j1.val
    rw [h0, hi1]; omega

/-- The stored weights of the point of entry `i`, in column `j1`, are its expert's. -/
theorem weights_apply (i : S36864x2048.Idx) (j0 : Fin 36864) (j1 : Fin 2048) (hi0 : (i 0).val = j0.val) (hi1 : (i 1).val = j1.val) (e : Fin 8)
    (he : (word (m ((c : Thread nD τ).loc main_arg0)) (tile j0)).toNat = e.val) (k : Fin 7168) :
    k0_pay1 (F := Ideal) (iblk m hO c 1 (pointOf i)) (ix2 k ⟨j1.val % 512, Nat.mod_lt _ (by omega)⟩)
    = (m ((c : Thread nD τ).loc main_arg2) : S8x7168x2048.Idx → EReal) (ix3 e k j1) :=
  (pay1_apply (iblk m hO c 1 (pointOf i)) k ⟨j1.val % 512, Nat.mod_lt _ (by omega)⟩).trans
    ((iblk1_apply m hO c (pointOf i) (ix3 0 k ⟨j1.val % 512, Nat.mod_lt _ (by omega)⟩)).trans
      (congrArg (m ((c : Thread nD τ).loc main_arg2) : S8x7168x2048.Idx → EReal) (weight_place m hO c i j0 j1 hi0 hi1 e he k)))

/-- An entry's place in its block. -/
theorem placeIn_eq (i : S36864x2048.Idx) (j0 : Fin 36864) (j1 : Fin 2048) (hi0 : (i 0).val = j0.val) (hi1 : (i 1).val = j1.val) :
    placeIn i = ix2 ⟨j0.val % 512, Nat.mod_lt _ (by omega)⟩ ⟨j1.val % 512, Nat.mod_lt _ (by omega)⟩ := by
  funext a
  apply Fin.ext
  match a with
  | ⟨0, _⟩ => exact congrArg (· % 512) hi0
  | ⟨1, _⟩ => exact congrArg (· % 512) hi1

/-- The array the run leaves, entry by entry: the expert's product where the row's tile is in use, zero elsewhere. -/
theorem result_apply (i : S36864x2048.Idx) (j0 : Fin 36864) (j1 : Fin 2048) (hi0 : (i 0).val = j0.val) (hi1 : (i 1).val = j1.val) (e : Fin 8)
    (he : (word (m ((c : Thread nD τ).loc main_arg0)) (tile j0)).toNat = e.val) :
    (result m hO c : S36864x2048.Idx → EReal) i = if InUse (m ((c : Thread nD τ).loc main_arg0)) (tile j0) then
      prodAt (m ((c : Thread nD τ).loc main_arg1)) (m ((c : Thread nD τ).loc main_arg2)) e j0 j1 else (0 : EReal) := by
  obtain ⟨h1, h0⟩ := coords_pointOf i
  unfold result outAt
  have hu : Used (grid0.coords (pointOf i) 1).val (bound m) ↔ InUse (m ((c : Thread nD τ).loc main_arg0)) (tile j0) := by
    unfold Used InUse
    rw [h1, last_eq m c, hi0]
  by_cases h : InUse (m ((c : Thread nD τ).loc main_arg0)) (tile j0)
  · rw [if_pos h, if_pos (hu.2 h), placeIn_eq i j0 j1 hi0 hi1]
    refine (pay2_apply _ _ _ _).trans ?_
    unfold prodAt
    exact Finset.sum_congr rfl fun k _ =>
      congrArg₂ (fun a b : EReal => a * b) (rows_apply m hO c i j0 hi0 k) (weights_apply m hO c i j0 j1 hi0 hi1 e he k)
  · rw [if_neg h, if_neg (fun x => h (hu.1 x))]
    exact pay3_apply (placeIn i)

end Cert.Kernel2Ideal.Down
-- ==== Proof.Down.Ref.lean ====
/- The reference of the expert down call, entry by entry. -/
module

public import proofs.«01_k».proof.Proof.Gen.Reference2Ideal.Run
public import proofs.«01_k».proof.Proof.Experts.Spec
public import Idealize.ShloMosaic.Lib.Pointwise

@[expose] public section

set_option maxRecDepth 16384

noncomputable section

namespace Cert.Reference2Ideal.Down

open Cert.Reference2Ideal Cert.Reference2Ideal.Gen Cert.Reference2Ideal.Value Cert.Experts
open Idealize.ShloMosaic Idealize.ShloMosaic.TcCoe Idealize.SL.Sem

/-- The reference's array of gates, of the table. -/
def gates (tab : IVec S73 32) : FVec Ideal S36864x8 .f32 :=
  shapeCast _ (broadcastInDim S72x512x8 ![0, 2] bcast_S72x8_S72x512x8_0_2 (select (broadcastInDim S72x8 ![0, 1] bcast_S72x1_S72x8_0_1 (broadcastInDim S72x1 ![0] bcast_S72_S72x1_0 (cmpi .slt (iotaInDim S72 32 0) (broadcastInDim S72 ![] bcast_S_S72 (shapeCast _ (extractStridedSlice S1 ![72] tab slices_S73_S1_72) shapeCasts_S1_S_))))) (uitofp .f32 (cmpi .eq (broadcastInDim S72x8 ![0, 1] bcast_S72x1_S72x8_0_1 (broadcastInDim S72x1 ![0] bcast_S72_S72x1_0 (extractStridedSlice S72 ![0] tab slices_S73_S72_0))) (broadcastInDim S72x8 ![0, 1] bcast_S1x8_S72x8_0_1 (iotaInDim S1x8 32 1)))) (broadcastInDim S72x8 ![] bcast_S_S72x8 (id (constant S_ .f32 0x00000000#32))))) shapeCasts_S72x512x8_S36864x8

/-- The gates at an entry. -/
theorem gates_apply (tab : IVec S73 32) (e : Fin 8) (j0 : Fin 36864) : gates tab (ix2 j0 e) = gate tab e.val j0 := by
  pointwise [gates]
  have h0 : (id (constant (F := Ideal) S_ .f32 0#32) : FVec Ideal S_ .f32) ix0 = (0 : EReal) := by
    show constant (F := Ideal) S_ .f32 0#32 ix0 = (0 : EReal)
    pointwise []
  rw [h0]
  exact gate_eq _ _ _

/-- A product of the hidden rows with one expert's weights, at an entry. -/
theorem prod_apply (x : FVec Ideal S36864x7168 .bf16) (w : FVec Ideal S8x7168x2048 .f32) (e : ℕ) (he : e < 8)
    (h : S8x7168x2048.Slices ![e, 0, 0] S1x7168x2048) (j0 : Fin 36864) (j1 : Fin 2048) :
    Host.dotGeneral dot_S36864x7168_S7168x2048_S36864x2048_1_0_0_1_n_n none (extf .f32 x bitsLt_bf16_f32)
      (shapeCast S7168x2048 (extractStridedSlice S1x7168x2048 ![e, 0, 0] w h) shapeCasts_S1x7168x2048_S7168x2048) (ix2 j0 j1)
    = prodAt x w ⟨e, he⟩ j0 j1 := by
  pointwise [prodAt]

/-- The gated term of expert `e` at an entry. -/
def term (tab : IVec S73 32) (x : FVec Ideal S36864x7168 .bf16) (w : FVec Ideal S8x7168x2048 .f32) (j0 : Fin 36864) (j1 : Fin 2048) (e : Fin 8) : EReal :=
  gate tab e.val j0 * prodAt x w e j0 j1

/-- One expert's gated term at an entry. -/
theorem term_apply (tab : IVec S73 32) (x : FVec Ideal S36864x7168 .bf16) (w : FVec Ideal S8x7168x2048 .f32) (j0 : Fin 36864) (j1 : Fin 2048)
    (e : ℕ) (he : e < 8) (h : S36864x8.Slices ![0, e] S36864x1) (h' : S8x7168x2048.Slices ![e, 0, 0] S1x7168x2048) :
    mulf (broadcastInDim S36864x2048 ![0, 1] bcast_S36864x1_S36864x2048_0_1 (extractStridedSlice S36864x1 ![0, e] (gates tab) h))
      (Host.dotGeneral dot_S36864x7168_S7168x2048_S36864x2048_1_0_0_1_n_n none (extf .f32 x bitsLt_bf16_f32)
        (shapeCast S7168x2048 (extractStridedSlice S1x7168x2048 ![e, 0, 0] w h') shapeCasts_S1x7168x2048_S7168x2048)) (ix2 j0 j1)
    = term tab x w j0 j1 ⟨e, he⟩ := by
  unfold term
  refine mul_at _ _ _ ?_ (prod_apply x w e he h' j0 j1)
  rw [← gates_apply tab ⟨e, he⟩ j0]
  pointwise []

/-- The array the sum starts from. -/
theorem zero_apply (j : S36864x2048.Idx) :
    (broadcastInDim S36864x2048 ![] bcast_S_S36864x2048 (constant (F := Ideal) S_ .f32 0x00000000#32) : FVec Ideal S36864x2048 .f32) j = (0 : EReal) := by
  pointwise []

/-- The eight experts' sum at an entry. -/
theorem sum_apply (m : (ℓ : Loc nD τ sig) → Buf (Elt Ideal) ℓ) (c : Dev nD) (j0 : Fin 36864) (j1 : Fin 2048) :
    res_main_v68 (F := Ideal) m c (ix2 j0 j1)
    = gated (fun e => gate (m ((c.tc : Thread nD τ).loc main_arg0)) e.val j0)
        fun e => prodAt (m ((c.tc : Thread nD τ).loc main_arg1)) (m ((c.tc : Thread nD τ).loc main_arg2)) e j0 j1 := by
  unfold res_main_v68
  exact add_at _ _ _ (add_at _ _ _ (add_at _ _ _ (add_at _ _ _ (add_at _ _ _ (add_at _ _ _ (add_at _ _ _ (add_at _ _ _ (zero_apply _)
    (term_apply (m ((c.tc : Thread nD τ).loc main_arg0)) (m ((c.tc : Thread nD τ).loc main_arg1)) (m ((c.tc : Thread nD τ).loc main_arg2)) j0 j1 0 (by omega) _ _))
    (term_apply (m ((c.tc : Thread nD τ).loc main_arg0)) (m ((c.tc : Thread nD τ).loc main_arg1)) (m ((c.tc : Thread nD τ).loc main_arg2)) j0 j1 1 (by omega) _ _))
    (term_apply (m ((c.tc : Thread nD τ).loc main_arg0)) (m ((c.tc : Thread nD τ).loc main_arg1)) (m ((c.tc : Thread nD τ).loc main_arg2)) j0 j1 2 (by omega) _ _))
    (term_apply (m ((c.tc : Thread nD τ).loc main_arg0)) (m ((c.tc : Thread nD τ).loc main_arg1)) (m ((c.tc : Thread nD τ).loc main_arg2)) j0 j1 3 (by omega) _ _))
    (term_apply (m ((c.tc : Thread nD τ).loc main_arg0)) (m ((c.tc : Thread nD τ).loc main_arg1)) (m ((c.tc : Thread nD τ).loc main_arg2)) j0 j1 4 (by omega) _ _))
    (term_apply (m ((c.tc : Thread nD τ).loc main_arg0)) (m ((c.tc : Thread nD τ).loc main_arg1)) (m ((c.tc : Thread nD τ).loc main_arg2)) j0 j1 5 (by omega) _ _))
    (term_apply (m ((c.tc : Thread nD τ).loc main_arg0)) (m ((c.tc : Thread nD τ).loc main_arg1)) (m ((c.tc : Thread nD τ).loc main_arg2)) j0 j1 6 (by omega) _ _))
    (term_apply (m ((c.tc : Thread nD τ).loc main_arg0)) (m ((c.tc : Thread nD τ).loc main_arg1)) (m ((c.tc : Thread nD τ).loc main_arg2)) j0 j1 7 (by omega) _ _)

/-- What the reference's result is shown to hold. -/
def result (tab : S73.Idx → BitVec 32) (x : S36864x7168.Idx → EReal) (w : S8x7168x2048.Idx → EReal) : S36864x2048.Idx → EReal := fun j =>
  gated (fun e => gate tab e.val (j 0)) fun e => prodAt x w e (j 0) (j 1)

/-- The reference runs and leaves that array, its arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v68)
        = result (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun r h c => ⟨(h c).1.trans (funext fun j => ?_), (h c).2⟩) (Value.run (F := Ideal) m ρ)
  obtain ⟨j0, j1, rfl⟩ : ∃ (j0 : Fin 36864) (j1 : Fin 2048), j = ix2 j0 j1 := ⟨j 0, j 1, eq_ix2 j⟩
  exact sum_apply m c j0 j1

end Cert.Reference2Ideal.Down
-- ==== Proof.Down.Claims.lean ====
/- The claims about the expert down call: the frames, and that over the extended reals it computes the reference. -/
module

public import proofs.«01_k».proof.Defs
public import proofs.«01_k».proof.Proof.Gen.Kernel2
public import proofs.«01_k».proof.Proof.Gen.Kernel2.Skeleton
public import proofs.«01_k».proof.Proof.Gen.Kernel2.Launch
public import proofs.«01_k».proof.Proof.Gen.Pre_experts_in_range2
public import proofs.«01_k».proof.Proof.Down.Value
public import proofs.«01_k».proof.Proof.Down.Ref
public import Idealize.ShloMosaic.Adequacy
public import Idealize.ShloMosaic.Init

@[expose] public section

set_option maxRecDepth 16384

noncomputable section

namespace Cert.Proof.Down

open Idealize.ShloMosaic Idealize.ShloMosaic.TcCoe Idealize.SL.Sem

/-- The predicate, read at a tile: the tile's expert number is below eight. -/
theorem word_lt {F : FTy → Type} [FloatOps F] (tab : IVec Cert.Pre_experts_in_range2.S73 32) (x : FVec F Cert.Pre_experts_in_range2.S36864x7168 .bf16)
    (w : FVec F Cert.Pre_experts_in_range2.S8x7168x2048 .f32) (h : Cert.Pre_experts_in_range2.fn (F := F) tab x w = fun _ => 1#1) (n : Fin 72) :
    (Cert.Experts.word tab n).toNat < 8 := by
  have andi_one (a b : BitVec 1) : IntOp.andi a b = 1#1 ↔ a = 1#1 ∧ b = 1#1 := by revert a b; decide
  have hk := congrFun h (ix1 n)
  simp only [Cert.Pre_experts_in_range2.fn, constantI, broadcastInDim, cmpi, andi, andi_one, extractStridedSlice] at hk
  have at_n (P : BitVec 32 → Prop) (I : Cert.Pre_experts_in_range2.S73.Idx) (hP : P (tab I)) (hI : (I 0).val = n.val) : P (Cert.Experts.word tab n) := by
    have e : I = ix1 n.castSucc := by
      funext a
      obtain rfl : a = 0 := Subsingleton.elim _ _
      exact Fin.ext hI
    subst e; exact hP
  have h1 := at_n (fun v => IntOp.cmpi .sge v 0#32 = 1#1) _ hk.1 (Nat.zero_add _)
  have h2 := at_n (fun v => IntOp.cmpi .slt v 8#32 = 1#1) _ hk.2 (Nat.zero_add _)
  generalize Cert.Experts.word tab n = w at h1 h2
  clear hk at_n h
  simp only [IntOp.cmpi] at h1 h2
  have bit (b : Bool) (hb : BitVec.ofBool b = 1#1) : b = true := by revert hb; cases b <;> decide
  have h1 := bit _ h1
  have h2 := bit _ h2
  simp only [BitVec.sle, BitVec.slt, decide_eq_true_eq] at h1 h2
  have e0 : (0#32).toInt = 0 := by decide
  have e8 : (8#32).toInt = 8 := by decide
  rw [e0] at h1
  rw [e8] at h2
  rw [BitVec.toInt_eq_toNat_cond] at h1 h2
  have := w.isLt
  split at h1 <;> split at h2 <;> omega

/-- The side condition of the launch, from the predicate. -/
theorem ok_of_pre {F : FTy → Type} [FloatOps F] (m : (ℓ : Loc Cert.Kernel2Ideal.nD Cert.Kernel2Ideal.τ Cert.Kernel2Ideal.sig) → Buf (Elt F) ℓ)
    (h : ∀ n : Fin 72, (Cert.Experts.word (m (((0 : Dev Cert.Kernel2Ideal.nD) : Thread Cert.Kernel2Ideal.nD Cert.Kernel2Ideal.τ).loc Cert.Kernel2Ideal.main_arg0)) n).toNat < 8) :
    Cert.Kernel2Ideal.Down.Ok m :=
  Cert.Kernel2Ideal.Down.ok_of_expert_lt m fun n hn => by
    have hw := Cert.Kernel2Ideal.Down.word_eq m 0 n hn
    show (Cert.Kernel2Ideal.Down.wd _ n _).toNat < 8
    rw [hw]; exact h ⟨n, hn⟩

/-- The body tables of the two programs, which have the same text. -/
theorem defs₀_eq : Cert.Kernel2.defs₀ (F := Bits) = Cert.Kernel2Ideal.defs₀ (F := Bits) := by
  unfold Cert.Kernel2.defs₀ Cert.Kernel2Ideal.defs₀
  refine congrArg (Defs.onTc (nD := Cert.Kernel2.nD) (τ := Cert.Kernel2.τ) (sig := Cert.Kernel2.sig) (Val := Elt Bits) (Λ := Cert.Kernel2.Λ₀)) ?_
  funext l p
  match l, p with
  | 0, (t, s) => rfl
  | ⟨n + 1, h⟩, _ => exact absurd h (Nat.not_lt.2 (Nat.le_add_left _ _))

/-- The two programs' definitions. -/
theorem defs_eq : Cert.Kernel2.defs (F := Bits) = Cert.Kernel2Ideal.defs (F := Bits) :=
  congrArg (Pipeline.defs (Cert.Kernel2Ideal.pcfgs (F := Bits))) defs₀_eq

/-- The kernel's frame. -/
theorem frame_kernel : Cert.quiescent_Kernel2 := fun m ρ h => by
  have hO : Cert.Kernel2Ideal.Down.Ok (F := Bits) m := ok_of_pre (F := Bits) m (word_lt (F := Bits) _ _ _ (h 0))
  have r := Cert.Kernel2Ideal.Down.run (F := Bits) m ρ hO
  rw [← defs_eq] at r
  exact (θ_run Cert.Kernel2.defs _ _).mono (fun _ h => ⟨fun c => (h.1 c).2, h.2⟩) r

/-- The idealized kernel's frame. -/
theorem frame_kernelIdeal : Cert.quiescent_Kernel2Ideal := fun m ρ h =>
  (θ_run Cert.Kernel2Ideal.defs _ _).mono (fun _ h => ⟨fun c => (h.1 c).2, h.2⟩)
    (Cert.Kernel2Ideal.Down.run (F := Ideal) m ρ (ok_of_pre m (word_lt _ _ _ (h 0))))

/-- The reference's frame. -/
theorem frame_referenceIdeal : Cert.quiescent_Reference2Ideal := fun m ρ _ =>
  (θ_run Cert.Reference2Ideal.defs _ _).mono (fun r h => ⟨fun c => (h c).2, Idealize.ShloMosaic.sem_eq_zero_of_no_sems (by decide) r.2⟩)
    (Cert.Reference2Ideal.Down.run m ρ)

/-- The same under the precondition. -/
theorem frame_referenceIdeal_pre : Cert.quiescent_Reference2Ideal_pre_experts_in_range2 := fun m ρ _ => frame_referenceIdeal m ρ trivial

/-- The kernel computes the reference over the extended reals. -/
theorem algebraic : Cert.algebraic_Kernel2Ideal_Reference2Ideal := fun m ρ m' ρ' h hm => by
  have hw := fun c => word_lt _ _ _ (h c)
  have hO := ok_of_pre m (hw 0)
  refine ⟨fun c => Cert.Kernel2Ideal.Down.result m hO c, (θ_run Cert.Kernel2Ideal.defs _ _).mono (fun _ h => h.1) (Cert.Kernel2Ideal.Down.run (F := Ideal) m ρ hO),
    (θ_run Cert.Reference2Ideal.defs _ _).mono (fun r h c => ⟨(h c).1.trans ?_, (h c).2⟩) (Cert.Reference2Ideal.Down.run m' ρ')⟩
  obtain ⟨h0, h1, h2⟩ := hm c
  rw [h0, h1, h2]
  funext i
  exact (Cert.Experts.gated_eq _ (i 0) ⟨_, hw c (Cert.Experts.tile (i 0))⟩ rfl _).trans
    (Cert.Kernel2Ideal.Down.result_apply m hO c i (i 0) (i 1) rfl rfl ⟨_, hw c (Cert.Experts.tile (i 0))⟩ rfl).symm

end Cert.Proof.Down
-- ==== Proof.Dense.Spec.lean ====
/- The dense products over the extended reals. -/
module

public import Idealize.ShloMosaic.Lib.Pointwise

@[expose] public section

noncomputable section

namespace Cert.Dense

open Idealize.ShloMosaic

/-- Entry `(r, j)` of the product of `x` and `w`. -/
def prodAt {M K N : ℕ} (x : (⟨2, ![M, K]⟩ : Shape).Idx → EReal) (w : (⟨2, ![K, N]⟩ : Shape).Idx → EReal) (r : Fin M) (j : Fin N) : EReal :=
  ∑ k : Fin K, x (ix2 r k) * w (ix2 k j)

/-- The reciprocal root mean square of a row of 2048 entries, `1e-6` added under the root. -/
def rmsAt (v : Fin 2048 → EReal) : EReal :=
  Ideal.rsqrt (Ideal.div (∑ k, v k * v k) (Ideal.ofBits .f32 0x45000000#32) + Ideal.ofBits .f32 0x358637BD#32)

/-- An entry of the normalised rows of `x`, times the gain `g`. -/
def normAt {M : ℕ} (x : (⟨2, ![M, 2048]⟩ : Shape).Idx → EReal) (g : (⟨1, ![2048]⟩ : Shape).Idx → EReal) (r : Fin M) (k : Fin 2048) : EReal :=
  x (ix2 r k) * rmsAt (fun k => x (ix2 r k)) * g (ix1 k)

/-- Entry `(r, j)` of the product of the normalised rows of `x` and `w`. -/
def normProdAt {M N : ℕ} (x : (⟨2, ![M, 2048]⟩ : Shape).Idx → EReal) (g : (⟨1, ![2048]⟩ : Shape).Idx → EReal)
    (w : (⟨2, ![2048, N]⟩ : Shape).Idx → EReal) (r : Fin M) (j : Fin N) : EReal :=
  ∑ k : Fin 2048, normAt x g r k * w (ix2 k j)

/-- The SiLU of `a` times `b`. -/
def gated (a b : EReal) : EReal := a * Ideal.logistic a * b

/-- An entry of a head's 128 entries `v`, normalised and times the gain `g`. -/
def headAt (v g : Fin 128 → EReal) (d : Fin 128) : EReal :=
  v d * Ideal.rsqrt (Ideal.div (∑ k, v k * v k) (Ideal.ofBits .f32 0x43000000#32) + Ideal.ofBits .f32 0x358637BD#32) * g d

/-- Column `n` of the input weights, zero beyond them. -/
def colAt (w : (⟨2, ![2048, 6736]⟩ : Shape).Idx → EReal) (k : Fin 2048) (n : ℕ) : EReal :=
  if h : n < 6736 then w (ix2 k ⟨n, h⟩) else 0

/-- The input weights' column that column `j` of the projection takes, 6736 for the padding: the retention's queries, keys, values and gates, the
attention's queries, the indexer's queries, the attention's keys and values, the indexer's keys and weights, padding. -/
def src (j : ℕ) : ℕ :=
  if j < 4096 then 2640 + j else if j < 5120 then j - 4096 else if j < 6144 then 1536 + (j - 5120) else if j < 6656 then 1024 + (j - 6144)
  else if j < 6736 then 2560 + (j - 6656) else 6736

/-- Entry `(r, j)` of the projection of the normalised rows, before the heads are normalised. -/
def inAt {M : ℕ} (x : (⟨2, ![M, 2048]⟩ : Shape).Idx → EReal) (g : (⟨1, ![2048]⟩ : Shape).Idx → EReal)
    (w : (⟨2, ![2048, 6736]⟩ : Shape).Idx → EReal) (r : Fin M) (j : ℕ) : EReal :=
  ∑ k : Fin 2048, normAt x g r k * colAt w k (src j)

theorem zeros : (![0, 0] : Fin 2 → ℕ) = fun _ => 0 := funext fun a => by fin_cases a <;> rfl

end Cert.Dense
-- ==== Proof.Dense.GateUp.lean ====
/- The dense layer's gate and up projections, entry by entry, over the extended reals. -/
module

public import proofs.«01_k».proof.Proof.Gen.Kernel3Ideal.Value
public import proofs.«01_k».proof.Proof.Dense.Spec
public import Idealize.ShloMosaic.Lib.Pipeline.Value
public import Idealize.ShloMosaic.Lib.Pointwise

@[expose] public section

set_option maxRecDepth 16384

noncomputable section

namespace Cert.Kernel3Ideal.Dense

open Cert.Kernel3Ideal Cert.Kernel3Ideal.Gen Cert.Dense
open Idealize.ShloMosaic Idealize.ShloMosaic.TcCoe Idealize.ShloMosaic.StableHlo Idealize.SL.Sem
open Idealize.ShloMosaic.Pipeline (Dat)

/-- The array the call leaves, of its four arguments. -/
def result (x : S16384x2048.Idx → EReal) (g : S2048.Idx → EReal) (wg wu : S2048x5632.Idx → EReal) : S16384x5632.Idx → EReal := fun j =>
  gated (normProdAt x g wg (j 0) (j 1)) (normProdAt x g wu (j 0) (j 1))

/-- The normalised rows a point computes. -/
theorem norm_apply (x : Vec Ideal S1024x2048 .f32) (g : Vec Ideal S1x2048 .f32) (a : Fin 1024) (b : Fin 2048) :
    k0_pay1 x g (ix2 a b) = x (ix2 a b) * rmsAt (fun k => x (ix2 a k)) * g (ix2 0 b) := by
  pointwise [k0_pay1, rmsAt]

/-- The gated product a point stores. -/
theorem gated_apply (x : Vec Ideal S1024x2048 .bf16) (u v : Vec Ideal S2048x512 .bf16) (a : Fin 1024) (b : Fin 512) :
    k0_pay2 x u v (ix2 a b) = gated (∑ k : Fin 2048, x (ix2 a k) * u (ix2 k b)) (∑ k : Fin 2048, x (ix2 a k) * v (ix2 k b)) := by
  pointwise [k0_pay2, gated]

/-- The first point of a row of blocks leaves the normalised rows in the scratch. -/
theorem sout_A (c : Dev nD) (i : grid0.Coords) (arg2 : Memref sig .tc .vmem S1024x2048 .f32) (harg2 : arg2.IsWhole) (arg3 : Memref sig .tc .vmem S1x2048 .f32) (harg3 : arg3.IsWhole)
    (arg4 : Memref sig .tc .vmem S2048x512 .bf16) (harg4 : arg4.IsWhole) (arg5 : Memref sig .tc .vmem S2048x512 .bf16) (harg5 : arg5.IsWhole)
    (arg6 : Memref sig .tc .vmem S1024x512 .bf16) (harg6 : arg6.IsWhole) (arg7 : Memref sig .tc .vmem S1024x2048 .bf16) (harg7 : arg7.IsWhole) (hc0 : cond0_0 i)
    (x0 : Vec Ideal S1024x2048 .f32) (x1 : Vec Ideal S1x2048 .f32) (x2 : Vec Ideal S2048x512 .bf16) (x3 : Vec Ideal S2048x512 .bf16) :
    sout0_A_0 c i arg2 harg2 arg3 harg3 arg4 harg4 arg5 harg5 arg6 harg6 arg7 harg7 hc0 x0 x1 x2 x3 = k0_pay1 x0 x1 := by
  unfold sout0_A_0 kernelRun0_A
  rw [View.read_writes_junk_eq_canon]
  dsimp only
  sl_unfold_words
  rw [View.canon_unit_zero zeros]
  simp only [View.readAt_eq_ld, harg2.read_unread, harg3.read_unread, View.ld_unit_zero (S := S1024x2048) zeros, View.ld_unit_zero (S := S1x2048) zeros]

set_option maxHeartbeats 2000000 in
/-- The first point of a row of blocks stores the gated product of the rows it normalised. -/
theorem out_A (c : Dev nD) (i : grid0.Coords) (arg2 : Memref sig .tc .vmem S1024x2048 .f32) (harg2 : arg2.IsWhole) (arg3 : Memref sig .tc .vmem S1x2048 .f32) (harg3 : arg3.IsWhole)
    (arg4 : Memref sig .tc .vmem S2048x512 .bf16) (harg4 : arg4.IsWhole) (arg5 : Memref sig .tc .vmem S2048x512 .bf16) (harg5 : arg5.IsWhole)
    (arg6 : Memref sig .tc .vmem S1024x512 .bf16) (harg6 : arg6.IsWhole) (arg7 : Memref sig .tc .vmem S1024x2048 .bf16) (harg7 : arg7.IsWhole) (hc0 : cond0_0 i)
    (x0 : Vec Ideal S1024x2048 .f32) (x1 : Vec Ideal S1x2048 .f32) (x2 : Vec Ideal S2048x512 .bf16) (x3 : Vec Ideal S2048x512 .bf16) :
    out0_A_4 c i arg2 harg2 arg3 harg3 arg4 harg4 arg5 harg5 arg6 harg6 arg7 harg7 hc0 x0 x1 x2 x3 = k0_pay2 (k0_pay1 x0 x1) x2 x3 := by
  unfold out0_A_4
  rw [View.read_writes_junk_eq_canon]
  unfold kernelRun0_A
  dsimp only
  sl_unfold_words
  rw [View.canon_unit_zero zeros, View.readCov_unit_zero (S := S1024x2048) _ zeros]
  simp only [View.readAt_eq_ld, harg2.read_unread, harg3.read_unread, harg4.read_unread, harg5.read_unread, View.ld_unit_zero (S := S1024x2048) zeros,
    View.ld_unit_zero (S := S1x2048) zeros, View.ld_unit_zero (S := S2048x512) zeros]

/-- A later point stores the gated product of the scratch's rows. -/
theorem out_B (c : Dev nD) (i : grid0.Coords) (arg2 : Memref sig .tc .vmem S1024x2048 .f32) (harg2 : arg2.IsWhole) (arg3 : Memref sig .tc .vmem S1x2048 .f32) (harg3 : arg3.IsWhole)
    (arg4 : Memref sig .tc .vmem S2048x512 .bf16) (harg4 : arg4.IsWhole) (arg5 : Memref sig .tc .vmem S2048x512 .bf16) (harg5 : arg5.IsWhole)
    (arg6 : Memref sig .tc .vmem S1024x512 .bf16) (harg6 : arg6.IsWhole) (arg7 : Memref sig .tc .vmem S1024x2048 .bf16) (harg7 : arg7.IsWhole) (hc0 : ¬cond0_0 i)
    (x0 : Vec Ideal S1024x2048 .f32) (x1 : Vec Ideal S1x2048 .f32) (x2 : Vec Ideal S2048x512 .bf16) (x3 : Vec Ideal S2048x512 .bf16) (xs0 : Vec Ideal S1024x2048 .bf16) :
    out0_B_4 c i arg2 harg2 arg3 harg3 arg4 harg4 arg5 harg5 arg6 harg6 arg7 harg7 hc0 x0 x1 x2 x3 xs0 = k0_pay2 xs0 x2 x3 := by
  unfold out0_B_4 kernelRun0_B
  rw [View.read_writes_junk_eq_canon]
  dsimp only
  sl_unfold_words
  rw [View.canon_unit_zero zeros]
  simp only [View.readAt_eq_ld, harg7.read_unread, harg4.read_unread, harg5.read_unread, View.ld_unit_zero (S := S1024x2048) zeros, View.ld_unit_zero (S := S2048x512) zeros]

/-- The windows' block indices at a point. -/
theorem index_eq : ∀ t : Fin grid0.N,
    (cc0_transform_0 (grid0.coords t) 0 = t.val / 11 ∧ cc0_transform_0 (grid0.coords t) 1 = 0)
    ∧ (cc0_transform_1 (grid0.coords t) 0 = 0 ∧ cc0_transform_1 (grid0.coords t) 1 = 0)
    ∧ (cc0_transform_2 (grid0.coords t) 0 = 0 ∧ cc0_transform_2 (grid0.coords t) 1 = t.val % 11)
    ∧ (cc0_transform_3 (grid0.coords t) 0 = 0 ∧ cc0_transform_3 (grid0.coords t) 1 = t.val % 11)
    ∧ (cc0_transform_4 (grid0.coords t) 0 = t.val / 11 ∧ cc0_transform_4 (grid0.coords t) 1 = t.val % 11) := by decide +kernel

variable (m : (ℓ : Loc nD τ sig) → Buf (Elt Ideal) ℓ) (ρ : Dev nD → PrngReg)

/-- The row block a point reads, at an entry. -/
theorem rows_eq (c : Dev nD) (t : Fin grid0.N) (a : Fin 1024) (k : Fin 2048) (r : Fin 16384) (hr : r.val = t.val / 11 * 1024 + a.val) :
    (iblk m c 0 t : S1024x2048.Idx → EReal) (ix2 a k) = (m ((c : Thread nD τ).loc main_arg0) : S16384x2048.Idx → EReal) (ix2 r k) := by
  obtain ⟨⟨p0, p1⟩, -⟩ := index_eq t
  rw [← V_main_arg0 m c]
  show (V m c main_arg0 : S16384x2048.Idx → EReal) _ = _
  congr 1
  funext d; apply Fin.ext
  match d with
  | ⟨0, _⟩ => show cc0_transform_0 (grid0.coords t) 0 * 1024 + 1 * a.val = r.val; rw [p0, hr]; omega
  | ⟨1, _⟩ => show cc0_transform_0 (grid0.coords t) 1 * 2048 + 1 * k.val = k.val; rw [p1]; omega

/-- The gain as the host prepares it. -/
theorem gain_eq (c : Dev nD) : (V m c main_v2 : S1x2048.Idx → EReal) = shapeCast S1x2048 (m ((c : Thread nD τ).loc main_arg1) : FVec Ideal S2048 .f32) shapeCasts_S2048_S1x2048 := by
  show StableHlo.after hostOps0 (fun b => m (c, b)) (Proc.devRef .tc main_v2) = _
  after_results
  rfl

/-- The gain block a point reads, at an entry. -/
theorem gains_eq (c : Dev nD) (t : Fin grid0.N) (k : Fin 2048) :
    (iblk m c 1 t : S1x2048.Idx → EReal) (ix2 0 k) = (m ((c : Thread nD τ).loc main_arg1) : S2048.Idx → EReal) (ix1 k) := by
  obtain ⟨-, ⟨p0, p1⟩, -⟩ := index_eq t
  have h : (V m c main_v2 : S1x2048.Idx → EReal) (ix2 0 k) = (m ((c : Thread nD τ).loc main_arg1) : S2048.Idx → EReal) (ix1 k) := by
    rw [gain_eq]
    pointwise []
  rw [← h]
  show (V m c main_v2 : S1x2048.Idx → EReal) _ = _
  congr 1
  funext d; apply Fin.ext
  match d with
  | ⟨0, _⟩ => show cc0_transform_1 (grid0.coords t) 0 * 1 + 1 * 0 = 0; rw [p0]
  | ⟨1, _⟩ => show cc0_transform_1 (grid0.coords t) 1 * 2048 + 1 * k.val = k.val; rw [p1]; omega

/-- The cast gate weights are the argument's. -/
theorem gate_eq (c : Dev nD) : (V m c main_v0 : S2048x5632.Idx → EReal) = m ((c : Thread nD τ).loc main_arg2) := by
  show StableHlo.after hostOps0 (fun b => m (c, b)) (Proc.devRef .tc main_v0) = _
  after_results
  rfl

/-- The block of gate weights a point reads, at an entry. -/
theorem gates_eq (c : Dev nD) (t : Fin grid0.N) (k : Fin 2048) (b : Fin 512) (j : Fin 5632) (hj : j.val = t.val % 11 * 512 + b.val) :
    (iblk m c 2 t : S2048x512.Idx → EReal) (ix2 k b) = (m ((c : Thread nD τ).loc main_arg2) : S2048x5632.Idx → EReal) (ix2 k j) := by
  obtain ⟨-, -, ⟨p0, p1⟩, -⟩ := index_eq t
  rw [← gate_eq m c]
  show (V m c main_v0 : S2048x5632.Idx → EReal) _ = _
  congr 1
  funext d; apply Fin.ext
  match d with
  | ⟨0, _⟩ => show cc0_transform_2 (grid0.coords t) 0 * 2048 + 1 * k.val = k.val; rw [p0]; omega
  | ⟨1, _⟩ => show cc0_transform_2 (grid0.coords t) 1 * 512 + 1 * b.val = j.val; rw [p1, hj]; omega

/-- The cast up weights are the argument's. -/
theorem up_eq (c : Dev nD) : (V m c main_v1 : S2048x5632.Idx → EReal) = m ((c : Thread nD τ).loc main_arg3) := by
  show StableHlo.after hostOps0 (fun b => m (c, b)) (Proc.devRef .tc main_v1) = _
  after_results
  rfl

/-- The block of up weights a point reads, at an entry. -/
theorem ups_eq (c : Dev nD) (t : Fin grid0.N) (k : Fin 2048) (b : Fin 512) (j : Fin 5632) (hj : j.val = t.val % 11 * 512 + b.val) :
    (iblk m c 3 t : S2048x512.Idx → EReal) (ix2 k b) = (m ((c : Thread nD τ).loc main_arg3) : S2048x5632.Idx → EReal) (ix2 k j) := by
  obtain ⟨-, -, -, ⟨p0, p1⟩, -⟩ := index_eq t
  rw [← up_eq m c]
  show (V m c main_v1 : S2048x5632.Idx → EReal) _ = _
  congr 1
  funext d; apply Fin.ext
  match d with
  | ⟨0, _⟩ => show cc0_transform_3 (grid0.coords t) 0 * 2048 + 1 * k.val = k.val; rw [p0]; omega
  | ⟨1, _⟩ => show cc0_transform_3 (grid0.coords t) 1 * 512 + 1 * b.val = j.val; rw [p1, hj]; omega

/-- The scratch holds the normalised rows of the point's row block. -/
theorem scratch_eq (c : Dev nD) : ∀ (n : ℕ) (hn : n < cfg0.N) (a : Fin 1024) (k : Fin 2048) (r : Fin 16384), r.val = n / 11 * 1024 + a.val →
    ((outsAt0 m c n hn).2 : S1024x2048.Idx → EReal) (ix2 a k)
      = normAt (m ((c : Thread nD τ).loc main_arg0) : S16384x2048.Idx → EReal) (m ((c : Thread nD τ).loc main_arg1) : S2048.Idx → EReal) r k := by
  intro n
  induction n with
  | zero =>
    intro hn a k r hr
    rw [outsAt0_A m c ⟨0, hn⟩ rfl]
    dsimp only
    rw [sout_A, norm_apply, gains_eq m c ⟨0, hn⟩ k, rows_eq m c ⟨0, hn⟩ a k r hr]
    unfold normAt
    rw [funext fun k => rows_eq m c ⟨0, hn⟩ a k r hr]
  | succ n ih =>
    intro hn a k r hr
    by_cases h : (n + 1) % 11 = 0
    · rw [outsAt0_A m c ⟨n + 1, hn⟩ h]
      dsimp only
      rw [sout_A, norm_apply, gains_eq m c ⟨n + 1, hn⟩ k, rows_eq m c ⟨n + 1, hn⟩ a k r hr]
      unfold normAt
      rw [funext fun k => rows_eq m c ⟨n + 1, hn⟩ a k r hr]
    · rw [outsAt0_B m c ⟨n + 1, hn⟩ h]
      exact ih (Nat.lt_of_succ_lt hn) a k r (by omega)

/-- What a point stores is the gated product of the scratch it leaves. -/
theorem block_eq (c : Dev nD) (t : Fin cfg0.N) :
    (outsAt0 m c t.val t.isLt).1 = k0_pay2 (F := Ideal) (outsAt0 m c t.val t.isLt).2 (iblk m c 2 t) (iblk m c 3 t) := by
  by_cases h : t.val % 11 = 0
  · rw [outsAt0_A m c t h]
    dsimp only
    rw [out_A, sout_A]
  · rw [outsAt0_B m c t h]
    dsimp only
    rw [out_B]
    rfl

/-- The point that writes entry `i`. -/
def pointOf (i : S16384x5632.Idx) : Fin grid0.N :=
  ⟨(i 0).val / 1024 * 11 + (i 1).val / 512, by
    rw [N_0]; have h0 : (i 0).val < 16384 := (i 0).isLt; have h1 : (i 1).val < 5632 := (i 1).isLt; omega⟩

/-- What a point writes back is its block of `result`. -/
theorem flushed_eq (c : Dev nD) (t : Fin cfg0.N) :
    (dats m 0 c).flushed 4 t = ((cfg0.win 4).blk t).view.read (Elt Ideal)
      (result (m ((c : Thread nD τ).loc main_arg0)) (m ((c : Thread nD τ).loc main_arg1)) (m ((c : Thread nD τ).loc main_arg2)) (m ((c : Thread nD τ).loc main_arg3))) := by
  rw [Value.flushed4, block_eq m c t]
  obtain ⟨-, -, -, -, ⟨s0, s1⟩⟩ := index_eq t
  refine funext fun (y : S1024x512.Idx) => ?_
  obtain ⟨a, b, rfl⟩ : ∃ (a : Fin 1024) (b : Fin 512), y = ix2 a b := ⟨y 0, y 1, eq_ix2 y⟩
  obtain ⟨e, he⟩ : ∃ e : S16384x5632.Idx, e = ((cfg0.win 4).blk t).view.emb (ix2 a b) := ⟨_, rfl⟩
  have h0 : (e 0).val = cc0_transform_4 (grid0.coords t) 0 * 1024 + 1 * a.val := by rw [he]; rfl
  have h1 : (e 1).val = cc0_transform_4 (grid0.coords t) 1 * 512 + 1 * b.val := by rw [he]; rfl
  rw [s0, one_mul] at h0
  rw [s1, one_mul] at h1
  have hres : result (m ((c : Thread nD τ).loc main_arg0)) (m ((c : Thread nD τ).loc main_arg1)) (m ((c : Thread nD τ).loc main_arg2)) (m ((c : Thread nD τ).loc main_arg3)) e
      = k0_pay2 (F := Ideal) (outsAt0 m c t.val t.isLt).2 (iblk m c 2 t) (iblk m c 3 t) (ix2 a b) := by
    refine Eq.trans ?_ (gated_apply (outsAt0 m c t.val t.isLt).2 (iblk m c 2 t) (iblk m c 3 t) a b).symm
    unfold result normProdAt
    exact congrArg₂ gated
      (Finset.sum_congr rfl fun k _ => congrArg₂ (fun u v : EReal => u * v) (scratch_eq m c t.val t.isLt a k (e 0) h0).symm (gates_eq m c t k b (e 1) h1).symm)
      (Finset.sum_congr rfl fun k _ => congrArg₂ (fun u v : EReal => u * v) (scratch_eq m c t.val t.isLt a k (e 0) h0).symm (ups_eq m c t k b (e 1) h1).symm)
  rw [he] at hres
  exact hres.symm

/-- An entry of a rectangle of the result array is in the view of that rectangle. -/
theorem mem_slice (R : Rect S16384x5632) (i : S16384x5632.Idx) (h : i ∈ R.set) : i ∈ ((View.whole main_v3).slice R).set := by
  rw [View.set_slice_whole]; exact h

/-- Every entry is in the block of the point that writes it. -/
theorem covered (i : S16384x5632.Idx) : i ∈ ((cfg0.win 4).blk (pointOf i)).view.set := by
  refine mem_slice ((cfg0.win 4).rect (pointOf i)) i ?_
  obtain ⟨-, -, -, -, s0, s1⟩ := index_eq (pointOf i)
  have hv : (pointOf i).val = (i 0).val / 1024 * 11 + (i 1).val / 512 := rfl
  have h0 : (i 0).val < 16384 := (i 0).isLt
  have h1 : (i 1).val < 5632 := (i 1).isLt
  refine (LoadRect.mem_set _).2 fun a => ?_
  match a with
  | ⟨0, _⟩ =>
    refine ⟨(i 0).val % 1024, Nat.mod_lt _ (by decide), ?_⟩
    show (i 0).val = cc0_transform_4 (grid0.coords (pointOf i)) 0 * 1024 + 1 * ((i 0).val % 1024)
    rw [s0]; omega
  | ⟨1, _⟩ =>
    refine ⟨(i 1).val % 512, Nat.mod_lt _ (by decide), ?_⟩
    show (i 1).val = cc0_transform_4 (grid0.coords (pointOf i)) 1 * 512 + 1 * ((i 1).val % 512)
    rw [s1]; omega

/-- The array after the run. -/
theorem final (c : Dev nD) : (dats m 0 c).arrAt 4 cfg0.N
    = result (m ((c : Thread nD τ).loc main_arg0)) (m ((c : Thread nD τ).loc main_arg1)) (m ((c : Thread nD τ).loc main_arg2)) (m ((c : Thread nD τ).loc main_arg3)) :=
  (dats m 0 c).arrAt_eq_of_cover 4 _ (fun t _ => flushed_eq m c t) (fun i => ⟨pointOf i, flush0_4 _, covered i⟩)

end Cert.Kernel3Ideal.Dense
-- ==== Proof.Dense.GateUpClaims.lean ====
/- The claims about the dense layer's gate and up projections. -/
module

public import proofs.«01_k».proof.Defs
public import proofs.«01_k».proof.Proof.Gen.Kernel3.Frame
public import proofs.«01_k».proof.Proof.Gen.Kernel3Ideal.Value
public import proofs.«01_k».proof.Proof.Gen.Reference3Ideal.Run
public import proofs.«01_k».proof.Proof.Dense.GateUp
public import Idealize.ShloMosaic.Adequacy
public import Idealize.ShloMosaic.Init
public import Idealize.ShloMosaic.Lib.Quiescent

@[expose] public section

set_option maxRecDepth 16384

noncomputable section

namespace Cert.Proof.DenseGateUp

open Cert.Reference3Ideal Cert.Reference3Ideal.Gen Cert.Dense Idealize.ShloMosaic Idealize.ShloMosaic.TcCoe Idealize.SL.Sem

/-- The kernel's frame. -/
theorem frame_kernel : Cert.quiescent_Kernel3 := fun m ρ _ => Cert.Kernel3.Gen.frame m ρ

/-- The idealized kernel's frame. -/
theorem frame_kernelIdeal : Cert.quiescent_Kernel3Ideal := fun m ρ _ => Cert.Kernel3Ideal.Gen.frame m ρ

/-- The reference's frame. -/
theorem frame_referenceIdeal : Cert.quiescent_Reference3Ideal := fun m ρ _ =>
  (θ_run Cert.Reference3Ideal.defs _ _).mono (fun r h => ⟨fun c => (h c).2, Idealize.ShloMosaic.sem_eq_zero_of_no_sems (by decide) r.2⟩)
    (Cert.Reference3Ideal.Value.run m ρ)

/-- The reference's normalised rows. -/
def normed (x : FVec Ideal S16384x2048 .f32) (g : FVec Ideal S2048 .f32) : FVec Ideal S16384x2048 .f32 :=
  mulf (mulf x (broadcastInDim S16384x2048 ![0, 1] bcast_S16384x1_S16384x2048_0_1 (Host.rsqrt (addf (Host.divf (broadcastInDim S16384x1 ![0] bcast_S16384_S16384x1_0
    (Host.reduceAdd (mulf x x) (constant S_ .f32 0x00000000#32) reducesTo_S16384x2048_S16384_d1 h_S_)) (broadcastInDim S16384x1 ![] bcast_S_S16384x1 (constant S_ .f32 0x45000000#32)))
    (broadcastInDim S16384x1 ![] bcast_S_S16384x1 (constant S_ .f32 0x358637BD#32))))))
    (broadcastInDim S16384x2048 ![0, 1] bcast_S1x2048_S16384x2048_0_1 (broadcastInDim S1x2048 ![1] bcast_S2048_S1x2048_1 g))

/-- The reference's normalised rows at an entry. -/
theorem normed_apply (x : FVec Ideal S16384x2048 .f32) (g : FVec Ideal S2048 .f32) (r : Fin 16384) (k : Fin 2048) :
    normed x g (ix2 r k) = normAt x g r k := by
  pointwise [normed, normAt, rmsAt]

/-- A product of the reference's normalised rows at an entry. -/
theorem prod_apply (x : FVec Ideal S16384x2048 .f32) (g : FVec Ideal S2048 .f32) (w : FVec Ideal S2048x5632 .f32) (r : Fin 16384) (j : Fin 5632) :
    Host.dotGeneral dot_S16384x2048_S2048x5632_S16384x5632_1_0_0_1_n_n none (normed x g) w (ix2 r j) = normProdAt x g w r j := by
  have h : Host.dotGeneral dot_S16384x2048_S2048x5632_S16384x5632_1_0_0_1_n_n none (normed x g) w (ix2 r j) = ∑ k : Fin 2048, normed x g (ix2 r k) * w (ix2 k j) := by
    pointwise []
  rw [h]
  exact Finset.sum_congr rfl fun k _ => by rw [normed_apply]

/-- The SiLU of an array times another, as the reference writes it, at an entry. -/
theorem gated_apply (p q : FVec Ideal S16384x5632 .f32) (j : S16384x5632.Idx) {a b : EReal} (hp : p j = a) (hq : q j = b) :
    mulf (mulf p (Host.divf (broadcastInDim S16384x5632 ![] bcast_S_S16384x5632 (constant S_ .f32 0x3F800000#32))
        (addf (broadcastInDim S16384x5632 ![] bcast_S_S16384x5632 (constant S_ .f32 0x3F800000#32)) (Host.exp (Host.negf p))))) q j
    = gated a b := by
  subst hp; subst hq
  pointwise []
  rfl

/-- The reference's array. -/
theorem ref_eq (x : FVec Ideal S16384x2048 .f32) (g : FVec Ideal S2048 .f32) (wg wu : FVec Ideal S2048x5632 .f32) :
    mulf (mulf (Host.dotGeneral dot_S16384x2048_S2048x5632_S16384x5632_1_0_0_1_n_n none (normed x g) wg)
      (Host.divf (broadcastInDim S16384x5632 ![] bcast_S_S16384x5632 (constant S_ .f32 0x3F800000#32))
        (addf (broadcastInDim S16384x5632 ![] bcast_S_S16384x5632 (constant S_ .f32 0x3F800000#32))
          (Host.exp (Host.negf (Host.dotGeneral dot_S16384x2048_S2048x5632_S16384x5632_1_0_0_1_n_n none (normed x g) wg))))))
      (Host.dotGeneral dot_S16384x2048_S2048x5632_S16384x5632_1_0_0_1_n_n none (normed x g) wu)
    = Cert.Kernel3Ideal.Dense.result x g wg wu := by
  funext j
  obtain ⟨r, k, rfl⟩ : ∃ (r : Fin 16384) (k : Fin 5632), j = ix2 r k := ⟨j 0, j 1, eq_ix2 j⟩
  exact gated_apply _ _ _ (prod_apply x g wg r k) (prod_apply x g wu r k)

/-- The kernel computes the reference over the extended reals. -/
theorem algebraic : Cert.algebraic_Kernel3Ideal_Reference3Ideal := fun m ρ m' ρ' _ hm => by
  refine ⟨fun c => Cert.Kernel3Ideal.Dense.result (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1))
      (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)),
    (θ_run Cert.Kernel3Ideal.defs _ _).mono (fun r h c => ⟨(h c).1.trans (Cert.Kernel3Ideal.Dense.final m c), (h c).2⟩)
      (Cert.Kernel3Ideal.Value.run_blocks (F := Ideal) m ρ),
    (θ_run Cert.Reference3Ideal.defs _ _).mono (fun r h c => ⟨(h c).1.trans ?_, (h c).2⟩) (Cert.Reference3Ideal.Value.run m' ρ')⟩
  obtain ⟨h0, h1, h2, h3⟩ := hm c
  rw [h0, h1, h2, h3]
  exact (ref_eq _ _ _ _).trans rfl

end Cert.Proof.DenseGateUp
-- ==== Proof.Dense.Down.lean ====
/- The dense layer's down projection, entry by entry, over the extended reals. -/
module

public import proofs.«01_k».proof.Proof.Gen.Kernel4Ideal.Value
public import proofs.«01_k».proof.Proof.Dense.Spec
public import Idealize.ShloMosaic.Lib.Pipeline.Value
public import Idealize.ShloMosaic.Lib.Pointwise

@[expose] public section

set_option maxRecDepth 16384

noncomputable section

namespace Cert.Kernel4Ideal.Dense

open Cert.Kernel4Ideal Cert.Kernel4Ideal.Gen Cert.Dense
open Idealize.ShloMosaic Idealize.ShloMosaic.TcCoe Idealize.ShloMosaic.StableHlo Idealize.SL.Sem
open Idealize.ShloMosaic.Pipeline (Dat)

/-- The array the call leaves, of its three arguments. -/
def result (x : S16384x5632.Idx → EReal) (w : S5632x2048.Idx → EReal) (r : S16384x2048.Idx → EReal) : S16384x2048.Idx → EReal := fun j =>
  r j + prodAt x w (j 0) (j 1)

/-- What a point stores. -/
theorem out_apply (x : Vec Ideal S512x5632 .bf16) (w : Vec Ideal S5632x1024 .bf16) (r : Vec Ideal S512x1024 .f32) (a : Fin 512) (b : Fin 1024) :
    out0_3 x w r (ix2 a b) = r (ix2 a b) + ∑ k : Fin 5632, x (ix2 a k) * w (ix2 k b) := by
  unfold out0_3
  rw [View.canon_unit_zero zeros, View.ld_unit_zero zeros, View.ld_unit_zero zeros, View.ld_unit_zero zeros]
  pointwise [k0_pay1]

/-- The windows' block indices at a point. -/
theorem index_eq : ∀ t : Fin grid0.N,
    (cc0_transform_0 (grid0.coords t) 0 = t.val % 32 ∧ cc0_transform_0 (grid0.coords t) 1 = 0)
    ∧ (cc0_transform_1 (grid0.coords t) 0 = 0 ∧ cc0_transform_1 (grid0.coords t) 1 = t.val / 32)
    ∧ (cc0_transform_2 (grid0.coords t) 0 = t.val % 32 ∧ cc0_transform_2 (grid0.coords t) 1 = t.val / 32)
    ∧ (cc0_transform_3 (grid0.coords t) 0 = t.val % 32 ∧ cc0_transform_3 (grid0.coords t) 1 = t.val / 32) := by decide +kernel

variable (m : (ℓ : Loc nD τ sig) → Buf (Elt Ideal) ℓ) (ρ : Dev nD → PrngReg)

/-- The cast weights the call reads are the argument's. -/
theorem weights_eq (c : Dev nD) : (V m c main_v0 : S5632x2048.Idx → EReal) = m ((c : Thread nD τ).loc main_arg1) := by
  show StableHlo.after hostOps0 (fun b => m (c, b)) (Proc.devRef .tc main_v0) = _
  after_results
  rfl

/-- The point that writes entry `i`. -/
def pointOf (i : S16384x2048.Idx) : Fin grid0.N :=
  ⟨(i 1).val / 1024 * 32 + (i 0).val / 512, by
    rw [N_0]; have h0 : (i 0).val < 16384 := (i 0).isLt; have h1 : (i 1).val < 2048 := (i 1).isLt; omega⟩

/-- What a point writes back is its block of `result`. -/
theorem flushed_eq (c : Dev nD) (t : Fin cfg0.N) :
    (dats m 0 c).flushed 3 t = ((cfg0.win 3).blk t).view.read (Elt Ideal)
      (result (m ((c : Thread nD τ).loc main_arg0)) (m ((c : Thread nD τ).loc main_arg1)) (m ((c : Thread nD τ).loc main_arg2))) := by
  rw [Value.flushed3]
  obtain ⟨⟨p0, p1⟩, ⟨q0, q1⟩, ⟨r0, r1⟩, ⟨s0, s1⟩⟩ := index_eq t
  refine funext fun (y : S512x1024.Idx) => ?_
  obtain ⟨a, b, rfl⟩ : ∃ (a : Fin 512) (b : Fin 1024), y = ix2 a b := ⟨y 0, y 1, eq_ix2 y⟩
  obtain ⟨e, he⟩ : ∃ e : S16384x2048.Idx, e = ((cfg0.win 3).blk t).view.emb (ix2 a b) := ⟨_, rfl⟩
  have h0 : (e 0).val = cc0_transform_3 (grid0.coords t) 0 * 512 + 1 * a.val := by rw [he]; rfl
  have h1 : (e 1).val = cc0_transform_3 (grid0.coords t) 1 * 1024 + 1 * b.val := by rw [he]; rfl
  rw [s0] at h0
  rw [s1] at h1
  have hx (k : Fin 5632) : (iblk m c 0 t : S512x5632.Idx → EReal) (ix2 a k) = (m ((c : Thread nD τ).loc main_arg0) : S16384x5632.Idx → EReal) (ix2 (e 0) k) := by
    rw [← V_main_arg0 m c]
    show (V m c main_arg0 : S16384x5632.Idx → EReal) _ = _
    congr 1
    funext d; apply Fin.ext
    match d with
    | ⟨0, _⟩ => show cc0_transform_0 (grid0.coords t) 0 * 512 + 1 * a.val = (e 0).val; rw [p0, h0]
    | ⟨1, _⟩ => show cc0_transform_0 (grid0.coords t) 1 * 5632 + 1 * k.val = k.val; rw [p1]; omega
  have hw (k : Fin 5632) : (iblk m c 1 t : S5632x1024.Idx → EReal) (ix2 k b) = (m ((c : Thread nD τ).loc main_arg1) : S5632x2048.Idx → EReal) (ix2 k (e 1)) := by
    rw [← weights_eq m c]
    show (V m c main_v0 : S5632x2048.Idx → EReal) _ = _
    congr 1
    funext d; apply Fin.ext
    match d with
    | ⟨0, _⟩ => show cc0_transform_1 (grid0.coords t) 0 * 5632 + 1 * k.val = k.val; rw [q0]; omega
    | ⟨1, _⟩ => show cc0_transform_1 (grid0.coords t) 1 * 1024 + 1 * b.val = (e 1).val; rw [q1, h1]
  have hr : (iblk m c 2 t : S512x1024.Idx → EReal) (ix2 a b) = (m ((c : Thread nD τ).loc main_arg2) : S16384x2048.Idx → EReal) e := by
    rw [← V_main_arg2 m c]
    show (V m c main_arg2 : S16384x2048.Idx → EReal) _ = _
    congr 1
    funext d; apply Fin.ext
    match d with
    | ⟨0, _⟩ => show cc0_transform_2 (grid0.coords t) 0 * 512 + 1 * a.val = (e 0).val; rw [r0, h0]
    | ⟨1, _⟩ => show cc0_transform_2 (grid0.coords t) 1 * 1024 + 1 * b.val = (e 1).val; rw [r1, h1]
  have hres : result (m ((c : Thread nD τ).loc main_arg0)) (m ((c : Thread nD τ).loc main_arg1)) (m ((c : Thread nD τ).loc main_arg2)) e
      = out0_3 (F := Ideal) (iblk m c 0 t) (iblk m c 1 t) (iblk m c 2 t) (ix2 a b) := by
    refine Eq.trans ?_ (out_apply (iblk m c 0 t) (iblk m c 1 t) (iblk m c 2 t) a b).symm
    unfold result prodAt
    exact congrArg₂ (fun u v : EReal => u + v) hr.symm (Finset.sum_congr rfl fun k _ => congrArg₂ (fun u v : EReal => u * v) (hx k).symm (hw k).symm)
  rw [he] at hres
  exact hres.symm

/-- An entry of a rectangle of the result array is in the view of that rectangle. -/
theorem mem_slice (R : Rect S16384x2048) (i : S16384x2048.Idx) (h : i ∈ R.set) : i ∈ ((View.whole main_v1).slice R).set := by
  rw [View.set_slice_whole]; exact h

/-- Every entry is in the block of the point that writes it. -/
theorem covered (i : S16384x2048.Idx) : i ∈ ((cfg0.win 3).blk (pointOf i)).view.set := by
  refine mem_slice ((cfg0.win 3).rect (pointOf i)) i ?_
  obtain ⟨-, -, -, s0, s1⟩ := index_eq (pointOf i)
  have hv : (pointOf i).val = (i 1).val / 1024 * 32 + (i 0).val / 512 := rfl
  have h0 : (i 0).val < 16384 := (i 0).isLt
  have h1 : (i 1).val < 2048 := (i 1).isLt
  refine (LoadRect.mem_set _).2 fun a => ?_
  match a with
  | ⟨0, _⟩ =>
    refine ⟨(i 0).val % 512, Nat.mod_lt _ (by decide), ?_⟩
    show (i 0).val = cc0_transform_3 (grid0.coords (pointOf i)) 0 * 512 + 1 * ((i 0).val % 512)
    rw [s0]; omega
  | ⟨1, _⟩ =>
    refine ⟨(i 1).val % 1024, Nat.mod_lt _ (by decide), ?_⟩
    show (i 1).val = cc0_transform_3 (grid0.coords (pointOf i)) 1 * 1024 + 1 * ((i 1).val % 1024)
    rw [s1]; omega

/-- The array after the run. -/
theorem final (c : Dev nD) : (dats m 0 c).arrAt 3 cfg0.N
    = result (m ((c : Thread nD τ).loc main_arg0)) (m ((c : Thread nD τ).loc main_arg1)) (m ((c : Thread nD τ).loc main_arg2)) :=
  (dats m 0 c).arrAt_eq_of_cover 3 _ (fun t _ => flushed_eq m c t) (fun i => ⟨pointOf i, flush0_3 _, covered i⟩)

end Cert.Kernel4Ideal.Dense
-- ==== Proof.Dense.DownClaims.lean ====
/- The claims about the dense layer's down projection. -/
module

public import proofs.«01_k».proof.Defs
public import proofs.«01_k».proof.Proof.Gen.Kernel4.Frame
public import proofs.«01_k».proof.Proof.Gen.Kernel4Ideal.Value
public import proofs.«01_k».proof.Proof.Gen.Reference4Ideal.Run
public import proofs.«01_k».proof.Proof.Dense.Down
public import Idealize.ShloMosaic.Adequacy
public import Idealize.ShloMosaic.Init
public import Idealize.ShloMosaic.Lib.Quiescent

@[expose] public section

set_option maxRecDepth 16384

noncomputable section

namespace Cert.Proof.DenseDown

open Cert.Dense Idealize.ShloMosaic Idealize.ShloMosaic.TcCoe Idealize.SL.Sem

/-- The kernel's frame. -/
theorem frame_kernel : Cert.quiescent_Kernel4 := fun m ρ _ => Cert.Kernel4.Gen.frame m ρ

/-- The idealized kernel's frame. -/
theorem frame_kernelIdeal : Cert.quiescent_Kernel4Ideal := fun m ρ _ => Cert.Kernel4Ideal.Gen.frame m ρ

/-- The reference's frame. -/
theorem frame_referenceIdeal : Cert.quiescent_Reference4Ideal := fun m ρ _ =>
  (θ_run Cert.Reference4Ideal.defs _ _).mono (fun r h => ⟨fun c => (h c).2, Idealize.ShloMosaic.sem_eq_zero_of_no_sems (by decide) r.2⟩)
    (Cert.Reference4Ideal.Value.run m ρ)

/-- The reference's array. -/
theorem ref_eq (x : FVec Ideal Cert.Reference4Ideal.S16384x5632 .f32) (w : FVec Ideal Cert.Reference4Ideal.S5632x2048 .f32)
    (r : FVec Ideal Cert.Reference4Ideal.S16384x2048 .f32) :
    addf r (Host.dotGeneral Cert.Reference4Ideal.dot_S16384x5632_S5632x2048_S16384x2048_1_0_0_1_n_n none x w) = Cert.Kernel4Ideal.Dense.result x w r := by
  funext j
  obtain ⟨a, b, rfl⟩ : ∃ (a : Fin 16384) (b : Fin 2048), j = ix2 a b := ⟨j 0, j 1, eq_ix2 j⟩
  have h : Host.dotGeneral Cert.Reference4Ideal.dot_S16384x5632_S5632x2048_S16384x2048_1_0_0_1_n_n none x w (ix2 a b) = prodAt x w a b := by
    pointwise [prodAt]
  exact congrArg (fun u : EReal => r (ix2 a b) + u) h

/-- The kernel computes the reference over the extended reals. -/
theorem algebraic : Cert.algebraic_Kernel4Ideal_Reference4Ideal := fun m ρ m' ρ' _ hm => by
  refine ⟨fun c => Cert.Kernel4Ideal.Dense.result (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1))
      (m ((c.tc : Thread Cert.Kernel4Ideal.nD Cert.Kernel4Ideal.τ).loc Cert.Kernel4Ideal.main_arg2)),
    (θ_run Cert.Kernel4Ideal.defs _ _).mono (fun r h c => ⟨(h c).1.trans (Cert.Kernel4Ideal.Dense.final m c), (h c).2⟩)
      (Cert.Kernel4Ideal.Value.run_blocks (F := Ideal) m ρ),
    (θ_run Cert.Reference4Ideal.defs _ _).mono (fun r h c => ⟨(h c).1.trans ?_, (h c).2⟩) (Cert.Reference4Ideal.Value.run m' ρ')⟩
  obtain ⟨h0, h1, h2⟩ := hm c
  rw [h0, h1, h2]
  exact (ref_eq _ _ _).trans rfl

end Cert.Proof.DenseDown
-- ==== Proof.Dense.Out.lean ====
/- The output projection, entry by entry, over the extended reals. -/
module

public import proofs.«01_k».proof.Proof.Gen.Kernel5Ideal.Value
public import proofs.«01_k».proof.Proof.Dense.Spec
public import Idealize.ShloMosaic.Lib.Pipeline.Value
public import Idealize.ShloMosaic.Lib.Pointwise

@[expose] public section

set_option maxRecDepth 16384

noncomputable section

namespace Cert.Kernel5Ideal.Dense

open Cert.Kernel5Ideal Cert.Kernel5Ideal.Gen Cert.Dense
open Idealize.ShloMosaic Idealize.ShloMosaic.TcCoe Idealize.ShloMosaic.StableHlo Idealize.SL.Sem
open Idealize.ShloMosaic.Pipeline (Dat)

/-- The array the call leaves, of its four arguments. -/
def result (x y : S16384x1024.Idx → EReal) (w : S2048x2048.Idx → EReal) (r : S16384x2048.Idx → EReal) : S16384x2048.Idx → EReal := fun j =>
  r j + ((∑ k : Fin 1024, x (ix2 (j 0) k) * w (ix2 (k.castLE (by omega)) (j 1))) + ∑ k : Fin 1024, y (ix2 (j 0) k) * w (ix2 ⟨1024 + k.val, by omega⟩ (j 1)))

/-- What a point stores. -/
theorem out_apply (x y : Vec Ideal S512x1024 .bf16) (v w : Vec Ideal S1024x2048 .bf16) (r : Vec Ideal S512x2048 .f32) (a : Fin 512) (b : Fin 2048) :
    out0_5 x y v w r (ix2 a b) = r (ix2 a b) + ((∑ k : Fin 1024, x (ix2 a k) * v (ix2 k b)) + ∑ k : Fin 1024, y (ix2 a k) * w (ix2 k b)) := by
  unfold out0_5
  rw [View.canon_unit_zero zeros, View.ld_unit_zero zeros, View.ld_unit_zero zeros, View.ld_unit_zero zeros, View.ld_unit_zero zeros, View.ld_unit_zero zeros]
  pointwise [k0_pay1]

/-- The windows' block indices at a point. -/
theorem index_eq : ∀ t : Fin grid0.N,
    (cc0_transform_0 (grid0.coords t) 0 = t.val ∧ cc0_transform_0 (grid0.coords t) 1 = 0)
    ∧ (cc0_transform_1 (grid0.coords t) 0 = t.val ∧ cc0_transform_1 (grid0.coords t) 1 = 0)
    ∧ (cc0_transform_2 (grid0.coords t) 0 = 0 ∧ cc0_transform_2 (grid0.coords t) 1 = 0)
    ∧ (cc0_transform_3 (grid0.coords t) 0 = 1 ∧ cc0_transform_3 (grid0.coords t) 1 = 0)
    ∧ (cc0_transform_4 (grid0.coords t) 0 = t.val ∧ cc0_transform_4 (grid0.coords t) 1 = 0)
    ∧ (cc0_transform_5 (grid0.coords t) 0 = t.val ∧ cc0_transform_5 (grid0.coords t) 1 = 0) := by decide +kernel

variable (m : (ℓ : Loc nD τ sig) → Buf (Elt Ideal) ℓ) (ρ : Dev nD → PrngReg)

/-- The cast weights the call reads are the argument's. -/
theorem weights_eq (c : Dev nD) : (V m c main_v0 : S2048x2048.Idx → EReal) = m ((c : Thread nD τ).loc main_arg2) := by
  show StableHlo.after hostOps0 (fun b => m (c, b)) (Proc.devRef .tc main_v0) = _
  after_results
  rfl

/-- The point that writes entry `i`. -/
def pointOf (i : S16384x2048.Idx) : Fin grid0.N :=
  ⟨(i 0).val / 512, by
    rw [N_0]; have h0 : (i 0).val < 16384 := (i 0).isLt; have h1 : (i 1).val < 2048 := (i 1).isLt; omega⟩

/-- What a point writes back is its block of `result`. -/
theorem flushed_eq (c : Dev nD) (t : Fin cfg0.N) :
    (dats m 0 c).flushed 5 t = ((cfg0.win 5).blk t).view.read (Elt Ideal)
      (result (m ((c : Thread nD τ).loc main_arg0)) (m ((c : Thread nD τ).loc main_arg1)) (m ((c : Thread nD τ).loc main_arg2))
      (m ((c : Thread nD τ).loc main_arg3))) := by
  rw [Value.flushed5]
  obtain ⟨⟨p0, p1⟩, ⟨q0, q1⟩, ⟨u0, u1⟩, ⟨v0, v1⟩, ⟨r0, r1⟩, ⟨s0, s1⟩⟩ := index_eq t
  refine funext fun (y : S512x2048.Idx) => ?_
  obtain ⟨a, b, rfl⟩ : ∃ (a : Fin 512) (b : Fin 2048), y = ix2 a b := ⟨y 0, y 1, eq_ix2 y⟩
  obtain ⟨e, he⟩ : ∃ e : S16384x2048.Idx, e = ((cfg0.win 5).blk t).view.emb (ix2 a b) := ⟨_, rfl⟩
  have h0 : (e 0).val = cc0_transform_5 (grid0.coords t) 0 * 512 + 1 * a.val := by rw [he]; rfl
  have h1 : (e 1).val = cc0_transform_5 (grid0.coords t) 1 * 2048 + 1 * b.val := by rw [he]; rfl
  rw [s0] at h0
  rw [s1] at h1
  have hx (k : Fin 1024) : (iblk m c 0 t : S512x1024.Idx → EReal) (ix2 a k) = (m ((c : Thread nD τ).loc main_arg0) : S16384x1024.Idx → EReal) (ix2 (e 0) k) := by
    rw [← V_main_arg0 m c]
    show (V m c main_arg0 : S16384x1024.Idx → EReal) _ = _
    congr 1
    funext d; apply Fin.ext
    match d with
    | ⟨0, _⟩ => show cc0_transform_0 (grid0.coords t) 0 * 512 + 1 * a.val = (e 0).val; rw [p0, h0]
    | ⟨1, _⟩ => show cc0_transform_0 (grid0.coords t) 1 * 1024 + 1 * k.val = k.val; rw [p1]; omega
  have hy (k : Fin 1024) : (iblk m c 1 t : S512x1024.Idx → EReal) (ix2 a k) = (m ((c : Thread nD τ).loc main_arg1) : S16384x1024.Idx → EReal) (ix2 (e 0) k) := by
    rw [← V_main_arg1 m c]
    show (V m c main_arg1 : S16384x1024.Idx → EReal) _ = _
    congr 1
    funext d; apply Fin.ext
    match d with
    | ⟨0, _⟩ => show cc0_transform_1 (grid0.coords t) 0 * 512 + 1 * a.val = (e 0).val; rw [q0, h0]
    | ⟨1, _⟩ => show cc0_transform_1 (grid0.coords t) 1 * 1024 + 1 * k.val = k.val; rw [q1]; omega
  have hv (k : Fin 1024) : (iblk m c 2 t : S1024x2048.Idx → EReal) (ix2 k b) = (m ((c : Thread nD τ).loc main_arg2) : S2048x2048.Idx → EReal) (ix2 (k.castLE (by omega)) (e 1)) := by
    rw [← weights_eq m c]
    show (V m c main_v0 : S2048x2048.Idx → EReal) _ = _
    congr 1
    funext d; apply Fin.ext
    match d with
    | ⟨0, _⟩ => show cc0_transform_2 (grid0.coords t) 0 * 1024 + 1 * k.val = k.val; rw [u0]; omega
    | ⟨1, _⟩ => show cc0_transform_2 (grid0.coords t) 1 * 2048 + 1 * b.val = (e 1).val; rw [u1, h1]
  have hw (k : Fin 1024) : (iblk m c 3 t : S1024x2048.Idx → EReal) (ix2 k b) = (m ((c : Thread nD τ).loc main_arg2) : S2048x2048.Idx → EReal) (ix2 ⟨1024 + k.val, by omega⟩ (e 1)) := by
    rw [← weights_eq m c]
    show (V m c main_v0 : S2048x2048.Idx → EReal) _ = _
    congr 1
    funext d; apply Fin.ext
    match d with
    | ⟨0, _⟩ => show cc0_transform_3 (grid0.coords t) 0 * 1024 + 1 * k.val = 1024 + k.val; rw [v0]; omega
    | ⟨1, _⟩ => show cc0_transform_3 (grid0.coords t) 1 * 2048 + 1 * b.val = (e 1).val; rw [v1, h1]
  have hr : (iblk m c 4 t : S512x2048.Idx → EReal) (ix2 a b) = (m ((c : Thread nD τ).loc main_arg3) : S16384x2048.Idx → EReal) e := by
    rw [← V_main_arg3 m c]
    show (V m c main_arg3 : S16384x2048.Idx → EReal) _ = _
    congr 1
    funext d; apply Fin.ext
    match d with
    | ⟨0, _⟩ => show cc0_transform_4 (grid0.coords t) 0 * 512 + 1 * a.val = (e 0).val; rw [r0, h0]
    | ⟨1, _⟩ => show cc0_transform_4 (grid0.coords t) 1 * 2048 + 1 * b.val = (e 1).val; rw [r1, h1]
  have hres : result (m ((c : Thread nD τ).loc main_arg0)) (m ((c : Thread nD τ).loc main_arg1)) (m ((c : Thread nD τ).loc main_arg2))
      (m ((c : Thread nD τ).loc main_arg3)) e
      = out0_5 (F := Ideal) (iblk m c 0 t) (iblk m c 1 t) (iblk m c 2 t) (iblk m c 3 t) (iblk m c 4 t) (ix2 a b) := by
    refine Eq.trans ?_ (out_apply (iblk m c 0 t) (iblk m c 1 t) (iblk m c 2 t) (iblk m c 3 t) (iblk m c 4 t) a b).symm
    unfold result
    refine congrArg₂ (fun u v : EReal => u + v) hr.symm (congrArg₂ (fun u v : EReal => u + v) ?_ ?_)
    · exact Finset.sum_congr rfl fun k _ => congrArg₂ (fun u v : EReal => u * v) (hx k).symm (hv k).symm
    · exact Finset.sum_congr rfl fun k _ => congrArg₂ (fun u v : EReal => u * v) (hy k).symm (hw k).symm
  rw [he] at hres
  exact hres.symm

/-- An entry of a rectangle of the result array is in the view of that rectangle. -/
theorem mem_slice (R : Rect S16384x2048) (i : S16384x2048.Idx) (h : i ∈ R.set) : i ∈ ((View.whole main_v1).slice R).set := by
  rw [View.set_slice_whole]; exact h

/-- Every entry is in the block of the point that writes it. -/
theorem covered (i : S16384x2048.Idx) : i ∈ ((cfg0.win 5).blk (pointOf i)).view.set := by
  refine mem_slice ((cfg0.win 5).rect (pointOf i)) i ?_
  obtain ⟨-, -, -, -, -, s0, s1⟩ := index_eq (pointOf i)
  have hv : (pointOf i).val = (i 0).val / 512 := rfl
  have h0 : (i 0).val < 16384 := (i 0).isLt
  have h1 : (i 1).val < 2048 := (i 1).isLt
  refine (LoadRect.mem_set _).2 fun a => ?_
  match a with
  | ⟨0, _⟩ =>
    refine ⟨(i 0).val % 512, Nat.mod_lt _ (by decide), ?_⟩
    show (i 0).val = cc0_transform_5 (grid0.coords (pointOf i)) 0 * 512 + 1 * ((i 0).val % 512)
    rw [s0]; omega
  | ⟨1, _⟩ =>
    refine ⟨(i 1).val % 2048, Nat.mod_lt _ (by decide), ?_⟩
    show (i 1).val = cc0_transform_5 (grid0.coords (pointOf i)) 1 * 2048 + 1 * ((i 1).val % 2048)
    rw [s1]; omega

/-- The array after the run. -/
theorem final (c : Dev nD) : (dats m 0 c).arrAt 5 cfg0.N
    = result (m ((c : Thread nD τ).loc main_arg0)) (m ((c : Thread nD τ).loc main_arg1)) (m ((c : Thread nD τ).loc main_arg2))
      (m ((c : Thread nD τ).loc main_arg3)) :=
  (dats m 0 c).arrAt_eq_of_cover 5 _ (fun t _ => flushed_eq m c t) (fun i => ⟨pointOf i, flush0_5 _, covered i⟩)

end Cert.Kernel5Ideal.Dense
-- ==== Proof.Dense.OutClaims.lean ====
/- The claims about the output projection. -/
module

public import proofs.«01_k».proof.Defs
public import proofs.«01_k».proof.Proof.Gen.Kernel5.Frame
public import proofs.«01_k».proof.Proof.Gen.Kernel5Ideal.Value
public import proofs.«01_k».proof.Proof.Gen.Reference5Ideal.Run
public import proofs.«01_k».proof.Proof.Dense.Out
public import Idealize.ShloMosaic.Adequacy
public import Idealize.ShloMosaic.Init
public import Idealize.ShloMosaic.Lib.Quiescent
public import Idealize.ShloMosaic.Lib.Pipeline.Value

@[expose] public section

set_option maxRecDepth 16384

noncomputable section

namespace Cert.Proof.DenseOut

open Cert.Dense Idealize.ShloMosaic Idealize.ShloMosaic.TcCoe Idealize.SL.Sem

/-- The kernel's frame. -/
theorem frame_kernel : Cert.quiescent_Kernel5 := fun m ρ _ => Cert.Kernel5.Gen.frame m ρ

/-- The idealized kernel's frame. -/
theorem frame_kernelIdeal : Cert.quiescent_Kernel5Ideal := fun m ρ _ => Cert.Kernel5Ideal.Gen.frame m ρ

/-- The reference's frame. -/
theorem frame_referenceIdeal : Cert.quiescent_Reference5Ideal := fun m ρ _ =>
  (θ_run Cert.Reference5Ideal.defs _ _).mono (fun r h => ⟨fun c => (h c).2, Idealize.ShloMosaic.sem_eq_zero_of_no_sems (by decide) r.2⟩)
    (Cert.Reference5Ideal.Value.run m ρ)

/-- Two arrays side by side, in the left one's columns. -/
theorem concat_left (x y : FVec Ideal Cert.Reference5Ideal.S16384x1024 .bf16) (a : Fin 16384) (k : Fin 1024)
    (h : Shape.Concatenates [Cert.Reference5Ideal.S16384x1024, Cert.Reference5Ideal.S16384x1024] Cert.Reference5Ideal.S16384x2048 1) :
    (concatenate Cert.Reference5Ideal.S16384x2048 1 [⟨Cert.Reference5Ideal.S16384x1024, x⟩, ⟨Cert.Reference5Ideal.S16384x1024, y⟩] h
      : Cert.Reference5Ideal.S16384x2048.Idx → EReal) (ix2 a (k.castLE (by omega))) = x (ix2 a k) :=
  concatenate_pair_apply_left (t := Cert.Reference5Ideal.S16384x2048) (1 : Fin 2) x y h _ rfl (ix2 a k) fun b => match b with
    | ⟨0, _⟩ => rfl
    | ⟨1, _⟩ => rfl

/-- Two arrays side by side, in the right one's columns. -/
theorem concat_right (x y : FVec Ideal Cert.Reference5Ideal.S16384x1024 .bf16) (a : Fin 16384) (k : Fin 1024)
    (h : Shape.Concatenates [Cert.Reference5Ideal.S16384x1024, Cert.Reference5Ideal.S16384x1024] Cert.Reference5Ideal.S16384x2048 1) :
    (concatenate Cert.Reference5Ideal.S16384x2048 1 [⟨Cert.Reference5Ideal.S16384x1024, x⟩, ⟨Cert.Reference5Ideal.S16384x1024, y⟩] h
      : Cert.Reference5Ideal.S16384x2048.Idx → EReal) (ix2 a ⟨1024 + k.val, by omega⟩) = y (ix2 a k) :=
  concatenate_pair_apply_right (t := Cert.Reference5Ideal.S16384x2048) (1 : Fin 2) x y h _ rfl rfl (ix2 a k)
    (fun b hb => match b, hb with
      | ⟨0, _⟩, _ => rfl
      | ⟨1, _⟩, hb => absurd rfl hb)
    (Nat.add_comm _ _)

/-- The reference's array. -/
theorem ref_eq (x y : FVec Ideal Cert.Reference5Ideal.S16384x1024 .bf16) (w : FVec Ideal Cert.Reference5Ideal.S2048x2048 .f32)
    (r : FVec Ideal Cert.Reference5Ideal.S16384x2048 .f32) (z : FVec Ideal Cert.Reference5Ideal.S16384x2048 .f32)
    (hl : ∀ (a : Fin 16384) (k : Fin 1024), (z : Cert.Reference5Ideal.S16384x2048.Idx → EReal) (ix2 a (k.castLE (by omega))) = x (ix2 a k))
    (hr : ∀ (a : Fin 16384) (k : Fin 1024), (z : Cert.Reference5Ideal.S16384x2048.Idx → EReal) (ix2 a ⟨1024 + k.val, by omega⟩) = y (ix2 a k)) :
    addf r (Host.dotGeneral Cert.Reference5Ideal.dot_S16384x2048_S2048x2048_S16384x2048_1_0_0_1_n_n none z w) = Cert.Kernel5Ideal.Dense.result x y w r := by
  funext j
  obtain ⟨a, b, rfl⟩ : ∃ (a : Fin 16384) (b : Fin 2048), j = ix2 a b := ⟨j 0, j 1, eq_ix2 j⟩
  have h : Host.dotGeneral Cert.Reference5Ideal.dot_S16384x2048_S2048x2048_S16384x2048_1_0_0_1_n_n none z w (ix2 a b) = prodAt z w a b := by
    pointwise [prodAt]
  refine congrArg (fun u : EReal => r (ix2 a b) + u) (h.trans ?_)
  unfold prodAt
  refine (Fin.sum_univ_add (a := 1024) (b := 1024) _).trans (congrArg₂ (fun u v : EReal => u + v) ?_ ?_)
  · exact Finset.sum_congr rfl fun k _ => congrArg (fun u : EReal => u * w (ix2 (k.castLE (by omega)) b)) (hl a k)
  · exact Finset.sum_congr rfl fun k _ => congrArg (fun u : EReal => u * w (ix2 ⟨1024 + k.val, by omega⟩ b)) (hr a k)

/-- The kernel computes the reference over the extended reals. -/
theorem algebraic : Cert.algebraic_Kernel5Ideal_Reference5Ideal := fun m ρ m' ρ' _ hm => by
  refine ⟨fun c => Cert.Kernel5Ideal.Dense.result (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1))
      (m ((c.tc : Thread Cert.Kernel5Ideal.nD Cert.Kernel5Ideal.τ).loc Cert.Kernel5Ideal.main_arg2))
      (m ((c.tc : Thread Cert.Kernel5Ideal.nD Cert.Kernel5Ideal.τ).loc Cert.Kernel5Ideal.main_arg3)),
    (θ_run Cert.Kernel5Ideal.defs _ _).mono (fun r h c => ⟨(h c).1.trans (Cert.Kernel5Ideal.Dense.final m c), (h c).2⟩)
      (Cert.Kernel5Ideal.Value.run_blocks (F := Ideal) m ρ),
    (θ_run Cert.Reference5Ideal.defs _ _).mono (fun r h c => ⟨(h c).1.trans ?_, (h c).2⟩) (Cert.Reference5Ideal.Value.run m' ρ')⟩
  obtain ⟨h0, h1, h2, h3⟩ := hm c
  rw [h0, h1, h2, h3]
  exact ref_eq _ _ _ _ _ (fun a k => concat_left _ _ a k Cert.Reference5Ideal.Gen.concatenates_S16384x1024_S16384x1024_S16384x2048_d1) fun a k => concat_right _ _ a k Cert.Reference5Ideal.Gen.concatenates_S16384x1024_S16384x1024_S16384x2048_d1

end Cert.Proof.DenseOut
-- ==== Proof.Dense.In.lean ====
/- The input projection, entry by entry, over the extended reals. -/
module

public import proofs.«01_k».proof.Proof.Gen.Kernel6Ideal.Value
public import proofs.«01_k».proof.Proof.Dense.Spec
public import Idealize.ShloMosaic.Lib.Pipeline.Value
public import Idealize.ShloMosaic.Lib.Pointwise

@[expose] public section

set_option maxRecDepth 16384

noncomputable section

namespace Cert.Kernel6Ideal.Dense

open Cert.Kernel6Ideal Cert.Kernel6Ideal.Gen Cert.Dense
open Idealize.ShloMosaic Idealize.ShloMosaic.TcCoe Idealize.ShloMosaic.StableHlo Idealize.SL.Sem
open Idealize.ShloMosaic.Pipeline (Dat)

/-- The projection's array, of its four arguments: the attention's query and key heads normalised. -/
def result (x : S16384x2048.Idx → EReal) (g : S2048.Idx → EReal) (w : S2048x6736.Idx → EReal) (hg : S2x128.Idx → EReal) : S16384x7168.Idx → EReal := fun j =>
  if 4096 ≤ (j 1).val ∧ (j 1).val < 5120 then
    headAt (fun k => inAt x g w (j 0) ((j 1).val / 128 * 128 + k.val)) (fun k => hg (ix2 0 k)) ⟨(j 1).val % 128, Nat.mod_lt _ (by decide)⟩
  else if 6144 ≤ (j 1).val ∧ (j 1).val < 6400 then
    headAt (fun k => inAt x g w (j 0) ((j 1).val / 128 * 128 + k.val)) (fun k => hg (ix2 1 k)) ⟨(j 1).val % 128, Nat.mod_lt _ (by decide)⟩
  else inAt x g w (j 0) (j 1).val

/-- The indexer's keys and weights, of the first three arguments. -/
def result' (x : S16384x2048.Idx → EReal) (g : S2048.Idx → EReal) (w : S2048x6736.Idx → EReal) : S16384x128.Idx → EReal := fun j =>
  inAt x g w (j 0) (6656 + (j 1).val)

/-- The normalised rows a point computes. -/
theorem norm_apply (x : Vec Ideal S1024x2048 .f32) (g : Vec Ideal S1x2048 .f32) (a : Fin 1024) (b : Fin 2048) :
    k0_pay1 x g (ix2 a b) = x (ix2 a b) * rmsAt (fun k => x (ix2 a k)) * g (ix2 0 b) := by
  pointwise [k0_pay1, rmsAt]

/-- The product a point computes. -/
theorem prod_apply (xs : Vec Ideal S1024x2048 .bf16) (w : Vec Ideal S2048x1024 .bf16) (a : Fin 1024) (b : Fin 1024) :
    k0_pay2 xs w (ix2 a b) = ∑ k : Fin 2048, xs (ix2 a k) * w (ix2 k b) := by
  pointwise [k0_pay2]

/-- A head of the product, normalised and times the gain. -/
def headOf (acc : S1024x1024.Idx → EReal) (g : Fin 128 → EReal) (a b : Fin 1024) : EReal :=
  headAt (fun k => acc (ix2 a ⟨b.val / 128 * 128 + k.val, by have := b.isLt; have := k.isLt; omega⟩)) g ⟨b.val % 128, Nat.mod_lt _ (by decide)⟩

/-- A head at its own columns. -/
theorem headOf_eq (acc : S1024x1024.Idx → EReal) (g : Fin 128 → EReal) (a b : Fin 1024) (off : ℕ) (ho : off % 128 = 0) (hl : off ≤ b.val) (hu : b.val < off + 128) (hb : off + 128 ≤ 1024) :
    headOf acc g a b = headAt (fun k => acc (ix2 a ⟨off + k.val, by have := k.isLt; omega⟩)) g ⟨b.val - off, by omega⟩ := by
  unfold headOf
  have h : b.val / 128 * 128 = off := by omega
  have h' : b.val % 128 = b.val - off := by omega
  congr 1
  · funext k
    congr 2
    exact Fin.ext (by show b.val / 128 * 128 + k.val = off + k.val; rw [h])
  · exact Fin.ext h'

/-- What a point of query heads stores at columns 0 to 127. -/
theorem head0 (acc : FVec Ideal S1024x1024 .f32) (g : Vec Ideal S1x128 .f32) (a : Fin 1024) (d : Fin 128) :
    k0_pay8 acc g (ix2 a d) = headAt (fun k => acc (ix2 a ⟨0 + k.val, by omega⟩)) (fun k => g (ix2 0 k)) d := by
  pointwise [k0_pay8, headAt]

/-- What a point of query heads stores at columns 128 to 255. -/
theorem head128 (acc : FVec Ideal S1024x1024 .f32) (g : Vec Ideal S1x128 .f32) (a : Fin 1024) (d : Fin 128) :
    k0_pay9 acc g (ix2 a d) = headAt (fun k => acc (ix2 a ⟨128 + k.val, by omega⟩)) (fun k => g (ix2 0 k)) d := by
  pointwise [k0_pay9, headAt]

/-- What a point of query heads stores at columns 256 to 383. -/
theorem head256 (acc : FVec Ideal S1024x1024 .f32) (g : Vec Ideal S1x128 .f32) (a : Fin 1024) (d : Fin 128) :
    k0_pay13 (k0_pay10 acc) (k0_pay11 acc) k0_pay12 g (ix2 a d) = headAt (fun k => acc (ix2 a ⟨256 + k.val, by omega⟩)) (fun k => g (ix2 0 k)) d := by
  pointwise [k0_pay10, k0_pay11, k0_pay12, k0_pay13, headAt]

/-- What a point of query heads stores at columns 384 to 511. -/
theorem head384 (acc : FVec Ideal S1024x1024 .f32) (g : Vec Ideal S1x128 .f32) (a : Fin 1024) (d : Fin 128) :
    k0_pay14 acc g (ix2 a d) = headAt (fun k => acc (ix2 a ⟨384 + k.val, by omega⟩)) (fun k => g (ix2 0 k)) d := by
  pointwise [k0_pay14, headAt]

/-- What a point of query heads stores at columns 512 to 639. -/
theorem head512 (acc : FVec Ideal S1024x1024 .f32) (g : Vec Ideal S1x128 .f32) (a : Fin 1024) (d : Fin 128) :
    k0_pay16 (k0_pay15 acc g) (ix2 a d) = headAt (fun k => acc (ix2 a ⟨512 + k.val, by omega⟩)) (fun k => g (ix2 0 k)) d := by
  pointwise [k0_pay15, k0_pay16, headAt]

/-- What a point of query heads stores at columns 640 to 767. -/
theorem head640 (acc : FVec Ideal S1024x1024 .f32) (g : Vec Ideal S1x128 .f32) (a : Fin 1024) (d : Fin 128) :
    k0_pay17 acc g (ix2 a d) = headAt (fun k => acc (ix2 a ⟨640 + k.val, by omega⟩)) (fun k => g (ix2 0 k)) d := by
  pointwise [k0_pay17, headAt]

/-- What a point of query heads stores at columns 768 to 895. -/
theorem head768 (acc : FVec Ideal S1024x1024 .f32) (g : Vec Ideal S1x128 .f32) (a : Fin 1024) (d : Fin 128) :
    k0_pay18 acc g (ix2 a d) = headAt (fun k => acc (ix2 a ⟨768 + k.val, by omega⟩)) (fun k => g (ix2 0 k)) d := by
  pointwise [k0_pay18, headAt]

/-- What a point of query heads stores at columns 896 to 1023. -/
theorem head896 (acc : FVec Ideal S1024x1024 .f32) (g : Vec Ideal S1x128 .f32) (a : Fin 1024) (d : Fin 128) :
    k0_pay4 (k0_pay19 acc) (k0_pay20 acc) g (ix2 a d) = headAt (fun k => acc (ix2 a ⟨896 + k.val, by omega⟩)) (fun k => g (ix2 0 k)) d := by
  pointwise [k0_pay4, k0_pay19, k0_pay20, headAt]

/-- What a point of key heads stores at columns 0 to 127. -/
theorem head0' (xs : Vec Ideal S1024x2048 .bf16) (w : Vec Ideal S2048x1024 .bf16) (g : Vec Ideal S1x128 .f32) (a : Fin 1024) (d : Fin 128) :
    k0_pay5 xs w g (ix2 a d) = headAt (fun k => k0_pay2 xs w (ix2 a ⟨0 + k.val, by omega⟩)) (fun k => g (ix2 0 k)) d := by
  pointwise [k0_pay5, headAt]

/-- What a point of key heads stores at columns 128 to 255. -/
theorem head128' (xs : Vec Ideal S1024x2048 .bf16) (w : Vec Ideal S2048x1024 .bf16) (g : Vec Ideal S1x128 .f32) (a : Fin 1024) (d : Fin 128) :
    k0_pay6 xs w g (ix2 a d) = headAt (fun k => k0_pay2 xs w (ix2 a ⟨128 + k.val, by omega⟩)) (fun k => g (ix2 0 k)) d := by
  pointwise [k0_pay6, headAt]

/-- The indexer's columns of a point's product. -/
theorem tail_apply (xs : Vec Ideal S1024x2048 .bf16) (w : Vec Ideal S2048x1024 .bf16) (a : Fin 1024) (d : Fin 128) :
    k0_pay7 xs w (ix2 a d) = ∑ k : Fin 2048, xs (ix2 a k) * w (ix2 k ⟨512 + d.val, by omega⟩) := by
  pointwise [k0_pay7, k0_pay2]

/-- A strip of 128 columns stored over what was there, at an entry. -/
theorem strip (off : ℕ) (inb : ∀ a, (![0, off] : Fin 2 → ℕ) a + (![1024, 128] : Fin 2 → ℕ) a ≤ S1024x1024.size a)
    (w : (⟨2, ![1024, 128]⟩ : Shape).Idx → EReal) (L : List (View.Piece (Elt Ideal) S1024x1024 .bf16)) (a b : Fin 1024) :
    View.canon (Val := Elt Ideal) (⟨Rect.unit (s := S1024x1024) ![0, off] ![1024, 128] inb, w⟩ :: L) (ix2 a b)
      = if h : off ≤ b.val ∧ b.val < off + 128 then w (ix2 a ⟨b.val - off, by omega⟩) else View.canon (Val := Elt Ideal) L (ix2 a b) := by
  split
  · rename_i h
    have he : (ix2 a b : S1024x1024.Idx) = (Rect.unit (s := S1024x1024) ![0, off] ![1024, 128] inb).emb (ix2 a ⟨b.val - off, by omega⟩) := by
      funext d; apply Fin.ext
      match d with
      | ⟨0, _⟩ => show a.val = 0 + 1 * a.val; omega
      | ⟨1, _⟩ => show b.val = off + 1 * (b.val - off); omega
    rw [he]
    exact View.canon_cons_emb _ _ _ _
  · rename_i h
    refine View.canon_cons_of_not_mem _ _ fun hm => h ?_
    exact (Rect.mem_set_unit (inb := inb)).1 hm 1

/-- A row of the heads' gains, read from the array of two. -/
theorem gain_row (x : Vec Ideal S2x128 .f32) (q : Fin 2) (inb : ∀ a, (![q.val, 0] : Fin 2 → ℕ) a + (![1, 128] : Fin 2 → ℕ) a ≤ S2x128.size a) (k : Fin 128) :
    (View.ld x (Rect.unit (s := S2x128) ![q.val, 0] ![1, 128] inb) : S1x128.Idx → EReal) (ix2 0 k) = x (ix2 q k) := by
  show x _ = x _
  congr 1
  funext d; apply Fin.ext
  match d with
  | ⟨0, _⟩ => show q.val + 1 * 0 = q.val; omega
  | ⟨1, _⟩ => show 0 + 1 * k.val = k.val; omega

set_option maxHeartbeats 4000000 in
/-- The first point of a row of blocks leaves the normalised rows in the scratch. -/
theorem sout_A (c : Dev nD) (i : grid0.Coords) (arg2 : Memref sig .tc .vmem S1024x2048 .f32) (harg2 : arg2.IsWhole) (arg3 : Memref sig .tc .vmem S1x2048 .f32) (harg3 : arg3.IsWhole)
    (arg4 : Memref sig .tc .vmem S2048x1024 .bf16) (harg4 : arg4.IsWhole) (arg5 : Memref sig .tc .vmem S2x128 .f32) (harg5 : arg5.IsWhole)
    (arg6 : Memref sig .tc .vmem S1024x1024 .bf16) (harg6 : arg6.IsWhole) (arg7 : Memref sig .tc .vmem S1024x128 .f32) (harg7 : arg7.IsWhole)
    (arg8 : Memref sig .tc .vmem S1024x2048 .bf16) (harg8 : arg8.IsWhole) (hc0 : cond0_0 i) (hc1 : ¬cond0_1 i) (hc2 : ¬cond0_2 i)
    (x0 : Vec Ideal S1024x2048 .f32) (x1 : Vec Ideal S1x2048 .f32) (x2 : Vec Ideal S2048x1024 .bf16) (x3 : Vec Ideal S2x128 .f32) :
    sout0_A_0 c i arg2 harg2 arg3 harg3 arg4 harg4 arg5 harg5 arg6 harg6 arg7 harg7 arg8 harg8 hc0 hc1 hc2 x0 x1 x2 x3 = k0_pay1 x0 x1 := by
  unfold sout0_A_0
  rw [View.read_writes_junk_eq_canon]
  unfold kernelRun0_A
  dsimp only
  sl_unfold_words
  rw [View.canon_unit_zero zeros]
  simp only [View.readAt_eq_ld, harg2.read_unread, harg3.read_unread, View.ld_unit_zero (S := S1024x2048) zeros, View.ld_unit_zero (S := S1x2048) zeros]

set_option maxHeartbeats 4000000 in
/-- The first point of a row of blocks stores the product of the rows it normalised. -/
theorem out_A (c : Dev nD) (i : grid0.Coords) (arg2 : Memref sig .tc .vmem S1024x2048 .f32) (harg2 : arg2.IsWhole) (arg3 : Memref sig .tc .vmem S1x2048 .f32) (harg3 : arg3.IsWhole)
    (arg4 : Memref sig .tc .vmem S2048x1024 .bf16) (harg4 : arg4.IsWhole) (arg5 : Memref sig .tc .vmem S2x128 .f32) (harg5 : arg5.IsWhole)
    (arg6 : Memref sig .tc .vmem S1024x1024 .bf16) (harg6 : arg6.IsWhole) (arg7 : Memref sig .tc .vmem S1024x128 .f32) (harg7 : arg7.IsWhole)
    (arg8 : Memref sig .tc .vmem S1024x2048 .bf16) (harg8 : arg8.IsWhole) (hc0 : cond0_0 i) (hc1 : ¬cond0_1 i) (hc2 : ¬cond0_2 i)
    (x0 : Vec Ideal S1024x2048 .f32) (x1 : Vec Ideal S1x2048 .f32) (x2 : Vec Ideal S2048x1024 .bf16) (x3 : Vec Ideal S2x128 .f32) :
    out0_A_4 c i arg2 harg2 arg3 harg3 arg4 harg4 arg5 harg5 arg6 harg6 arg7 harg7 arg8 harg8 hc0 hc1 hc2 x0 x1 x2 x3 = k0_pay2 (k0_pay1 x0 x1) x2 := by
  unfold out0_A_4
  rw [View.read_writes_junk_eq_canon]
  unfold kernelRun0_A
  dsimp only
  sl_unfold_words
  rw [View.canon_unit_zero zeros, View.readCov_unit_zero (S := S1024x2048) _ zeros]
  simp only [View.readAt_eq_ld, harg2.read_unread, harg3.read_unread, harg4.read_unread, View.ld_unit_zero (S := S1024x2048) zeros, View.ld_unit_zero (S := S2048x1024) zeros, View.ld_unit_zero (S := S1x2048) zeros]
  rfl

set_option maxHeartbeats 4000000 in
/-- A point of no heads stores the product of the scratch's rows. -/
theorem out_B (c : Dev nD) (i : grid0.Coords) (arg2 : Memref sig .tc .vmem S1024x2048 .f32) (harg2 : arg2.IsWhole) (arg3 : Memref sig .tc .vmem S1x2048 .f32) (harg3 : arg3.IsWhole)
    (arg4 : Memref sig .tc .vmem S2048x1024 .bf16) (harg4 : arg4.IsWhole) (arg5 : Memref sig .tc .vmem S2x128 .f32) (harg5 : arg5.IsWhole)
    (arg6 : Memref sig .tc .vmem S1024x1024 .bf16) (harg6 : arg6.IsWhole) (arg7 : Memref sig .tc .vmem S1024x128 .f32) (harg7 : arg7.IsWhole)
    (arg8 : Memref sig .tc .vmem S1024x2048 .bf16) (harg8 : arg8.IsWhole) (hc0 : ¬cond0_0 i) (hc1 : ¬cond0_1 i) (hc2 : ¬cond0_2 i)
    (x0 : Vec Ideal S1024x2048 .f32) (x1 : Vec Ideal S1x2048 .f32) (x2 : Vec Ideal S2048x1024 .bf16) (x3 : Vec Ideal S2x128 .f32) (xs : Vec Ideal S1024x2048 .bf16) :
    out0_B_4 c i arg2 harg2 arg3 harg3 arg4 harg4 arg5 harg5 arg6 harg6 arg7 harg7 arg8 harg8 hc0 hc1 hc2 x0 x1 x2 x3 xs = k0_pay2 xs x2 := by
  unfold out0_B_4
  rw [View.read_writes_junk_eq_canon]
  unfold kernelRun0_B
  dsimp only
  sl_unfold_words
  rw [View.canon_unit_zero zeros]
  simp only [View.readAt_eq_ld, harg8.read_unread, harg4.read_unread, View.ld_unit_zero (S := S1024x2048) zeros, View.ld_unit_zero (S := S2048x1024) zeros]
  rfl

set_option maxHeartbeats 4000000 in
/-- A point of query heads stores the scratch's product, its heads normalised. -/
theorem out_C (c : Dev nD) (i : grid0.Coords) (arg2 : Memref sig .tc .vmem S1024x2048 .f32) (harg2 : arg2.IsWhole) (arg3 : Memref sig .tc .vmem S1x2048 .f32) (harg3 : arg3.IsWhole)
    (arg4 : Memref sig .tc .vmem S2048x1024 .bf16) (harg4 : arg4.IsWhole) (arg5 : Memref sig .tc .vmem S2x128 .f32) (harg5 : arg5.IsWhole)
    (arg6 : Memref sig .tc .vmem S1024x1024 .bf16) (harg6 : arg6.IsWhole) (arg7 : Memref sig .tc .vmem S1024x128 .f32) (harg7 : arg7.IsWhole)
    (arg8 : Memref sig .tc .vmem S1024x2048 .bf16) (harg8 : arg8.IsWhole) (hc0 : ¬cond0_0 i) (hc1 : cond0_1 i) (hc2 : ¬cond0_2 i)
    (x0 : Vec Ideal S1024x2048 .f32) (x1 : Vec Ideal S1x2048 .f32) (x2 : Vec Ideal S2048x1024 .bf16) (x3 : Vec Ideal S2x128 .f32) (xs : Vec Ideal S1024x2048 .bf16) (a b : Fin 1024) :
    out0_C_4 c i arg2 harg2 arg3 harg3 arg4 harg4 arg5 harg5 arg6 harg6 arg7 harg7 arg8 harg8 hc0 hc1 hc2 x0 x1 x2 x3 xs (ix2 a b) = headOf (k0_pay2 xs x2) (fun k => x3 (ix2 0 k)) a b := by
  unfold out0_C_4
  rw [View.read_writes_junk_eq_canon]
  unfold kernelRun0_C
  dsimp only
  sl_unfold_words
  simp only [View.readAt_eq_ld, harg8.read_unread, harg4.read_unread, harg5.read_unread, View.ld_unit_zero (S := S1024x2048) zeros, View.ld_unit_zero (S := S2048x1024) zeros]
  rw [strip, strip, strip, strip, strip, strip, strip, strip]
  by_cases h896 : 896 ≤ b.val ∧ b.val < 896 + 128
  · rw [dif_pos h896, head896]
    rw [headOf_eq _ _ a b 896 (by decide) h896.1 h896.2 (by decide)]
    exact congrArg (fun g => headAt _ g _) (funext fun k => gain_row x3 0 _ k)
  rw [dif_neg h896]
  by_cases h768 : 768 ≤ b.val ∧ b.val < 768 + 128
  · rw [dif_pos h768, head768]
    rw [headOf_eq _ _ a b 768 (by decide) h768.1 h768.2 (by decide)]
    exact congrArg (fun g => headAt _ g _) (funext fun k => gain_row x3 0 _ k)
  rw [dif_neg h768]
  by_cases h640 : 640 ≤ b.val ∧ b.val < 640 + 128
  · rw [dif_pos h640, head640]
    rw [headOf_eq _ _ a b 640 (by decide) h640.1 h640.2 (by decide)]
    exact congrArg (fun g => headAt _ g _) (funext fun k => gain_row x3 0 _ k)
  rw [dif_neg h640]
  by_cases h512 : 512 ≤ b.val ∧ b.val < 512 + 128
  · rw [dif_pos h512, head512]
    rw [headOf_eq _ _ a b 512 (by decide) h512.1 h512.2 (by decide)]
    exact congrArg (fun g => headAt _ g _) (funext fun k => gain_row x3 0 _ k)
  rw [dif_neg h512]
  by_cases h384 : 384 ≤ b.val ∧ b.val < 384 + 128
  · rw [dif_pos h384, head384]
    rw [headOf_eq _ _ a b 384 (by decide) h384.1 h384.2 (by decide)]
    exact congrArg (fun g => headAt _ g _) (funext fun k => gain_row x3 0 _ k)
  rw [dif_neg h384]
  by_cases h256 : 256 ≤ b.val ∧ b.val < 256 + 128
  · rw [dif_pos h256, head256]
    rw [headOf_eq _ _ a b 256 (by decide) h256.1 h256.2 (by decide)]
    exact congrArg (fun g => headAt _ g _) (funext fun k => gain_row x3 0 _ k)
  rw [dif_neg h256]
  by_cases h128 : 128 ≤ b.val ∧ b.val < 128 + 128
  · rw [dif_pos h128, head128]
    rw [headOf_eq _ _ a b 128 (by decide) h128.1 h128.2 (by decide)]
    exact congrArg (fun g => headAt _ g _) (funext fun k => gain_row x3 0 _ k)
  rw [dif_neg h128]
  by_cases h0 : 0 ≤ b.val ∧ b.val < 0 + 128
  · rw [dif_pos h0, head0]
    rw [headOf_eq _ _ a b 0 (by decide) h0.1 h0.2 (by decide)]
    exact congrArg (fun g => headAt _ g _) (funext fun k => gain_row x3 0 _ k)
  rw [dif_neg h0]
  exfalso; have := b.isLt; omega

set_option maxHeartbeats 4000000 in
/-- A point of key heads stores the scratch's product, its first two heads normalised. -/
theorem out_D (c : Dev nD) (i : grid0.Coords) (arg2 : Memref sig .tc .vmem S1024x2048 .f32) (harg2 : arg2.IsWhole) (arg3 : Memref sig .tc .vmem S1x2048 .f32) (harg3 : arg3.IsWhole)
    (arg4 : Memref sig .tc .vmem S2048x1024 .bf16) (harg4 : arg4.IsWhole) (arg5 : Memref sig .tc .vmem S2x128 .f32) (harg5 : arg5.IsWhole)
    (arg6 : Memref sig .tc .vmem S1024x1024 .bf16) (harg6 : arg6.IsWhole) (arg7 : Memref sig .tc .vmem S1024x128 .f32) (harg7 : arg7.IsWhole)
    (arg8 : Memref sig .tc .vmem S1024x2048 .bf16) (harg8 : arg8.IsWhole) (hc0 : ¬cond0_0 i) (hc1 : ¬cond0_1 i) (hc2 : cond0_2 i)
    (x0 : Vec Ideal S1024x2048 .f32) (x1 : Vec Ideal S1x2048 .f32) (x2 : Vec Ideal S2048x1024 .bf16) (x3 : Vec Ideal S2x128 .f32) (xs : Vec Ideal S1024x2048 .bf16) (a b : Fin 1024) :
    out0_D_4 c i arg2 harg2 arg3 harg3 arg4 harg4 arg5 harg5 arg6 harg6 arg7 harg7 arg8 harg8 hc0 hc1 hc2 x0 x1 x2 x3 xs (ix2 a b) = if b.val < 256 then headOf (k0_pay2 xs x2) (fun k => x3 (ix2 1 k)) a b else k0_pay2 xs x2 (ix2 a b) := by
  unfold out0_D_4
  rw [View.read_writes_junk_eq_canon]
  unfold kernelRun0_D
  dsimp only
  sl_unfold_words
  simp only [View.readAt_eq_ld, harg8.read_unread, harg4.read_unread, harg5.read_unread, View.ld_unit_zero (S := S1024x2048) zeros, View.ld_unit_zero (S := S2048x1024) zeros]
  rw [strip, strip]
  by_cases h128 : 128 ≤ b.val ∧ b.val < 128 + 128
  · rw [dif_pos h128, if_pos (by omega), head128']
    rw [headOf_eq _ _ a b 128 (by decide) h128.1 h128.2 (by decide)]
    exact congrArg (fun g => headAt _ g _) (funext fun k => gain_row x3 1 _ k)
  rw [dif_neg h128]
  by_cases h0 : 0 ≤ b.val ∧ b.val < 0 + 128
  · rw [dif_pos h0, if_pos (by omega), head0']
    rw [headOf_eq _ _ a b 0 (by decide) h0.1 h0.2 (by decide)]
    exact congrArg (fun g => headAt _ g _) (funext fun k => gain_row x3 1 _ k)
  rw [dif_neg h0]
  rw [if_neg (by omega), View.canon_unit_zero zeros]
  rfl

set_option maxHeartbeats 4000000 in
/-- A point of key heads stores the indexer's columns. -/
theorem tail_D (c : Dev nD) (i : grid0.Coords) (arg2 : Memref sig .tc .vmem S1024x2048 .f32) (harg2 : arg2.IsWhole) (arg3 : Memref sig .tc .vmem S1x2048 .f32) (harg3 : arg3.IsWhole)
    (arg4 : Memref sig .tc .vmem S2048x1024 .bf16) (harg4 : arg4.IsWhole) (arg5 : Memref sig .tc .vmem S2x128 .f32) (harg5 : arg5.IsWhole)
    (arg6 : Memref sig .tc .vmem S1024x1024 .bf16) (harg6 : arg6.IsWhole) (arg7 : Memref sig .tc .vmem S1024x128 .f32) (harg7 : arg7.IsWhole)
    (arg8 : Memref sig .tc .vmem S1024x2048 .bf16) (harg8 : arg8.IsWhole) (hc0 : ¬cond0_0 i) (hc1 : ¬cond0_1 i) (hc2 : cond0_2 i)
    (x0 : Vec Ideal S1024x2048 .f32) (x1 : Vec Ideal S1x2048 .f32) (x2 : Vec Ideal S2048x1024 .bf16) (x3 : Vec Ideal S2x128 .f32) (xs : Vec Ideal S1024x2048 .bf16) :
    out0_D_5 c i arg2 harg2 arg3 harg3 arg4 harg4 arg5 harg5 arg6 harg6 arg7 harg7 arg8 harg8 hc0 hc1 hc2 x0 x1 x2 x3 xs = k0_pay7 xs x2 := by
  unfold out0_D_5
  rw [View.read_writes_junk_eq_canon]
  unfold kernelRun0_D
  dsimp only
  sl_unfold_words
  rw [View.canon_unit_zero zeros]
  simp only [View.readAt_eq_ld, harg8.read_unread, harg4.read_unread, View.ld_unit_zero (S := S1024x2048) zeros, View.ld_unit_zero (S := S2048x1024) zeros]

end Cert.Kernel6Ideal.Dense
-- ==== Proof.Dense.Join.lean ====
/- Arrays joined along their columns, at an entry. -/
module

public import Idealize.ShloMosaic.Lib.Pointwise

@[expose] public section

set_option maxRecDepth 16384

noncomputable section

namespace Cert.Dense

open Idealize.ShloMosaic

/-- Arrays of `M` rows, as the pieces of a joined array. -/
def pieces {M : ℕ} (L : List ((n : ℕ) × ((⟨2, ![M, n]⟩ : Shape).Idx → EReal))) : List ((s : Shape) × (s.Idx → EReal)) :=
  L.map fun p => ⟨⟨2, ![M, p.1]⟩, p.2⟩

/-- The piece that column `c` falls in holds `v` at row `r`. -/
def Agrees {M : ℕ} (r : Fin M) (v : EReal) : List ((n : ℕ) × ((⟨2, ![M, n]⟩ : Shape).Idx → EReal)) → ℕ → Prop
  | [], _ => True
  | p :: L, c => (∀ h : c < p.1, p.2 (ix2 r ⟨c, h⟩) = v) ∧ (p.1 ≤ c → Agrees r v L (c - p.1))

/-- The first piece holds `v` if column `c` is in it, and the others do if it is past it. -/
theorem Agrees.cons {M : ℕ} {r : Fin M} {v : EReal} {n : ℕ} {x : (⟨2, ![M, n]⟩ : Shape).Idx → EReal} {L : List ((n : ℕ) × ((⟨2, ![M, n]⟩ : Shape).Idx → EReal))} {c : ℕ}
    (h : ∀ h : c < n, x (ix2 r ⟨c, h⟩) = v) (h' : n ≤ c → Agrees r v L (c - n)) : Agrees r v (⟨n, x⟩ :: L) c := ⟨h, h'⟩

/-- The pieces read at a column hold what the piece it falls in does. -/
theorem concatenateAt_eq {M N : ℕ} (r : Fin M) (j : Fin N) (v : EReal) : ∀ (L : List ((n : ℕ) × ((⟨2, ![M, n]⟩ : Shape).Idx → EReal)))
    (hs : ∀ s ∈ (pieces L).map (·.1), s.FitsOff (⟨2, ![M, N]⟩ : Shape) 1) (c : ℕ) (hc : c < (axisSizes (⟨2, ![M, N]⟩ : Shape) 1 (pieces L)).sum),
    Agrees r v L c → concatenateAt (⟨2, ![M, N]⟩ : Shape) 1 (ix2 r j) (pieces L) hs c hc = v
  | [], _, _, hc, _ => absurd hc (Nat.not_lt_zero _)
  | [p], hs, c, hc, h => by
    have hl : c < p.1 := by
      have h2 := hc
      rw [show pieces [p] = [⟨⟨2, ![M, p.1]⟩, p.2⟩] from rfl, axisSizes_cons _ _ _ _ (hs _ List.mem_cons_self)] at h2
      exact lt_of_lt_of_eq h2 (Nat.add_zero _)
    refine (concatenateAt_singleton (t := (⟨2, ![M, N]⟩ : Shape)) 1 (ix2 r j) p.2 hs c hc).trans ?_
    rw [Shape.Idx.norm_def]
    refine Eq.trans (congrArg p.2 (funext fun d => Fin.ext ?_)) (h.1 hl)
    match d with
    | ⟨0, _⟩ => rfl
    | ⟨1, _⟩ => rfl
  | p :: q :: L, hs, c, hc, h => by
    refine (concatenateAt_cons (t := (⟨2, ![M, N]⟩ : Shape)) 1 (ix2 r j) p.2 (⟨⟨2, ![M, q.1]⟩, q.2⟩ : (s : Shape) × (s.Idx → EReal)) (pieces L) hs c hc).trans ?_
    split
    · rename_i hl
      rw [Shape.Idx.norm_def]
      refine Eq.trans (congrArg p.2 (funext fun d => Fin.ext ?_)) (h.1 hl)
      match d with
      | ⟨0, _⟩ => rfl
      | ⟨1, _⟩ => rfl
    · rename_i hl
      exact concatenateAt_eq r j v (q :: L) _ _ _ (h.2 (Nat.le_of_not_lt hl))

/-- A joined array at an entry. -/
theorem concatenate_eq {M N : ℕ} (L : List ((n : ℕ) × ((⟨2, ![M, n]⟩ : Shape).Idx → EReal)))
    (hc : Shape.Concatenates ((pieces L).map (·.1)) (⟨2, ![M, N]⟩ : Shape) 1) (r : Fin M) (j : Fin N) (v : EReal) (h : Agrees r v L j.val) :
    concatenate (⟨2, ![M, N]⟩ : Shape) 1 (pieces L) hc (ix2 r j) = v := by
  rw [concatenate_apply]
  exact concatenateAt_eq r j v L _ _ _ h

end Cert.Dense
-- ==== Proof.Dense.InResult.lean ====
/- The arrays the input projection leaves, over the extended reals. -/
module

public import proofs.«01_k».proof.Proof.Gen.Kernel6Ideal.Value
public import proofs.«01_k».proof.Proof.Dense.In
public import Idealize.ShloMosaic.Lib.Pipeline.Value
public import Idealize.ShloMosaic.Lib.Pointwise
public import proofs.«01_k».proof.Proof.Dense.Join

@[expose] public section

set_option maxRecDepth 16384

noncomputable section

namespace Cert.Kernel6Ideal.Dense

open Cert.Kernel6Ideal Cert.Kernel6Ideal.Gen Cert.Dense
open Idealize.ShloMosaic Idealize.ShloMosaic.TcCoe Idealize.ShloMosaic.StableHlo Idealize.SL.Sem
open Idealize.ShloMosaic.Pipeline (Dat)

/-- The weights the host joins. -/
def joined (w : FVec Ideal S2048x6736 .f32) : FVec Ideal S2048x7168 .f32 :=
  concatenate S2048x7168 1
    [⟨S2048x2048, extractStridedSlice S2048x2048 ![0, 2640] w slices_S2048x6736_S2048x2048_0_2640⟩,
      ⟨S2048x2048, extractStridedSlice S2048x2048 ![0, 4688] w slices_S2048x6736_S2048x2048_0_4688⟩,
      ⟨S2048x1024, extractStridedSlice S2048x1024 ![0, 0] w slices_S2048x6736_S2048x1024_0_0⟩,
      ⟨S2048x1024, extractStridedSlice S2048x1024 ![0, 1536] w slices_S2048x6736_S2048x1024_0_1536⟩,
      ⟨S2048x512, extractStridedSlice S2048x512 ![0, 1024] w slices_S2048x6736_S2048x512_0_1024⟩,
      ⟨S2048x512, pad S2048x512 ![0, 0] ![0, 432] ![0, 0] (extractStridedSlice S2048x80 ![0, 2560] w slices_S2048x6736_S2048x80_0_2560) (sitofp (F := Ideal) .f32 (constantI S_ 32 0#32))
        pads_S2048x80_S2048x512_000_04320 h_S_⟩] concatenates_S2048x2048_S2048x2048_S2048x1024_S2048x1024_S2048x512_S2048x512_S2048x7168_d1

/-- The zero the host pads with. -/
theorem pad_zero : (FloatOps.sitofp (F := Ideal) .f32 (0#32 : BitVec 32) : EReal) = 0 := by
  show (((0#32 : BitVec 32).toInt : ℝ) : EReal) = 0
  simp

/-- A column of the weights that the call's column is cut from. -/
theorem colAt_of (w : FVec Ideal S2048x6736 .f32) (k : Fin 2048) {n j : ℕ} (h : n < 6736) (hn : src j = n) : w (ix2 k ⟨n, h⟩) = colAt w k (src j) := by
  rw [hn]; unfold colAt; rw [dif_pos h]

/-- A column of padding. -/
theorem colAt_pad (w : FVec Ideal S2048x6736 .f32) (k : Fin 2048) {j : ℕ} (hn : src j = 6736) : (0 : EReal) = colAt w k (src j) := by
  rw [hn]; unfold colAt; rw [dif_neg (by decide)]

/-- The last piece: the index's keys and weights, padded. -/
theorem padded_apply (w : FVec Ideal S2048x6736 .f32) (k : Fin 2048) (c : ℕ) (h : c < 512) :
    pad S2048x512 ![0, 0] ![0, 432] ![0, 0] (extractStridedSlice S2048x80 ![0, 2560] w slices_S2048x6736_S2048x80_0_2560) (sitofp (F := Ideal) .f32 (constantI S_ 32 0#32))
        pads_S2048x80_S2048x512_000_04320 h_S_ (ix2 k ⟨c, h⟩) = colAt w k (if c < 80 then 2560 + c else 6736) := by
  pointwise []
  by_cases h' : c < 80
  · rw [dif_pos h', if_pos h']; unfold colAt; rw [dif_pos (by omega)]
  · rw [dif_neg h', if_neg h', pad_zero]; unfold colAt; rw [dif_neg (by decide)]

/-- An entry of the joined weights. -/
theorem joined_apply (w : FVec Ideal S2048x6736 .f32) (k : Fin 2048) (j : Fin 7168) : joined w (ix2 k j) = colAt w k (src j.val) := by
  have hj := j.isLt
  refine concatenate_eq (M := 2048) (N := 7168)
    [⟨2048, extractStridedSlice S2048x2048 ![0, 2640] w slices_S2048x6736_S2048x2048_0_2640⟩,
      ⟨2048, extractStridedSlice S2048x2048 ![0, 4688] w slices_S2048x6736_S2048x2048_0_4688⟩,
      ⟨1024, extractStridedSlice S2048x1024 ![0, 0] w slices_S2048x6736_S2048x1024_0_0⟩,
      ⟨1024, extractStridedSlice S2048x1024 ![0, 1536] w slices_S2048x6736_S2048x1024_0_1536⟩,
      ⟨512, extractStridedSlice S2048x512 ![0, 1024] w slices_S2048x6736_S2048x512_0_1024⟩,
      ⟨512, pad S2048x512 ![0, 0] ![0, 432] ![0, 0] (extractStridedSlice S2048x80 ![0, 2560] w slices_S2048x6736_S2048x80_0_2560) (sitofp (F := Ideal) .f32 (constantI S_ 32 0#32))
        pads_S2048x80_S2048x512_000_04320 h_S_⟩] concatenates_S2048x2048_S2048x2048_S2048x1024_S2048x1024_S2048x512_S2048x512_S2048x7168_d1 k j _ ?_
  refine Agrees.cons (fun h => ?_) fun h => Agrees.cons (fun h => ?_) fun h => Agrees.cons (fun h => ?_) fun h => Agrees.cons (fun h => ?_) fun h =>
    Agrees.cons (fun h => ?_) fun h => Agrees.cons (fun h => ?_) fun h => trivial
  · pointwise []
    exact colAt_of w k _ (by unfold src; split_ifs <;> omega)
  · pointwise []
    exact colAt_of w k _ (by unfold src; split_ifs <;> omega)
  · pointwise []
    exact colAt_of w k _ (by unfold src; split_ifs <;> omega)
  · pointwise []
    exact colAt_of w k _ (by unfold src; split_ifs <;> omega)
  · pointwise []
    exact colAt_of w k _ (by unfold src; split_ifs <;> omega)
  · refine (padded_apply w k _ h).trans (congrArg (colAt w k) ?_)
    unfold src; split_ifs <;> omega

/-- The windows' block indices at a point. -/
theorem index_eq : ∀ t : Fin grid0.N,
    (cc0_transform_0 (grid0.coords t) 0 = t.val / 7 ∧ cc0_transform_0 (grid0.coords t) 1 = 0)
    ∧ (cc0_transform_1 (grid0.coords t) 0 = 0 ∧ cc0_transform_1 (grid0.coords t) 1 = 0)
    ∧ (cc0_transform_2 (grid0.coords t) 0 = 0 ∧ cc0_transform_2 (grid0.coords t) 1 = t.val % 7)
    ∧ (cc0_transform_3 (grid0.coords t) 0 = 0 ∧ cc0_transform_3 (grid0.coords t) 1 = 0)
    ∧ (cc0_transform_4 (grid0.coords t) 0 = t.val / 7 ∧ cc0_transform_4 (grid0.coords t) 1 = t.val % 7)
    ∧ (cc0_transform_5 (grid0.coords t) 0 = t.val / 7 ∧ cc0_transform_5 (grid0.coords t) 1 = 0) := by decide +kernel

variable (m : (ℓ : Loc nD τ sig) → Buf (Elt Ideal) ℓ) (ρ : Dev nD → PrngReg)

/-- The row block a point reads, at an entry. -/
theorem rows_eq (c : Dev nD) (t : Fin grid0.N) (a : Fin 1024) (k : Fin 2048) (r : Fin 16384) (hr : r.val = t.val / 7 * 1024 + a.val) :
    (iblk m c 0 t : S1024x2048.Idx → EReal) (ix2 a k) = (m ((c : Thread nD τ).loc main_arg0) : S16384x2048.Idx → EReal) (ix2 r k) := by
  obtain ⟨⟨p0, p1⟩, -⟩ := index_eq t
  rw [← V_main_arg0 m c]
  show (V m c main_arg0 : S16384x2048.Idx → EReal) _ = _
  congr 1
  funext d; apply Fin.ext
  match d with
  | ⟨0, _⟩ => show cc0_transform_0 (grid0.coords t) 0 * 1024 + 1 * a.val = r.val; rw [p0, hr]; omega
  | ⟨1, _⟩ => show cc0_transform_0 (grid0.coords t) 1 * 2048 + 1 * k.val = k.val; rw [p1]; omega

/-- The gain as the host prepares it. -/
theorem gain_eq (c : Dev nD) : (V m c main_v14 : S1x2048.Idx → EReal) = shapeCast S1x2048 (m ((c : Thread nD τ).loc main_arg1) : FVec Ideal S2048 .f32) shapeCasts_S2048_S1x2048 := by
  show StableHlo.after (List.flatten [hostOps0, hostOps0_1, hostOps0_2]) (fun b => m (c, b)) (Proc.devRef .tc main_v14) = _
  simp only [List.flatten_cons, List.flatten_nil, List.append_nil, List.cons_append, List.nil_append]
  after_results
  rfl

/-- The gain block a point reads, at an entry. -/
theorem gains_eq (c : Dev nD) (t : Fin grid0.N) (k : Fin 2048) :
    (iblk m c 1 t : S1x2048.Idx → EReal) (ix2 0 k) = (m ((c : Thread nD τ).loc main_arg1) : S2048.Idx → EReal) (ix1 k) := by
  obtain ⟨-, ⟨p0, p1⟩, -⟩ := index_eq t
  have h : (V m c main_v14 : S1x2048.Idx → EReal) (ix2 0 k) = (m ((c : Thread nD τ).loc main_arg1) : S2048.Idx → EReal) (ix1 k) := by
    rw [gain_eq]
    pointwise []
  rw [← h]
  show (V m c main_v14 : S1x2048.Idx → EReal) _ = _
  congr 1
  funext d; apply Fin.ext
  match d with
  | ⟨0, _⟩ => show cc0_transform_1 (grid0.coords t) 0 * 1 + 1 * 0 = 0; rw [p0]
  | ⟨1, _⟩ => show cc0_transform_1 (grid0.coords t) 1 * 2048 + 1 * k.val = k.val; rw [p1]; omega

/-- The weights the call reads are the joined ones. -/
theorem weights_eq (c : Dev nD) : (V m c main_v13 : S2048x7168.Idx → EReal) = joined (m ((c : Thread nD τ).loc main_arg2)) := by
  show StableHlo.after (List.flatten [hostOps0, hostOps0_1, hostOps0_2]) (fun b => m (c, b)) (Proc.devRef .tc main_v13) = _
  simp only [List.flatten_cons, List.flatten_nil, List.append_nil, List.cons_append, List.nil_append]
  after_results
  rfl

/-- The block of weights a point reads, at an entry. -/
theorem cols_eq (c : Dev nD) (t : Fin grid0.N) (k : Fin 2048) (b : Fin 1024) :
    (iblk m c 2 t : S2048x1024.Idx → EReal) (ix2 k b) = colAt (m ((c : Thread nD τ).loc main_arg2) : S2048x6736.Idx → EReal) k (src (t.val % 7 * 1024 + b.val)) := by
  obtain ⟨-, -, ⟨p0, p1⟩, -⟩ := index_eq t
  have hb := b.isLt
  rw [← joined_apply (m ((c : Thread nD τ).loc main_arg2)) k ⟨t.val % 7 * 1024 + b.val, by omega⟩, ← weights_eq m c]
  show (V m c main_v13 : S2048x7168.Idx → EReal) _ = _
  congr 1
  funext d; apply Fin.ext
  match d with
  | ⟨0, _⟩ => show cc0_transform_2 (grid0.coords t) 0 * 2048 + 1 * k.val = k.val; rw [p0]; omega
  | ⟨1, _⟩ => show cc0_transform_2 (grid0.coords t) 1 * 1024 + 1 * b.val = t.val % 7 * 1024 + b.val; rw [p1]; omega

/-- The heads' gains, the query's with the scale of the scores, one above the other as the host puts them. -/
def stacked (q k : FVec Ideal S128 .f32) : FVec Ideal S2x128 .f32 :=
  concatenate S2x128 0 [⟨S1x128, broadcastInDim S1x128 ![1] bcast_S128_S1x128_1 (mulf q (broadcastInDim S128 ![] bcast_S_S128 (constant (F := Ideal) S_ .f32 0x3E0293EE#32)))⟩,
    ⟨S1x128, broadcastInDim S1x128 ![1] bcast_S128_S1x128_1 k⟩] concatenates_S1x128_S1x128_S2x128_d0

/-- The query heads' gain, scaled. -/
theorem stacked_query (q k : FVec Ideal S128 .f32) (d : Fin 128) : stacked q k (ix2 0 d) = q (ix1 d) * Ideal.ofBits .f32 0x3E0293EE#32 := by
  pointwise [stacked]

/-- The key heads' gain. -/
theorem stacked_key (q k : FVec Ideal S128 .f32) (d : Fin 128) : stacked q k (ix2 1 d) = k (ix1 d) := by
  pointwise [stacked]

/-- The heads' gains the call reads. -/
theorem stacked_eq (c : Dev nD) : (V m c main_v4 : S2x128.Idx → EReal) = stacked (m ((c : Thread nD τ).loc main_arg3)) (m ((c : Thread nD τ).loc main_arg4)) := by
  show StableHlo.after (List.flatten [hostOps0, hostOps0_1, hostOps0_2]) (fun b => m (c, b)) (Proc.devRef .tc main_v4) = _
  simp only [List.flatten_cons, List.flatten_nil, List.append_nil, List.cons_append, List.nil_append]
  after_results
  rfl

/-- The heads' gains a point reads, at an entry. -/
theorem heads_eq (c : Dev nD) (t : Fin grid0.N) (q : Fin 2) (k : Fin 128) :
    (iblk m c 3 t : S2x128.Idx → EReal) (ix2 q k) = (stacked (m ((c : Thread nD τ).loc main_arg3)) (m ((c : Thread nD τ).loc main_arg4)) : S2x128.Idx → EReal) (ix2 q k) := by
  obtain ⟨-, -, -, ⟨p0, p1⟩, -⟩ := index_eq t
  rw [← stacked_eq m c]
  show (V m c main_v4 : S2x128.Idx → EReal) _ = _
  congr 1
  funext d; apply Fin.ext
  match d with
  | ⟨0, _⟩ => show cc0_transform_3 (grid0.coords t) 0 * 2 + 1 * q.val = q.val; rw [p0]; omega
  | ⟨1, _⟩ => show cc0_transform_3 (grid0.coords t) 1 * 128 + 1 * k.val = k.val; rw [p1]; omega

/-- What a first point leaves in the scratch, at an entry. -/
theorem first_eq (c : Dev nD) (t : Fin cfg0.N) (a : Fin 1024) (k : Fin 2048) (r : Fin 16384) (hr : r.val = t.val / 7 * 1024 + a.val) :
    k0_pay1 (F := Ideal) (iblk m c 0 t) (iblk m c 1 t) (ix2 a k)
      = normAt (m ((c : Thread nD τ).loc main_arg0) : S16384x2048.Idx → EReal) (m ((c : Thread nD τ).loc main_arg1) : S2048.Idx → EReal) r k := by
  rw [norm_apply, gains_eq m c t k, rows_eq m c t a k r hr]
  unfold normAt
  rw [funext fun k => rows_eq m c t a k r hr]

/-- A later point keeps the scratch. -/
theorem kept (c : Dev nD) (n : ℕ) (hn : n + 1 < cfg0.N) (h : ¬(n + 1) % 7 = 0) :
    (outsAt0 m c (n + 1) hn).2.2 = (outsAt0 m c n (Nat.lt_of_succ_lt hn)).2.2 := by
  by_cases h4 : (n + 1) % 7 = 4
  · rw [outsAt0_C m c ⟨n + 1, hn⟩ h h4 (by show ¬(n + 1) % 7 = 6; omega)]; rfl
  by_cases h6 : (n + 1) % 7 = 6
  · rw [outsAt0_D m c ⟨n + 1, hn⟩ h h4 h6]; rfl
  rw [outsAt0_B m c ⟨n + 1, hn⟩ h h4 h6]; rfl

/-- The scratch holds the normalised rows of the point's row block. -/
theorem scratch_eq (c : Dev nD) : ∀ (n : ℕ) (hn : n < cfg0.N) (a : Fin 1024) (k : Fin 2048) (r : Fin 16384), r.val = n / 7 * 1024 + a.val →
    ((outsAt0 m c n hn).2.2 : S1024x2048.Idx → EReal) (ix2 a k)
      = normAt (m ((c : Thread nD τ).loc main_arg0) : S16384x2048.Idx → EReal) (m ((c : Thread nD τ).loc main_arg1) : S2048.Idx → EReal) r k := by
  intro n
  induction n with
  | zero =>
    intro hn a k r hr
    rw [outsAt0_A m c ⟨0, hn⟩ rfl (by show ¬0 % 7 = 4; omega) (by show ¬0 % 7 = 6; omega)]
    dsimp only
    rw [sout_A]
    exact first_eq m c ⟨0, hn⟩ a k r hr
  | succ n ih =>
    intro hn a k r hr
    by_cases h : (n + 1) % 7 = 0
    · rw [outsAt0_A m c ⟨n + 1, hn⟩ h (by show ¬(n + 1) % 7 = 4; omega) (by show ¬(n + 1) % 7 = 6; omega)]
      dsimp only
      rw [sout_A]
      exact first_eq m c ⟨n + 1, hn⟩ a k r hr
    · rw [kept m c n hn h]
      exact ih (Nat.lt_of_succ_lt hn) a k r (by omega)

/-- A point's product, of the scratch it leaves. -/
def acc (c : Dev nD) (t : Fin cfg0.N) : S1024x1024.Idx → EReal := k0_pay2 (F := Ideal) (outsAt0 m c t.val t.isLt).2.2 (iblk m c 2 t)

/-- A point's product, at an entry. -/
theorem acc_apply (c : Dev nD) (t : Fin cfg0.N) (a : Fin 1024) (b : Fin 1024) (r : Fin 16384) (hr : r.val = t.val / 7 * 1024 + a.val) :
    acc m c t (ix2 a b) = inAt (m ((c : Thread nD τ).loc main_arg0) : S16384x2048.Idx → EReal) (m ((c : Thread nD τ).loc main_arg1) : S2048.Idx → EReal)
      (m ((c : Thread nD τ).loc main_arg2) : S2048x6736.Idx → EReal) r (t.val % 7 * 1024 + b.val) := by
  refine (prod_apply _ _ a b).trans ?_
  unfold inAt
  exact Finset.sum_congr rfl fun k _ => congrArg₂ (fun u v : EReal => u * v) (scratch_eq m c t.val t.isLt a k r hr) (cols_eq m c t k b)

/-- A point's head, at an entry. -/
theorem head_eq (c : Dev nD) (t : Fin cfg0.N) (q : Fin 2) (a : Fin 1024) (b : Fin 1024) (r : Fin 16384) (hr : r.val = t.val / 7 * 1024 + a.val) (n : ℕ)
    (hn : n = t.val % 7 * 1024 + b.val) :
    headOf (acc m c t) (fun k => (iblk m c 3 t : S2x128.Idx → EReal) (ix2 q k)) a b
      = headAt (fun k => inAt (m ((c : Thread nD τ).loc main_arg0) : S16384x2048.Idx → EReal) (m ((c : Thread nD τ).loc main_arg1) : S2048.Idx → EReal)
        (m ((c : Thread nD τ).loc main_arg2) : S2048x6736.Idx → EReal) r (n / 128 * 128 + k.val)) (fun k => (stacked (m ((c : Thread nD τ).loc main_arg3)) (m ((c : Thread nD τ).loc main_arg4)) : S2x128.Idx → EReal) (ix2 q k))
        ⟨n % 128, Nat.mod_lt _ (by decide)⟩ := by
  subst hn
  unfold headOf
  have h1 : b.val % 128 = (t.val % 7 * 1024 + b.val) % 128 := by omega
  have h2 (k : Fin 128) : t.val % 7 * 1024 + (b.val / 128 * 128 + k.val) = (t.val % 7 * 1024 + b.val) / 128 * 128 + k.val := by omega
  congr 1
  · funext k
    rw [acc_apply m c t a _ r hr]
    show inAt _ _ _ r (t.val % 7 * 1024 + (b.val / 128 * 128 + k.val)) = _
    rw [h2]
  · funext k
    exact heads_eq m c t q k
  · exact Fin.ext h1

/-- What a point stores of the projection, at an entry. -/
theorem block_eq (c : Dev nD) (t : Fin cfg0.N) (a b : Fin 1024) (e : S16384x7168.Idx) (h0 : (e 0).val = t.val / 7 * 1024 + a.val)
    (h1 : (e 1).val = t.val % 7 * 1024 + b.val) :
    ((outsAt0 m c t.val t.isLt).1 : S1024x1024.Idx → EReal) (ix2 a b)
      = result (m ((c : Thread nD τ).loc main_arg0)) (m ((c : Thread nD τ).loc main_arg1)) (m ((c : Thread nD τ).loc main_arg2))
        (stacked (m ((c : Thread nD τ).loc main_arg3)) (m ((c : Thread nD τ).loc main_arg4))) e := by
  have hb := b.isLt
  have hp : acc m c t (ix2 a b) = inAt (m ((c : Thread nD τ).loc main_arg0) : S16384x2048.Idx → EReal) (m ((c : Thread nD τ).loc main_arg1) : S2048.Idx → EReal)
      (m ((c : Thread nD τ).loc main_arg2) : S2048x6736.Idx → EReal) (e 0) (e 1).val := by
    rw [acc_apply m c t a b (e 0) h0, h1]
  unfold result
  by_cases k0 : t.val % 7 = 0
  · rw [if_neg (by omega), if_neg (by omega), ← hp]
    unfold acc
    rw [outsAt0_A m c t k0 (by omega) (by omega)]
    dsimp only
    rw [out_A, sout_A]
  by_cases k4 : t.val % 7 = 4
  · rw [if_pos (by omega), ← head_eq m c t 0 a b (e 0) h0 _ h1]
    unfold acc
    rw [outsAt0_C m c t k0 k4 (by omega)]
    dsimp only
    rw [out_C]
    rfl
  rw [if_neg (by omega)]
  by_cases k6 : t.val % 7 = 6
  · have hd : ((outsAt0 m c t.val t.isLt).1 : S1024x1024.Idx → EReal) (ix2 a b)
        = if b.val < 256 then headOf (acc m c t) (fun k => (iblk m c 3 t : S2x128.Idx → EReal) (ix2 1 k)) a b else acc m c t (ix2 a b) := by
      unfold acc
      rw [outsAt0_D m c t k0 k4 k6]
      dsimp only
      rw [out_D]
      rfl
    rw [hd]
    by_cases hl : b.val < 256
    · rw [if_pos hl, if_pos (by omega)]
      exact head_eq m c t 1 a b (e 0) h0 _ h1
    · rw [if_neg hl, if_neg (by omega)]
      exact hp
  rw [if_neg (by omega), ← hp]
  unfold acc
  rw [outsAt0_B m c t k0 k4 k6]
  dsimp only
  rw [out_B]
  rfl

/-- The point that writes entry `i` of the projection. -/
def pointOf (i : S16384x7168.Idx) : Fin grid0.N :=
  ⟨(i 0).val / 1024 * 7 + (i 1).val / 1024, by
    rw [N_0]; have h0 : (i 0).val < 16384 := (i 0).isLt; have h1 : (i 1).val < 7168 := (i 1).isLt; omega⟩

/-- What a point writes back is its block of `result`. -/
theorem flushed_eq (c : Dev nD) (t : Fin cfg0.N) :
    (dats m 0 c).flushed 4 t = ((cfg0.win 4).blk t).view.read (Elt Ideal)
      (result (m ((c : Thread nD τ).loc main_arg0)) (m ((c : Thread nD τ).loc main_arg1)) (m ((c : Thread nD τ).loc main_arg2))
        (stacked (m ((c : Thread nD τ).loc main_arg3)) (m ((c : Thread nD τ).loc main_arg4)))) := by
  rw [Value.flushed4]
  obtain ⟨-, -, -, -, ⟨s0, s1⟩, -⟩ := index_eq t
  refine funext fun (y : S1024x1024.Idx) => ?_
  obtain ⟨a, b, rfl⟩ : ∃ (a : Fin 1024) (b : Fin 1024), y = ix2 a b := ⟨y 0, y 1, eq_ix2 y⟩
  obtain ⟨e, he⟩ : ∃ e : S16384x7168.Idx, e = ((cfg0.win 4).blk t).view.emb (ix2 a b) := ⟨_, rfl⟩
  have h0 : (e 0).val = cc0_transform_4 (grid0.coords t) 0 * 1024 + 1 * a.val := by rw [he]; rfl
  have h1 : (e 1).val = cc0_transform_4 (grid0.coords t) 1 * 1024 + 1 * b.val := by rw [he]; rfl
  rw [s0, one_mul] at h0
  rw [s1, one_mul] at h1
  have hres := block_eq m c t a b e h0 h1
  rw [he] at hres
  exact hres

/-- An entry of a rectangle of the projection is in the view of that rectangle. -/
theorem mem_slice (R : Rect S16384x7168) (i : S16384x7168.Idx) (h : i ∈ R.set) : i ∈ ((View.whole main_v15_0).slice R).set := by
  rw [View.set_slice_whole]; exact h

/-- Every entry is in the block of the point that writes it. -/
theorem covered (i : S16384x7168.Idx) : i ∈ ((cfg0.win 4).blk (pointOf i)).view.set := by
  refine mem_slice ((cfg0.win 4).rect (pointOf i)) i ?_
  obtain ⟨-, -, -, -, ⟨s0, s1⟩, -⟩ := index_eq (pointOf i)
  have hv : (pointOf i).val = (i 0).val / 1024 * 7 + (i 1).val / 1024 := rfl
  have h0 : (i 0).val < 16384 := (i 0).isLt
  have h1 : (i 1).val < 7168 := (i 1).isLt
  refine (LoadRect.mem_set _).2 fun a => ?_
  match a with
  | ⟨0, _⟩ =>
    refine ⟨(i 0).val % 1024, Nat.mod_lt _ (by decide), ?_⟩
    show (i 0).val = cc0_transform_4 (grid0.coords (pointOf i)) 0 * 1024 + 1 * ((i 0).val % 1024)
    rw [s0]; omega
  | ⟨1, _⟩ =>
    refine ⟨(i 1).val % 1024, Nat.mod_lt _ (by decide), ?_⟩
    show (i 1).val = cc0_transform_4 (grid0.coords (pointOf i)) 1 * 1024 + 1 * ((i 1).val % 1024)
    rw [s1]; omega

/-- The projection after the run. -/
theorem final (c : Dev nD) : (dats m 0 c).arrAt 4 cfg0.N
    = result (m ((c : Thread nD τ).loc main_arg0)) (m ((c : Thread nD τ).loc main_arg1)) (m ((c : Thread nD τ).loc main_arg2))
        (stacked (m ((c : Thread nD τ).loc main_arg3)) (m ((c : Thread nD τ).loc main_arg4))) :=
  (dats m 0 c).arrAt_eq_of_cover 4 _ (fun t _ => flushed_eq m c t) (fun i => ⟨pointOf i, flush0_4 _, covered i⟩)

/-- The point that writes entry `i` of the indexer's array. -/
def pointOf' (i : S16384x128.Idx) : Fin grid0.N :=
  ⟨(i 0).val / 1024 * 7 + 6, by rw [N_0]; have h0 : (i 0).val < 16384 := (i 0).isLt; omega⟩

/-- What a last point of a row of blocks writes back is its block of `result'`. -/
theorem flushed_eq' (c : Dev nD) (t : Fin cfg0.N) (k6 : t.val % 7 = 6) :
    (dats m 0 c).flushed 5 t = ((cfg0.win 5).blk t).view.read (Elt Ideal)
      (result' (m ((c : Thread nD τ).loc main_arg0)) (m ((c : Thread nD τ).loc main_arg1)) (m ((c : Thread nD τ).loc main_arg2))) := by
  rw [Value.flushed5]
  obtain ⟨-, -, -, -, -, ⟨s0, s1⟩⟩ := index_eq t
  refine funext fun (y : S1024x128.Idx) => ?_
  obtain ⟨a, b, rfl⟩ : ∃ (a : Fin 1024) (b : Fin 128), y = ix2 a b := ⟨y 0, y 1, eq_ix2 y⟩
  obtain ⟨e, he⟩ : ∃ e : S16384x128.Idx, e = ((cfg0.win 5).blk t).view.emb (ix2 a b) := ⟨_, rfl⟩
  have h0 : (e 0).val = cc0_transform_5 (grid0.coords t) 0 * 1024 + 1 * a.val := by rw [he]; rfl
  have h1 : (e 1).val = cc0_transform_5 (grid0.coords t) 1 * 128 + 1 * b.val := by rw [he]; rfl
  rw [s0, one_mul] at h0
  rw [s1, one_mul, Nat.zero_mul, Nat.zero_add] at h1
  have hb := b.isLt
  have hs : ((outsAt0 m c t.val t.isLt).2.1 : S1024x128.Idx → EReal) (ix2 a b) = acc m c t (ix2 a ⟨512 + b.val, by omega⟩) := by
    unfold acc
    rw [outsAt0_D m c t (by omega) (by omega) k6]
    dsimp only
    rw [tail_D, tail_apply, prod_apply]
    rfl
  have hres : ((outsAt0 m c t.val t.isLt).2.1 : S1024x128.Idx → EReal) (ix2 a b)
      = result' (m ((c : Thread nD τ).loc main_arg0)) (m ((c : Thread nD τ).loc main_arg1)) (m ((c : Thread nD τ).loc main_arg2)) e := by
    rw [hs, acc_apply m c t a _ (e 0) h0]
    unfold result'
    congr 1
    show t.val % 7 * 1024 + (512 + b.val) = 6656 + (e 1).val
    omega
  rw [he] at hres
  exact hres

/-- An entry of a rectangle of the indexer's array is in the view of that rectangle. -/
theorem mem_slice' (R : Rect S16384x128) (i : S16384x128.Idx) (h : i ∈ R.set) : i ∈ ((View.whole main_v15_1).slice R).set := by
  rw [View.set_slice_whole]; exact h

/-- Every entry is in the block of the point that writes it. -/
theorem covered' (i : S16384x128.Idx) : i ∈ ((cfg0.win 5).blk (pointOf' i)).view.set := by
  refine mem_slice' ((cfg0.win 5).rect (pointOf' i)) i ?_
  obtain ⟨-, -, -, -, -, ⟨s0, s1⟩⟩ := index_eq (pointOf' i)
  have hv : (pointOf' i).val = (i 0).val / 1024 * 7 + 6 := rfl
  have h0 : (i 0).val < 16384 := (i 0).isLt
  have h1 : (i 1).val < 128 := (i 1).isLt
  refine (LoadRect.mem_set _).2 fun a => ?_
  match a with
  | ⟨0, _⟩ =>
    refine ⟨(i 0).val % 1024, Nat.mod_lt _ (by decide), ?_⟩
    show (i 0).val = cc0_transform_5 (grid0.coords (pointOf' i)) 0 * 1024 + 1 * ((i 0).val % 1024)
    rw [s0]; omega
  | ⟨1, _⟩ =>
    refine ⟨(i 1).val, h1, ?_⟩
    show (i 1).val = cc0_transform_5 (grid0.coords (pointOf' i)) 1 * 128 + 1 * (i 1).val
    rw [s1]; omega

/-- The indexer's array after the run. -/
theorem final' (c : Dev nD) : (dats m 0 c).arrAt 5 cfg0.N
    = result' (m ((c : Thread nD τ).loc main_arg0)) (m ((c : Thread nD τ).loc main_arg1)) (m ((c : Thread nD τ).loc main_arg2)) :=
  (dats m 0 c).arrAt_eq_of_cover 5 _ (fun t h => flushed_eq' m c t ((flush0_5 t).1 h))
    (fun i => ⟨pointOf' i, (flush0_5 _).2 (by show ((i 0).val / 1024 * 7 + 6) % 7 = 6; omega), covered' i⟩)

end Cert.Kernel6Ideal.Dense
-- ==== Proof.Dense.InClaims.lean ====
/- The claims about the input projection. -/
module

public import proofs.«01_k».proof.Defs
public import proofs.«01_k».proof.Proof.Gen.Kernel6.Frame
public import proofs.«01_k».proof.Proof.Gen.Kernel6Ideal.Value
public import proofs.«01_k».proof.Proof.Gen.Reference6Ideal.Run
public import proofs.«01_k».proof.Proof.Dense.InResult
public import Idealize.ShloMosaic.Adequacy
public import Idealize.ShloMosaic.Init
public import Idealize.ShloMosaic.Lib.Quiescent

@[expose] public section

set_option maxRecDepth 16384

noncomputable section

namespace Cert.Proof.DenseIn

open Cert.Kernel6Ideal.Dense (stacked stacked_query stacked_key)
open Cert.Reference6Ideal Cert.Reference6Ideal.Gen Cert.Dense Idealize.ShloMosaic Idealize.ShloMosaic.TcCoe Idealize.SL.Sem

/-- The kernel's frame. -/
theorem frame_kernel : Cert.quiescent_Kernel6 := fun m ρ _ => Cert.Kernel6.Gen.frame m ρ

/-- The idealized kernel's frame. -/
theorem frame_kernelIdeal : Cert.quiescent_Kernel6Ideal := fun m ρ _ => Cert.Kernel6Ideal.Gen.frame m ρ

/-- The reference's frame. -/
theorem frame_referenceIdeal : Cert.quiescent_Reference6Ideal := fun m ρ _ =>
  (θ_run Cert.Reference6Ideal.defs _ _).mono (fun r h => ⟨fun c => (h c).2.2, Idealize.ShloMosaic.sem_eq_zero_of_no_sems (by decide) r.2⟩)
    (Cert.Reference6Ideal.Value.run m ρ)

/-- The reference's normalised rows. -/
def normed (x : FVec Ideal S16384x2048 .f32) (g : FVec Ideal S2048 .f32) : FVec Ideal S16384x2048 .f32 :=
  mulf (mulf x (broadcastInDim S16384x2048 ![0, 1] bcast_S16384x1_S16384x2048_0_1 (Host.rsqrt (addf (Host.divf (broadcastInDim S16384x1 ![0] bcast_S16384_S16384x1_0
    (Host.reduceAdd (mulf x x) (constant S_ .f32 0x00000000#32) reducesTo_S16384x2048_S16384_d1 h_S_)) (broadcastInDim S16384x1 ![] bcast_S_S16384x1 (constant S_ .f32 0x45000000#32)))
    (broadcastInDim S16384x1 ![] bcast_S_S16384x1 (constant S_ .f32 0x358637BD#32))))))
    (broadcastInDim S16384x2048 ![0, 1] bcast_S1x2048_S16384x2048_0_1 (broadcastInDim S1x2048 ![1] bcast_S2048_S1x2048_1 g))

/-- The reference's normalised rows at an entry. -/
theorem normed_apply (x : FVec Ideal S16384x2048 .f32) (g : FVec Ideal S2048 .f32) (r : Fin 16384) (k : Fin 2048) :
    normed x g (ix2 r k) = normAt x g r k := by
  pointwise [normed, normAt, rmsAt]

/-- The reference's product. -/
def proj (x : FVec Ideal S16384x2048 .f32) (g : FVec Ideal S2048 .f32) (w : FVec Ideal S2048x6736 .f32) : FVec Ideal S16384x6736 .f32 :=
  Host.dotGeneral dot_S16384x2048_S2048x6736_S16384x6736_1_0_0_1_n_n none (normed x g) w

/-- The reference's product at an entry, as the column that the call puts there. -/
theorem proj_apply (x : FVec Ideal S16384x2048 .f32) (g : FVec Ideal S2048 .f32) (w : FVec Ideal S2048x6736 .f32) (r : Fin 16384) {n j : ℕ} (h : n < 6736) (hn : src j = n) :
    proj x g w (ix2 r ⟨n, h⟩) = inAt x g w r j := by
  have hp : proj x g w (ix2 r ⟨n, h⟩) = ∑ k : Fin 2048, normed x g (ix2 r k) * w (ix2 k ⟨n, h⟩) := by
    pointwise [proj]
  rw [hp]
  refine Finset.sum_congr rfl fun k _ => ?_
  rw [normed_apply, hn]
  refine congrArg (fun u : EReal => normAt x g r k * u) ?_
  unfold colAt; rw [dif_pos h]

/-- The padding's columns are zero. -/
theorem pad_apply (x : FVec Ideal S16384x2048 .f32) (g : FVec Ideal S2048 .f32) (w : FVec Ideal S2048x6736 .f32) (r : Fin 16384) {j : ℕ} (hn : src j = 6736) :
    inAt x g w r j = 0 := by
  refine Finset.sum_eq_zero fun k _ => ?_
  rw [hn]; unfold colAt; rw [dif_neg (by decide), mul_zero]

/-- The query heads, normalised and times the gain. -/
def heads8 (q : FVec Ideal S16384x8x128 .f32) (g : FVec Ideal S128 .f32) : FVec Ideal S16384x8x128 .f32 :=
  mulf (mulf q (broadcastInDim S16384x8x128 ![0, 1, 2] bcast_S16384x8x1_S16384x8x128_0_1_2 (Host.rsqrt (addf (Host.divf (broadcastInDim S16384x8x1 ![0, 1] bcast_S16384x8_S16384x8x1_0_1
    (Host.reduceAdd (mulf q q) (constant S_ .f32 0x00000000#32) reducesTo_S16384x8x128_S16384x8_d2 h_S_)) (broadcastInDim S16384x8x1 ![] bcast_S_S16384x8x1 (constant S_ .f32 0x43000000#32)))
    (broadcastInDim S16384x8x1 ![] bcast_S_S16384x8x1 (constant S_ .f32 0x358637BD#32))))))
    (broadcastInDim S16384x8x128 ![0, 1, 2] bcast_S1x1x128_S16384x8x128_0_1_2 (broadcastInDim S1x1x128 ![2] bcast_S128_S1x1x128_2 g))

/-- The query heads at an entry. -/
theorem heads8_apply (q : FVec Ideal S16384x8x128 .f32) (g : FVec Ideal S128 .f32) (r : Fin 16384) (a : Fin 8) (d : Fin 128) :
    heads8 q g (ix3 r a d) = headAt (fun k => q (ix3 r a k)) (fun k => g (ix1 k)) d := by
  pointwise [heads8, headAt]

/-- The query heads apart, at an entry. -/
theorem apart8 (p : FVec Ideal S16384x1024 .f32) (r : Fin 16384) (a : Fin 8) (d : Fin 128) :
    shapeCast S16384x8x128 p shapeCasts_S16384x1024_S16384x8x128 (ix3 r a d) = p (ix2 r ⟨a.val * 128 + d.val, by have := a.isLt; have := d.isLt; omega⟩) := by
  pointwise []

/-- The query heads side by side, at an entry. -/
theorem beside8 (p : FVec Ideal S16384x8x128 .f32) (r : Fin 16384) (c : ℕ) (h : c < 1024) :
    shapeCast S16384x1024 p shapeCasts_S16384x8x128_S16384x1024 (ix2 r ⟨c, h⟩) = p (ix3 r ⟨c / 128, by omega⟩ ⟨c % 128, Nat.mod_lt _ (by decide)⟩) := by
  pointwise []

/-- The query heads of an array, normalised where they lie. -/
theorem normalised8 (p : FVec Ideal S16384x1024 .f32) (g : FVec Ideal S128 .f32) (r : Fin 16384) (c : ℕ) (h : c < 1024) :
    shapeCast S16384x1024 (heads8 (shapeCast S16384x8x128 p shapeCasts_S16384x1024_S16384x8x128) g) shapeCasts_S16384x8x128_S16384x1024 (ix2 r ⟨c, h⟩)
    = headAt (fun k => p (ix2 r ⟨c / 128 * 128 + k.val, by have := k.isLt; omega⟩)) (fun k => g (ix1 k)) ⟨c % 128, Nat.mod_lt _ (by decide)⟩ := by
  rw [beside8, heads8_apply]
  simp only [apart8]

/-- The key heads, normalised and times the gain. -/
def heads2 (q : FVec Ideal S16384x2x128 .f32) (g : FVec Ideal S128 .f32) : FVec Ideal S16384x2x128 .f32 :=
  mulf (mulf q (broadcastInDim S16384x2x128 ![0, 1, 2] bcast_S16384x2x1_S16384x2x128_0_1_2 (Host.rsqrt (addf (Host.divf (broadcastInDim S16384x2x1 ![0, 1] bcast_S16384x2_S16384x2x1_0_1
    (Host.reduceAdd (mulf q q) (constant S_ .f32 0x00000000#32) reducesTo_S16384x2x128_S16384x2_d2 h_S_)) (broadcastInDim S16384x2x1 ![] bcast_S_S16384x2x1 (constant S_ .f32 0x43000000#32)))
    (broadcastInDim S16384x2x1 ![] bcast_S_S16384x2x1 (constant S_ .f32 0x358637BD#32))))))
    (broadcastInDim S16384x2x128 ![0, 1, 2] bcast_S1x1x128_S16384x2x128_0_1_2 (broadcastInDim S1x1x128 ![2] bcast_S128_S1x1x128_2 g))

/-- The key heads at an entry. -/
theorem heads2_apply (q : FVec Ideal S16384x2x128 .f32) (g : FVec Ideal S128 .f32) (r : Fin 16384) (a : Fin 2) (d : Fin 128) :
    heads2 q g (ix3 r a d) = headAt (fun k => q (ix3 r a k)) (fun k => g (ix1 k)) d := by
  pointwise [heads2, headAt]

/-- The key heads apart, at an entry. -/
theorem apart2 (p : FVec Ideal S16384x256 .f32) (r : Fin 16384) (a : Fin 2) (d : Fin 128) :
    shapeCast S16384x2x128 p shapeCasts_S16384x256_S16384x2x128 (ix3 r a d) = p (ix2 r ⟨a.val * 128 + d.val, by have := a.isLt; have := d.isLt; omega⟩) := by
  pointwise []

/-- The key heads side by side, at an entry. -/
theorem beside2 (p : FVec Ideal S16384x2x128 .f32) (r : Fin 16384) (c : ℕ) (h : c < 256) :
    shapeCast S16384x256 p shapeCasts_S16384x2x128_S16384x256 (ix2 r ⟨c, h⟩) = p (ix3 r ⟨c / 128, by omega⟩ ⟨c % 128, Nat.mod_lt _ (by decide)⟩) := by
  pointwise []

/-- The key heads of an array, normalised where they lie. -/
theorem normalised2 (p : FVec Ideal S16384x256 .f32) (g : FVec Ideal S128 .f32) (r : Fin 16384) (c : ℕ) (h : c < 256) :
    shapeCast S16384x256 (heads2 (shapeCast S16384x2x128 p shapeCasts_S16384x256_S16384x2x128) g) shapeCasts_S16384x2x128_S16384x256 (ix2 r ⟨c, h⟩)
    = headAt (fun k => p (ix2 r ⟨c / 128 * 128 + k.val, by have := k.isLt; omega⟩)) (fun k => g (ix1 k)) ⟨c % 128, Nat.mod_lt _ (by decide)⟩ := by
  rw [beside2, heads2_apply]
  simp only [apart2]

/-- The reference's keys and weights of the indexer, padded. -/
def tail (x : FVec Ideal S16384x2048 .f32) (g : FVec Ideal S2048 .f32) (w : FVec Ideal S2048x6736 .f32) : FVec Ideal S16384x512 .f32 :=
  concatenate S16384x512 1
    [⟨S16384x64, extractStridedSlice S16384x64 ![0, 2560] (proj x g w) slices_S16384x6736_S16384x64_0_2560⟩,
      ⟨S16384x16, extractStridedSlice S16384x16 ![0, 2624] (proj x g w) slices_S16384x6736_S16384x16_0_2624⟩,
      ⟨S16384x432, broadcastInDim S16384x432 ![] bcast_S_S16384x432 (constant (F := Ideal) S_ .f32 0x00000000#32)⟩] concatenates_S16384x64_S16384x16_S16384x432_S16384x512_d1

/-- The reference's keys and weights of the indexer, padded, at an entry. -/
theorem tail_apply (x : FVec Ideal S16384x2048 .f32) (g : FVec Ideal S2048 .f32) (w : FVec Ideal S2048x6736 .f32) (r : Fin 16384) (c : Fin 512) :
    tail x g w (ix2 r c) = inAt x g w r (6656 + c.val) := by
  have h := concatenate_eq (M := 16384) (N := 512)
    [⟨64, extractStridedSlice S16384x64 ![0, 2560] (proj x g w) slices_S16384x6736_S16384x64_0_2560⟩,
      ⟨16, extractStridedSlice S16384x16 ![0, 2624] (proj x g w) slices_S16384x6736_S16384x16_0_2624⟩,
      ⟨432, broadcastInDim S16384x432 ![] bcast_S_S16384x432 (constant (F := Ideal) S_ .f32 0x00000000#32)⟩] concatenates_S16384x64_S16384x16_S16384x432_S16384x512_d1 r c (inAt x g w r (6656 + c.val))
  refine h ?_
  clear h
  have hc := c.isLt
  refine Agrees.cons (fun h => ?_) fun h => Agrees.cons (fun h => ?_) fun h => Agrees.cons (fun h => ?_) fun h => trivial
  · pointwise []
    exact proj_apply x g w r _ (by unfold src; split_ifs <;> omega)
  · pointwise []
    exact proj_apply x g w r _ (by unfold src; split_ifs <;> omega)
  · rw [pad_apply x g w r (by unfold src; split_ifs <;> omega)]
    pointwise []

/-- The call's array at a column that is no head's. -/
theorem result_plain (x : FVec Ideal S16384x2048 .f32) (g : FVec Ideal S2048 .f32) (w : FVec Ideal S2048x6736 .f32) (qg kg : FVec Ideal S128 .f32) (r : Fin 16384) (j : Fin 7168)
    (h : j.val < 4096 ∨ 5120 ≤ j.val) (h' : j.val < 6144 ∨ 6400 ≤ j.val) : Cert.Kernel6Ideal.Dense.result x g w (stacked qg kg) (ix2 r j) = inAt x g w r j.val := by
  show (if 4096 ≤ j.val ∧ j.val < 5120 then _ else if 6144 ≤ j.val ∧ j.val < 6400 then _ else _) = _
  rw [if_neg (by omega), if_neg (by omega)]
  rfl

/-- A head with its gain scaled is the head scaled. -/
theorem headAt_scaled (v g : Fin 128 → EReal) (d : Fin 128) (s : EReal) : headAt v (fun k => g k * s) d = headAt v g d * s := by
  unfold headAt
  rw [mul_assoc, mul_assoc, mul_assoc]

/-- The call's array at a query head's column. -/
theorem result_query (x : FVec Ideal S16384x2048 .f32) (g : FVec Ideal S2048 .f32) (w : FVec Ideal S2048x6736 .f32) (qg kg : FVec Ideal S128 .f32) (r : Fin 16384) (j : Fin 7168)
    (h : 4096 ≤ j.val ∧ j.val < 5120) : Cert.Kernel6Ideal.Dense.result x g w (stacked qg kg) (ix2 r j)
      = headAt (fun k => inAt x g w r (j.val / 128 * 128 + k.val)) (fun k => qg (ix1 k)) ⟨j.val % 128, Nat.mod_lt _ (by decide)⟩ * Ideal.ofBits .f32 0x3E0293EE#32 := by
  show (if 4096 ≤ j.val ∧ j.val < 5120 then _ else if 6144 ≤ j.val ∧ j.val < 6400 then _ else _) = _
  rw [if_pos h, ← headAt_scaled]
  exact congrArg (fun u => headAt _ u _) (funext fun k => stacked_query qg kg k)

/-- The call's array at a key head's column. -/
theorem result_key (x : FVec Ideal S16384x2048 .f32) (g : FVec Ideal S2048 .f32) (w : FVec Ideal S2048x6736 .f32) (qg kg : FVec Ideal S128 .f32) (r : Fin 16384) (j : Fin 7168)
    (h : 6144 ≤ j.val ∧ j.val < 6400) : Cert.Kernel6Ideal.Dense.result x g w (stacked qg kg) (ix2 r j)
      = headAt (fun k => inAt x g w r (j.val / 128 * 128 + k.val)) (fun k => kg (ix1 k)) ⟨j.val % 128, Nat.mod_lt _ (by decide)⟩ := by
  show (if 4096 ≤ j.val ∧ j.val < 5120 then _ else if 6144 ≤ j.val ∧ j.val < 6400 then _ else _) = _
  rw [if_neg (by omega), if_pos h]
  exact congrArg (fun u => headAt _ u _) (funext fun k => stacked_key qg kg k)

/-- Two heads with the same entries. -/
theorem headAt_congr {v v' g : Fin 128 → EReal} {d d' : Fin 128} (hv : ∀ k, v k = v' k) (hd : d.val = d'.val) : headAt v g d = headAt v' g d' := by
  rw [funext hv, Fin.ext hd]

/-- A scaled array at an entry. -/
theorem scaled_apply (p : FVec Ideal S16384x1024 .f32) (i : S16384x1024.Idx) :
    mulf p (broadcastInDim S16384x1024 ![] bcast_S_S16384x1024 (constant (F := Ideal) S_ .f32 0x3E0293EE#32)) i = p i * Ideal.ofBits .f32 0x3E0293EE#32 := by
  pointwise []

/-- The reference's first array. -/
theorem ref_eq (x : FVec Ideal S16384x2048 .f32) (g : FVec Ideal S2048 .f32) (w : FVec Ideal S2048x6736 .f32) (qg kg : FVec Ideal S128 .f32) :
    truncf .bf16 (concatenate S16384x7168 1
    [⟨S16384x1024, extractStridedSlice S16384x1024 ![0, 2640] (proj x g w) slices_S16384x6736_S16384x1024_0_2640⟩,
      ⟨S16384x1024, extractStridedSlice S16384x1024 ![0, 3664] (proj x g w) slices_S16384x6736_S16384x1024_0_3664⟩,
      ⟨S16384x1024, extractStridedSlice S16384x1024 ![0, 4688] (proj x g w) slices_S16384x6736_S16384x1024_0_4688⟩,
      ⟨S16384x1024, extractStridedSlice S16384x1024 ![0, 5712] (proj x g w) slices_S16384x6736_S16384x1024_0_5712⟩,
      ⟨S16384x1024, mulf (shapeCast S16384x1024 (heads8 (shapeCast S16384x8x128 (extractStridedSlice S16384x1024 ![0, 0] (proj x g w) slices_S16384x6736_S16384x1024_0_0) shapeCasts_S16384x1024_S16384x8x128) qg) shapeCasts_S16384x8x128_S16384x1024)
        (broadcastInDim S16384x1024 ![] bcast_S_S16384x1024 (constant (F := Ideal) S_ .f32 0x3E0293EE#32))⟩,
      ⟨S16384x1024, extractStridedSlice S16384x1024 ![0, 1536] (proj x g w) slices_S16384x6736_S16384x1024_0_1536⟩,
      ⟨S16384x256, shapeCast S16384x256 (heads2 (shapeCast S16384x2x128 (extractStridedSlice S16384x256 ![0, 1024] (proj x g w) slices_S16384x6736_S16384x256_0_1024) shapeCasts_S16384x256_S16384x2x128) kg) shapeCasts_S16384x2x128_S16384x256⟩,
      ⟨S16384x256, extractStridedSlice S16384x256 ![0, 1280] (proj x g w) slices_S16384x6736_S16384x256_0_1280⟩,
      ⟨S16384x512, tail x g w⟩] concatenates_S16384x1024_S16384x1024_S16384x1024_S16384x1024_S16384x1024_S16384x1024_S16384x256_S16384x256_S16384x512_S16384x7168_d1) bitsLt_bf16_f32
    = Cert.Kernel6Ideal.Dense.result x g w (stacked qg kg) := by
  funext i
  obtain ⟨r, j, rfl⟩ : ∃ (r : Fin 16384) (j : Fin 7168), i = ix2 r j := ⟨i 0, i 1, eq_ix2 i⟩
  have h := concatenate_eq (M := 16384) (N := 7168)
    [⟨1024, extractStridedSlice S16384x1024 ![0, 2640] (proj x g w) slices_S16384x6736_S16384x1024_0_2640⟩,
      ⟨1024, extractStridedSlice S16384x1024 ![0, 3664] (proj x g w) slices_S16384x6736_S16384x1024_0_3664⟩,
      ⟨1024, extractStridedSlice S16384x1024 ![0, 4688] (proj x g w) slices_S16384x6736_S16384x1024_0_4688⟩,
      ⟨1024, extractStridedSlice S16384x1024 ![0, 5712] (proj x g w) slices_S16384x6736_S16384x1024_0_5712⟩,
      ⟨1024, mulf (shapeCast S16384x1024 (heads8 (shapeCast S16384x8x128 (extractStridedSlice S16384x1024 ![0, 0] (proj x g w) slices_S16384x6736_S16384x1024_0_0) shapeCasts_S16384x1024_S16384x8x128) qg) shapeCasts_S16384x8x128_S16384x1024)
        (broadcastInDim S16384x1024 ![] bcast_S_S16384x1024 (constant (F := Ideal) S_ .f32 0x3E0293EE#32))⟩,
      ⟨1024, extractStridedSlice S16384x1024 ![0, 1536] (proj x g w) slices_S16384x6736_S16384x1024_0_1536⟩,
      ⟨256, shapeCast S16384x256 (heads2 (shapeCast S16384x2x128 (extractStridedSlice S16384x256 ![0, 1024] (proj x g w) slices_S16384x6736_S16384x256_0_1024) shapeCasts_S16384x256_S16384x2x128) kg) shapeCasts_S16384x2x128_S16384x256⟩,
      ⟨256, extractStridedSlice S16384x256 ![0, 1280] (proj x g w) slices_S16384x6736_S16384x256_0_1280⟩,
      ⟨512, tail x g w⟩] concatenates_S16384x1024_S16384x1024_S16384x1024_S16384x1024_S16384x1024_S16384x1024_S16384x256_S16384x256_S16384x512_S16384x7168_d1 r j (Cert.Kernel6Ideal.Dense.result x g w (stacked qg kg) (ix2 r j))
  refine h ?_
  clear h
  have hj := j.isLt
  refine Agrees.cons (fun h => ?_) fun h => Agrees.cons (fun h => ?_) fun h => Agrees.cons (fun h => ?_) fun h => Agrees.cons (fun h => ?_) fun h =>
    Agrees.cons (fun h => ?_) fun h => Agrees.cons (fun h => ?_) fun h => Agrees.cons (fun h => ?_) fun h => Agrees.cons (fun h => ?_) fun h =>
    Agrees.cons (fun h => ?_) fun h => trivial
  · pointwise []
    rw [result_plain _ _ _ _ _ _ _ (by omega) (by omega)]
    exact proj_apply x g w r _ (by unfold src; split_ifs <;> omega)
  · pointwise []
    rw [result_plain _ _ _ _ _ _ _ (by omega) (by omega)]
    exact proj_apply x g w r _ (by unfold src; split_ifs <;> omega)
  · pointwise []
    rw [result_plain _ _ _ _ _ _ _ (by omega) (by omega)]
    exact proj_apply x g w r _ (by unfold src; split_ifs <;> omega)
  · pointwise []
    rw [result_plain _ _ _ _ _ _ _ (by omega) (by omega)]
    exact proj_apply x g w r _ (by unfold src; split_ifs <;> omega)
  · refine (scaled_apply _ _).trans ((congrArg (fun u : EReal => u * Ideal.ofBits .f32 0x3E0293EE#32) (normalised8 _ qg r _ h)).trans ?_)
    rw [result_query _ _ _ _ _ _ _ (by omega)]
    refine congrArg (fun u : EReal => u * Ideal.ofBits .f32 0x3E0293EE#32) (headAt_congr (fun k => ?_) ?_)
    · have hk := k.isLt
      pointwise []
      exact proj_apply x g w r _ (by unfold src; split_ifs <;> omega)
    · show _ % 128 = _ % 128
      omega
  · pointwise []
    rw [result_plain _ _ _ _ _ _ _ (by omega) (by omega)]
    exact proj_apply x g w r _ (by unfold src; split_ifs <;> omega)
  · refine (normalised2 _ kg r _ h).trans ?_
    rw [result_key _ _ _ _ _ _ _ (by omega)]
    refine id (headAt_congr (fun k => ?_) ?_)
    · have hk := k.isLt
      pointwise []
      exact proj_apply x g w r _ (by unfold src; split_ifs <;> omega)
    · show _ % 128 = _ % 128
      omega
  · pointwise []
    rw [result_plain _ _ _ _ _ _ _ (by omega) (by omega)]
    exact proj_apply x g w r _ (by unfold src; split_ifs <;> omega)
  · refine (tail_apply x g w r _).trans ?_
    rw [result_plain _ _ _ _ _ _ _ (by omega) (by omega)]
    exact congrArg (inAt x g w r) (by show 6656 + (j.val - 1024 - 1024 - 1024 - 1024 - 1024 - 1024 - 256 - 256) = j.val; omega)

/-- The reference's second array. -/
theorem ref_eq' (x : FVec Ideal S16384x2048 .f32) (g : FVec Ideal S2048 .f32) (w : FVec Ideal S2048x6736 .f32) :
    extractStridedSlice S16384x128 ![0, 0] (tail x g w) slices_S16384x512_S16384x128_0_0 = Cert.Kernel6Ideal.Dense.result' x g w := by
  funext i
  obtain ⟨r, j, rfl⟩ : ∃ (r : Fin 16384) (j : Fin 128), i = ix2 r j := ⟨i 0, i 1, eq_ix2 i⟩
  have h : extractStridedSlice S16384x128 ![0, 0] (tail x g w) slices_S16384x512_S16384x128_0_0 (ix2 r j) = tail x g w (ix2 r ⟨j.val, by omega⟩) := by
    pointwise []
  exact h.trans (tail_apply x g w r _)

/-- The kernel computes the reference over the extended reals. -/
theorem algebraic : Cert.algebraic_Kernel6Ideal_Reference6Ideal := fun m ρ m' ρ' _ hm => by
  refine ⟨fun c => Cert.Kernel6Ideal.Dense.result (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1))
      (m ((c.tc : Thread Cert.Kernel6Ideal.nD Cert.Kernel6Ideal.τ).loc Cert.Kernel6Ideal.main_arg2)) (stacked (m ((c.tc : Thread Cert.Kernel6Ideal.nD Cert.Kernel6Ideal.τ).loc Cert.Kernel6Ideal.main_arg3))
        (m ((c.tc : Thread Cert.Kernel6Ideal.nD Cert.Kernel6Ideal.τ).loc Cert.Kernel6Ideal.main_arg4))),
    fun c => Cert.Kernel6Ideal.Dense.result' (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1))
      (m ((c.tc : Thread Cert.Kernel6Ideal.nD Cert.Kernel6Ideal.τ).loc Cert.Kernel6Ideal.main_arg2)),
    (θ_run Cert.Kernel6Ideal.defs _ _).mono (fun r h c => ⟨(h c).1.trans (Cert.Kernel6Ideal.Dense.final m c), (h c).2.1.trans (Cert.Kernel6Ideal.Dense.final' m c), (h c).2.2⟩)
      (Cert.Kernel6Ideal.Value.run_blocks (F := Ideal) m ρ),
    (θ_run Cert.Reference6Ideal.defs _ _).mono (fun r h c => ⟨(h c).1.trans ?_, (h c).2.1.trans ?_, (h c).2.2⟩) (Cert.Reference6Ideal.Value.run m' ρ')⟩
  · obtain ⟨h0, h1, h2, h3, h4⟩ := hm c
    unfold Value.res_main_v59
    rw [h0, h1, h2, h3, h4]
    exact ref_eq _ _ _ _ _
  · obtain ⟨h0, h1, h2, h3, h4⟩ := hm c
    rw [h0, h1, h2]
    exact ref_eq' _ _ _

end Cert.Proof.DenseIn
-- ==== Proof.Dense.TopTwo.lean ====
/- The two greatest of eight extended reals, by a stable sort and by two rounds of "the maximum, then its first lane". -/
module

public import proofs.«01_k».proof.Proof.Dense.Spec
public import Idealize.ShloMosaic.Lib.Pointwise
public import Idealize.ShloMosaic.Lib.SortFacts
public import Idealize.ShloMosaic.Lib.SortPrefix

@[expose] public section

noncomputable section

namespace Cert.Dense

open Idealize.ShloMosaic

/-- `l k` is greater than `l k'`, as a sort's comparator. -/
def above (l : Fin 8 → EReal) (k k' : Fin 8) : Bool := Ideal.cmp .ogt (l k) (l k') == 1#1

/-- `l k` is greater than `l k'`, or equal at a lower lane. -/
def ahead (l : Fin 8 → EReal) (k k' : Fin 8) : Bool := above l k k' || (decide (l k = l k') && decide (k < k'))

/-- `above` is the order's. -/
theorem above_iff (l : Fin 8 → EReal) (k k' : Fin 8) : above l k k' = true ↔ l k' < l k := by
  unfold above Ideal.cmp
  by_cases h : l k' < l k <;> simp [h]

/-- `ahead`, spelt out. -/
theorem ahead_iff (l : Fin 8 → EReal) (k k' : Fin 8) : ahead l k k' = true ↔ l k' < l k ∨ (l k = l k' ∧ k < k') := by
  unfold ahead
  rw [Bool.or_eq_true, above_iff, Bool.and_eq_true, decide_eq_true_eq, decide_eq_true_eq]

/-- The first two positions of the sort, greatest first. -/
def best (l : Fin 8 → EReal) : Fin 8 := sortedFrom (above l) 0
/-- The second position of the sort. -/
def next (l : Fin 8 → EReal) : Fin 8 := sortedFrom (above l) 1

/-- The sort keeps equal entries in lane order. -/
theorem stableSort_ahead (l : Fin 8 → EReal) (L : List (Fin 8)) (hL : L.Pairwise (· < ·)) : stableSort (above l) L = stableSort (ahead l) L := by
  induction L with
  | nil => rfl
  | cons a L ih =>
    rw [List.pairwise_cons] at hL
    unfold stableSort
    rw [ih hL.2]
    refine insertBefore_congr _ _ a _ fun b hb => ?_
    have hab : a < b := hL.1 b ((perm_stableSort _ L).mem_iff.mp hb)
    rw [Bool.eq_iff_iff, above_iff, ahead_iff]
    exact ⟨Or.inl, fun h => h.elim id fun h => absurd h.2 (not_lt_of_gt hab)⟩

/-- So the two orders sort alike. -/
theorem sortedFrom_ahead (l : Fin 8 → EReal) : sortedFrom (above l) = sortedFrom (ahead l) := by
  have h : sortPositions 8 (above l) = sortPositions 8 (ahead l) := stableSort_ahead l _ (List.pairwise_lt_finRange 8)
  funext k
  exact List.get_of_eq h _

/-- `p` is the lane of the greatest of `l` and `q` that of the greatest of the rest, the lower lane where several are equal. -/
structure TopTwo (l : Fin 8 → EReal) (p q : Fin 8) : Prop where
  ne : q ≠ p
  le_first : ∀ k, l k ≤ l p
  lt_first : ∀ k, k < p → l k < l p
  le_second : ∀ k, k ≠ p → l k ≤ l q
  lt_second : ∀ k, k ≠ p → k < q → l k < l q

/-- Neither greater nor equal at a lower lane. -/
theorem not_ahead (l : Fin 8 → EReal) (k k' : Fin 8) (h : ahead l k k' = false) : l k ≤ l k' ∧ (k < k' → l k < l k') := by
  have h' : ¬ (l k' < l k ∨ (l k = l k' ∧ k < k')) := fun hh => by rw [(ahead_iff l k k').2 hh] at h; exact absurd h (by decide)
  rw [not_or, not_lt, not_and, not_lt] at h'
  exact ⟨h'.1, fun hk => lt_of_le_of_ne h'.1 fun e => absurd hk (not_lt.2 (h'.2 e))⟩

/-- Being no later in the sort's order carries over. -/
theorem not_ahead_trans (l : Fin 8 → EReal) (a b c : Fin 8) (hab : ahead l a b = false) (hbc : ahead l b c = false) : ahead l a c = false := by
  have h1 := not_ahead l a b hab
  have h2 := not_ahead l b c hbc
  by_contra h
  rw [Bool.not_eq_false, ahead_iff] at h
  rcases h with h | ⟨h, hk⟩
  · exact absurd (h1.1.trans h2.1) (not_le.2 h)
  · rcases lt_or_ge a b with hl | hl
    · exact absurd (h ▸ (h1.2 hl).trans_le h2.1) (lt_irrefl _)
    · exact absurd (h ▸ h1.1.trans_lt (h2.2 (hl.trans_lt hk))) (lt_irrefl _)

/-- No entry is ahead of itself. -/
theorem ahead_irrefl (l : Fin 8 → EReal) (a : Fin 8) : ahead l a a = false := by
  by_contra h
  rw [Bool.not_eq_false, ahead_iff] at h
  exact h.elim (lt_irrefl _) fun h => lt_irrefl _ h.2

/-- One of two entries ahead of the other is not behind it. -/
theorem ahead_asymm (l : Fin 8 → EReal) (a b : Fin 8) (h : ahead l a b = true) : ahead l b a = false := by
  by_contra h'
  rw [Bool.not_eq_false, ahead_iff] at h'
  rw [ahead_iff] at h
  rcases h with h | ⟨h, hk⟩ <;> rcases h' with h' | ⟨h', hk'⟩
  · exact lt_asymm h h'
  · exact absurd h (h' ▸ lt_irrefl _)
  · exact absurd h' (h ▸ lt_irrefl _)
  · exact lt_asymm hk hk'

/-- The sort's first two positions are those lanes. -/
theorem topTwo (l : Fin 8 → EReal) : TopTwo l (best l) (next l) := by
  unfold best next
  rw [sortedFrom_ahead]
  have hsorted : ∀ i j : Fin 8, i < j → ahead l (sortedFrom (ahead l) j) (sortedFrom (ahead l) i) = false :=
    sortedFrom_noInversion (ahead l) (ahead l) (ahead_asymm l) (fun _ _ h => h) (not_ahead_trans l)
  have hle : ∀ i j : Fin 8, i ≤ j → ahead l (sortedFrom (ahead l) j) (sortedFrom (ahead l) i) = false := fun i j hij => by
    rcases eq_or_lt_of_le hij with h | h
    · rw [h]; exact ahead_irrefl l _
    · exact hsorted i j h
  have hfirst : ∀ k, ahead l k (sortedFrom (ahead l) 0) = false := fun k => by
    obtain ⟨j, rfl⟩ := sortedFrom_surjective (ahead l) k
    exact hle 0 j (Fin.zero_le j)
  have hsecond : ∀ k, k ≠ sortedFrom (ahead l) 0 → ahead l k (sortedFrom (ahead l) 1) = false := fun k hk => by
    obtain ⟨j, rfl⟩ := sortedFrom_surjective (ahead l) k
    refine hle 1 j ?_
    have hj : j ≠ 0 := fun h => hk (by rw [h])
    exact Fin.one_le_of_ne_zero hj
  exact ⟨fun h => absurd (sortedFrom_injective (ahead l) h) (by decide), fun k => (not_ahead l _ _ (hfirst k)).1, fun k => (not_ahead l _ _ (hfirst k)).2,
    fun k hk => (not_ahead l _ _ (hsecond k hk)).1, fun k hk => (not_ahead l _ _ (hsecond k hk)).2⟩

/-! ## The two rounds over 128 lanes, those beyond the eighth at minus infinity -/

/-- `l` on the first eight of 128 lanes, minus infinity on the others. -/
def padded (l : Fin 8 → EReal) (b : Fin 128) : EReal := if h : b.val < 8 then l ⟨b.val, h⟩ else ⊥

/-- Lane `p` among the 128. -/
def lane (p : Fin 8) : Fin 128 := ⟨p.val, by omega⟩

/-- The padded lanes with lane `p` at minus infinity. -/
def without (l : Fin 8 → EReal) (p : Fin 8) (b : Fin 128) : EReal := if b = lane p then ⊥ else padded l b

/-- The padded lanes at one of the eight. -/
theorem padded_lane (l : Fin 8 → EReal) (p : Fin 8) : padded l (lane p) = l p := dif_pos p.isLt

/-- Another lane than the removed one. -/
theorem without_lane (l : Fin 8 → EReal) (p q : Fin 8) (h : q ≠ p) : without l p (lane q) = l q := by
  have : lane q ≠ lane p := fun e => h (Fin.ext (congrArg (fun u : Fin 128 => u.val) e))
  rw [without, if_neg this, padded_lane]

/-- A maximum from minus infinity that one entry attains. -/
theorem fold_max_eq {n : ℕ} (f : Fin n → EReal) (p : Fin n) (h : ∀ k, f k ≤ f p) : Finset.univ.fold max ⊥ f = f p :=
  le_antisymm ((Finset.fold_max_le _).2 ⟨bot_le, fun k _ => h k⟩) ((Finset.le_fold_max _).2 (Or.inr ⟨p, Finset.mem_univ p, le_rfl⟩))

/-- Signed minima are the integers'. -/
theorem toInt_minsi (x y : BitVec 32) : (IntOp.minsi x y).toInt = min x.toInt y.toInt := by
  unfold IntOp.minsi
  rw [BitVec.slt]
  by_cases h : x.toInt < y.toInt
  · simp [h, h.le]
  · simp [h, not_lt.1 h]

/-- A lane's word is its number. -/
theorem toInt_lane (k : Fin 128) : (BitVec.ofNat 32 k.val).toInt = k.val := by
  have := k.isLt
  rw [BitVec.toInt_eq_toNat_of_lt (by rw [BitVec.toNat_ofNat]; omega), BitVec.toNat_ofNat]
  omega

/-- The least of the lanes a mask picks is the first of them. -/
theorem fold_minsi_eq (f : Fin 128 → EReal) (v : EReal) (p : Fin 128) (hp : f p = v) (h : ∀ k, k < p → f k ≠ v) :
    Finset.univ.fold IntOp.minsi 2147483647#32 (fun k : Fin 128 => Scalar.select (BitVec.ofBool (decide (f k = v))) (BitVec.ofNat 32 k.val) 128#32)
      = BitVec.ofNat 32 p.val := by
  apply BitVec.eq_of_toInt_eq
  rw [← Finset.fold_hom (op' := min) (m := BitVec.toInt) toInt_minsi, toInt_lane]
  have hi : (2147483647#32).toInt = 2147483647 := by decide
  have hb := p.isLt
  apply le_antisymm
  · refine (Finset.fold_min_le _).2 (Or.inr ⟨p, Finset.mem_univ p, ?_⟩)
    rw [hp]
    simp [Scalar.select, toInt_lane]
  · refine (Finset.le_fold_min _).2 ⟨by rw [hi]; omega, fun k _ => ?_⟩
    by_cases hk : f k = v
    · have : ¬ k < p := fun hh => h k hh hk
      simp [Scalar.select, hk, toInt_lane]
      omega
    · simp [Scalar.select, hk]

variable {l : Fin 8 → EReal} {p q : Fin 8} (h : TopTwo l p q) (hl : ∀ k, ⊥ < l k)

include h in
/-- The first round's maximum. -/
theorem first_max : Finset.univ.fold max ⊥ (padded l) = l p := by
  rw [fold_max_eq (padded l) (lane p) fun k => ?_, padded_lane]
  rw [padded_lane]
  unfold padded
  split_ifs
  · exact h.le_first _
  · exact bot_le

include h hl in
/-- Before the first round's lane nothing is equal to its maximum. -/
theorem first_ne (k : Fin 128) (hk : k < lane p) : padded l k ≠ l p := by
  have hk' : k.val < p.val := hk
  have hp := p.isLt
  rw [padded, dif_pos (by omega)]
  exact (h.lt_first _ hk').ne

include h in
/-- The second round's maximum. -/
theorem second_max : Finset.univ.fold max ⊥ (without l p) = l q := by
  rw [fold_max_eq (without l p) (lane q) fun k => ?_, without_lane l p q h.ne]
  rw [without_lane l p q h.ne]
  unfold without padded
  split_ifs with h1 h2
  · exact bot_le
  · exact h.le_second _ fun e => h1 (Fin.ext (congrArg (fun u : Fin 8 => u.val) e))
  · exact bot_le

include h hl in
/-- Before the second round's lane nothing is equal to its maximum. -/
theorem second_ne (k : Fin 128) (hk : k < lane q) : without l p k ≠ l q := by
  have hk' : k.val < q.val := hk
  have hq := q.isLt
  unfold without
  split_ifs with h1
  · exact (hl q).ne
  · rw [padded, dif_pos (by omega)]
    exact (h.lt_second _ (fun e => h1 (Fin.ext (congrArg (fun u : Fin 8 => u.val) e))) hk').ne

/-- The 128 lanes of a token's route: the two experts' gates and numbers in lanes 8 to 11, zero elsewhere. -/
def lanesAt (l : Fin 8 → EReal) (b : Fin 128) : EReal :=
  if b.val = 8 then Ideal.div 1 (1 + Ideal.exp (l (next l) - l (best l)))
  else if b.val = 9 then Ideal.div (Ideal.exp (l (next l) - l (best l))) (1 + Ideal.exp (l (next l) - l (best l)))
  else if b.val = 10 then FloatOps.sitofp (F := Ideal) .f32 (BitVec.ofNat 32 (best l).val)
  else if b.val = 11 then FloatOps.sitofp (F := Ideal) .f32 (BitVec.ofNat 32 (next l).val)
  else 0

/-- A lane selected by its word. -/
theorem select_lane (b : Fin 128) (n : ℕ) (hn : n < 128) (x y : EReal) :
    Scalar.select (IntOp.cmpi .eq (BitVec.ofNat 32 b.val) (BitVec.ofNat 32 n)) x y = if b.val = n then x else y := by
  have hb := b.isLt
  have e : (BitVec.ofNat 32 b.val = BitVec.ofNat 32 n) ↔ b.val = n := by
    constructor
    · intro e
      have := congrArg BitVec.toNat e
      rw [BitVec.toNat_ofNat, BitVec.toNat_ofNat] at this
      omega
    · intro e; rw [e]
  unfold Scalar.select IntOp.cmpi
  by_cases hh : b.val = n
  · simp [hh]
  · have hne : BitVec.ofNat 32 b.val ≠ BitVec.ofNat 32 n := fun hb => hh (e.1 hb)
    have hf : (BitVec.ofNat 32 b.val == BitVec.ofNat 32 n) = false := beq_eq_false_iff_ne.2 hne
    rw [if_neg hh]
    simp only [hf]
    rfl

/-- A lane below the eighth, by its word. -/
theorem select_below (b : Fin 128) (x y : EReal) :
    Scalar.select (IntOp.cmpi .slt (BitVec.ofNat 32 b.val) 8#32) x y = if b.val < 8 then x else y := by
  have h8 : (8#32).toInt = 8 := by decide
  unfold Scalar.select IntOp.cmpi
  simp only [BitVec.slt, toInt_lane, h8]
  by_cases hh : b.val < 8
  · simp [hh]
  · simp [hh]

/-- The lanes the two rounds put together. -/
theorem lanes_eq (b : Fin 128) (e g1 g2 i1 i2 : EReal) : (((if b.val = 8 then g1 else 0) + (if b.val = 9 then g2 else 0)) + (if b.val = 10 then i1 else 0)) + (if b.val = 11 then i2 else 0)
    = if b.val = 8 then g1 else if b.val = 9 then g2 else if b.val = 10 then i1 else if b.val = 11 then i2 else 0 := by
  by_cases h8 : b.val = 8
  · simp [h8]
  by_cases h9 : b.val = 9
  · simp [h9]
  by_cases h10 : b.val = 10
  · simp [h10]
  by_cases h11 : b.val = 11
  · simp [h11]
  simp [h8, h9, h10, h11]

/-! ## Entries that are real numbers -/

/-- Neither infinity. -/
def IsReal (x : EReal) : Prop := ∃ r : ℝ, x = r

/-- A product of real numbers. -/
theorem IsReal.mul {x y : EReal} : IsReal x → IsReal y → IsReal (x * y) := by
  rintro ⟨r, rfl⟩ ⟨s, rfl⟩; exact ⟨r * s, (EReal.coe_mul r s).symm⟩

/-- A sum of real numbers. -/
theorem IsReal.sum {n : ℕ} {f : Fin n → EReal} (h : ∀ k, IsReal (f k)) : IsReal (∑ k, f k) := by
  refine Finset.sum_induction f IsReal ?_ ⟨0, rfl⟩ fun k _ => h k
  rintro _ _ ⟨r, rfl⟩ ⟨s, rfl⟩
  exact ⟨r + s, (EReal.coe_add r s).symm⟩

/-- A real number is above minus infinity. -/
theorem IsReal.bot_lt {x : EReal} : IsReal x → ⊥ < x := by
  rintro ⟨r, rfl⟩; exact EReal.bot_lt_coe r

/-- A real number less itself is zero; an infinity's is not. -/
theorem IsReal.sub_self {x : EReal} : IsReal x → x - x = 0 := by
  rintro ⟨r, rfl⟩; rw [← EReal.coe_sub, _root_.sub_self, EReal.coe_zero]

/-- An entry whose magnitude is below infinity. -/
theorem isReal_of_abs_lt {x : EReal} (h : max x (-x) < ⊤) : IsReal x := by
  induction x with
  | bot => simp at h
  | top => simp at h
  | coe r => exact ⟨r, rfl⟩

/-- The word of 2048. -/
theorem word_2048 : Ideal.ofBits .f32 0x45000000#32 = ((2048 : ℝ) : EReal) := by
  simp [Ideal.ofBits, Ideal.ieee, -EReal.coe_mul]; norm_num

/-- The word added under the root is positive. -/
theorem word_eps : ∃ e : ℝ, 0 < e ∧ Ideal.ofBits .f32 0x358637BD#32 = (e : EReal) := by
  refine ⟨8796093 * 2 ^ (-43 : ℤ), by positivity, ?_⟩
  simp [Ideal.ofBits, Ideal.ieee, -EReal.coe_mul]

/-- The word of minus infinity. -/
theorem word_bot : Ideal.ofBits .f32 0xFF800000#32 = ⊥ := by
  simp [Ideal.ofBits, Ideal.ieee]

/-- The word of infinity. -/
theorem word_top : Ideal.ofBits .f32 0x7F800000#32 = ⊤ := by
  simp [Ideal.ofBits, Ideal.ieee]

/-- The reciprocal root of a row of real numbers is real. -/
theorem IsReal.rms {v : Fin 2048 → EReal} (h : ∀ k, IsReal (v k)) : IsReal (rmsAt v) := by
  obtain ⟨e, he, hw⟩ := word_eps
  have hs : ∃ s : ℝ, 0 ≤ s ∧ ∑ k, v k * v k = (s : EReal) := by
    refine Finset.sum_induction (fun k => v k * v k) (fun x => ∃ s : ℝ, 0 ≤ s ∧ x = (s : EReal)) ?_ ⟨0, le_rfl, rfl⟩ fun k _ => ?_
    · rintro _ _ ⟨r, hr, rfl⟩ ⟨s, hs, rfl⟩
      exact ⟨r + s, add_nonneg hr hs, (EReal.coe_add r s).symm⟩
    · obtain ⟨r, hr⟩ := h k
      exact ⟨r * r, mul_self_nonneg r, by rw [hr, EReal.coe_mul]⟩
  obtain ⟨s, hs, hv⟩ := hs
  unfold rmsAt
  rw [hv, hw, word_2048]
  have hd : Ideal.div (s : EReal) ((2048 : ℝ) : EReal) = ((s * 2048⁻¹ : ℝ) : EReal) := by
    unfold Ideal.div
    rw [if_neg (by norm_cast), ← EReal.coe_inv, ← EReal.coe_mul]
  rw [hd, ← EReal.coe_add]
  have hp : 0 < s * 2048⁻¹ + e := by positivity
  refine ⟨(Real.sqrt (s * 2048⁻¹ + e))⁻¹, ?_⟩
  show (if s * 2048⁻¹ + e < 0 then ⊥ else if s * 2048⁻¹ + e = 0 then ⊤ else (((Real.sqrt (s * 2048⁻¹ + e))⁻¹ : ℝ) : EReal)) = _
  rw [if_neg (not_lt.2 hp.le), if_neg hp.ne']

/-- The normalised rows of real numbers are real. -/
theorem IsReal.norm {M : ℕ} {x : (⟨2, ![M, 2048]⟩ : Shape).Idx → EReal} {g : (⟨1, ![2048]⟩ : Shape).Idx → EReal}
    (hx : ∀ i, IsReal (x i)) (hg : ∀ i, IsReal (g i)) (r : Fin M) (k : Fin 2048) : IsReal (normAt x g r k) :=
  ((hx _).mul (IsReal.rms fun k => hx _)).mul (hg _)

end Cert.Dense
-- ==== Proof.Dense.Router.lean ====
/- The router, entry by entry, over the extended reals. -/
module

public import proofs.«01_k».proof.Proof.Gen.Kernel7Ideal.Value
public import proofs.«01_k».proof.Proof.Dense.Spec
public import proofs.«01_k».proof.Proof.Dense.TopTwo
public import Idealize.ShloMosaic.Lib.Pipeline.Value
public import Idealize.ShloMosaic.Lib.Pointwise
public import Idealize.ShloMosaic.Lib.KernelVsHost

@[expose] public section

set_option maxRecDepth 16384

noncomputable section

namespace Cert.Kernel7Ideal.Dense

open Cert.Kernel7Ideal Cert.Kernel7Ideal.Gen Cert.Dense
open Idealize.ShloMosaic Idealize.ShloMosaic.TcCoe Idealize.ShloMosaic.StableHlo Idealize.SL.Sem
open Idealize.ShloMosaic.Pipeline (Dat)

/-- The normalised tokens, of the tokens and the gain. -/
def result (x : S16384x2048.Idx → EReal) (g : S2048.Idx → EReal) : S16384x2048.Idx → EReal := fun j => normAt x g (j 0) (j 1)

/-- The routes, of the three arguments: the lanes of the two greatest of a token's eight products. -/
def result' (x : S16384x2048.Idx → EReal) (g : S2048.Idx → EReal) (w : S2048x8.Idx → EReal) : S16384x128.Idx → EReal := fun j =>
  lanesAt (normProdAt x g w (j 0)) (j 1)

/-- An entry of a normalised row, from a point's blocks. -/
def rowAt (x : S512x2048.Idx → EReal) (g : S1x2048.Idx → EReal) (a : Fin 512) (b : Fin 2048) : EReal :=
  x (ix2 a b) * rmsAt (fun k => x (ix2 a k)) * g (ix2 0 b)

/-- The normalised rows a point computes. -/
theorem norm_apply (x : Vec Ideal S512x2048 .f32) (g : Vec Ideal S1x2048 .f32) (a : Fin 512) (b : Fin 2048) :
    k0_pay2 x g (ix2 a b) = rowAt x g a b := by
  pointwise [k0_pay2, rowAt, rmsAt]

/-- The eight products of a row. -/
def logits (x : Vec Ideal S512x2048 .f32) (g : Vec Ideal S1x2048 .f32) (w : Vec Ideal S2048x128 .f32) (a : Fin 512) (p : Fin 8) : EReal :=
  ∑ k : Fin 2048, k0_pay2 x g (ix2 a k) * w (ix2 k (lane p))

/-- The masked products a point computes: where the rows and the weights are real, the low parts of the split are zero. -/
theorem logits_apply (x : Vec Ideal S512x2048 .f32) (g : Vec Ideal S1x2048 .f32) (w : Vec Ideal S2048x128 .f32) (a : Fin 512)
    (hn : ∀ k, IsReal (k0_pay2 x g (ix2 a k))) (hw : ∀ (k : Fin 2048) (p : Fin 8), IsReal (w (ix2 k (lane p)))) (b : Fin 128) :
    k0_pay3 x g w (ix2 a b) = padded (logits x g w a) b := by
  have h : k0_pay3 x g w (ix2 a b) = Scalar.select (IntOp.cmpi .slt (BitVec.ofNat 32 b.val) 8#32)
      (∑ k : Fin 2048, k0_pay2 x g (ix2 a k) * w (ix2 k b) +
        (∑ k : Fin 2048, (k0_pay2 x g (ix2 a k) - k0_pay2 x g (ix2 a k)) * w (ix2 k b) +
          ∑ k : Fin 2048, k0_pay2 x g (ix2 a k) * (w (ix2 k b) - w (ix2 k b))))
      (Ideal.ofBits .f32 0xFF800000#32) := by
    pointwise [k0_pay3]
  rw [h, select_below, word_bot]
  unfold padded
  by_cases hb : b.val < 8
  · rw [if_pos hb, dif_pos hb]
    have e1 : ∑ k : Fin 2048, (k0_pay2 x g (ix2 a k) - k0_pay2 x g (ix2 a k)) * w (ix2 k b) = 0 :=
      Finset.sum_eq_zero fun k _ => by rw [(hn k).sub_self, zero_mul]
    have e2 : ∑ k : Fin 2048, k0_pay2 x g (ix2 a k) * (w (ix2 k b) - w (ix2 k b)) = 0 :=
      Finset.sum_eq_zero fun k _ => by rw [IsReal.sub_self (x := w (ix2 k b)) (hw k ⟨b.val, hb⟩), mul_zero]
    rw [e1, e2, add_zero, add_zero]
    rfl
  · rw [if_neg hb, dif_neg hb]

/-- The lanes' numbers. -/
theorem lanes_apply (x : Vec Ideal S512x2048 .f32) (g : Vec Ideal S1x2048 .f32) (w : Vec Ideal S2048x128 .f32) (a : Fin 512) (b : Fin 128) :
    k0_pay11 x g w (ix2 a b) = BitVec.ofNat 32 b.val := by
  pointwise [k0_pay11]

section Rounds

variable (n : IVec S512x128 32) (v : FVec Ideal S512x128 .f32) (mask : IVec S512x128 1) (a : Fin 512) (l : Fin 8 → EReal)
  (hn : ∀ b : Fin 128, n (ix2 a b) = BitVec.ofNat 32 b.val) (hv : ∀ b : Fin 128, v (ix2 a b) = padded l b)
  (hm : ∀ b : Fin 128, mask (ix2 a b) = BitVec.ofBool (decide (padded l b = l (best l)))) (hl : ∀ k, ⊥ < l k)

include hn hm hl in
/-- The first expert's number. -/
theorem first_lane : k0_pay6 n mask 128#32 (ix2 a 0) = BitVec.ofNat 32 (best l).val := by
  have h : k0_pay6 n mask 128#32 (ix2 a 0) = Finset.univ.fold IntOp.minsi 2147483647#32 (fun k : Fin 128 => Scalar.select (mask (ix2 a k)) (n (ix2 a k)) 128#32) := by
    pointwise [k0_pay6]
  rw [h]
  simp only [hn, hm]
  exact fold_minsi_eq (padded l) (l (best l)) (lane (best l)) (padded_lane l _) (first_ne (topTwo l) hl)

include hn hv hm hl in
/-- The products without the first expert's. -/
theorem rest_apply (b : Fin 128) : k0_pay7 n v mask 128#32 (ix2 a b) = without l (best l) b := by
  have h : k0_pay7 n v mask 128#32 (ix2 a b) = Scalar.select (IntOp.cmpi .eq (n (ix2 a b)) (k0_pay6 n mask 128#32 (ix2 a 0))) (Ideal.ofBits .f32 0xFF800000#32) (v (ix2 a b)) := by
    pointwise [k0_pay7]
  have hb := (best l).isLt
  rw [h, hn, first_lane n mask a l hn hm hl, hv, select_lane b _ (by omega), word_bot]
  unfold without
  exact if_congr ⟨fun e => Fin.ext e, fun e => congrArg (fun u : Fin 128 => u.val) e⟩ rfl rfl

include hn hv hm hl in
/-- The second greatest product. -/
theorem second_apply : k0_pay8 n v mask 128#32 (ix2 a 0) = l (next l) := by
  have h : k0_pay8 n v mask 128#32 (ix2 a 0) = Finset.univ.fold max (Ideal.ofBits .f32 0xFF800000#32) (fun k : Fin 128 => k0_pay7 n v mask 128#32 (ix2 a k)) := by
    pointwise [k0_pay8]
  rw [h, word_bot]
  simp only [rest_apply n v mask a l hn hv hm hl]
  exact second_max (topTwo l)

include hn hv hm hl in
/-- The second expert's number. -/
theorem second_lane : k0_pay9 n v mask 128#32 (ix2 a 0) = BitVec.ofNat 32 (next l).val := by
  have h : k0_pay9 n v mask 128#32 (ix2 a 0) = Finset.univ.fold IntOp.minsi 2147483647#32
      (fun k : Fin 128 => Scalar.select (BitVec.ofBool (decide (k0_pay7 n v mask 128#32 (ix2 a k) = k0_pay8 n v mask 128#32 (ix2 a 0)))) (n (ix2 a k)) 128#32) := by
    pointwise [k0_pay9]
  rw [h]
  simp only [hn, rest_apply n v mask a l hn hv hm hl, second_apply n v mask a l hn hv hm hl]
  exact fold_minsi_eq (without l (best l)) (l (next l)) (lane (next l)) (without_lane l _ _ (topTwo l).ne) (second_ne (topTwo l) hl)

include hn hv hm hl in
/-- The route a point puts together. -/
theorem together (top : FVec Ideal S512x1 .f32) (ht : top (ix2 a 0) = l (best l)) (b : Fin 128) :
    k0_pay1 n (k0_pay9 n v mask 128#32) (k0_pay10 n v top mask 128#32) (ix2 a b) = lanesAt l b := by
  have h : k0_pay1 n (k0_pay9 n v mask 128#32) (k0_pay10 n v top mask 128#32) (ix2 a b)
      = k0_pay10 n v top mask 128#32 (ix2 a b) + Scalar.select (IntOp.cmpi .eq (n (ix2 a b)) 11#32) (FloatOps.sitofp (F := Ideal) .f32 (k0_pay9 n v mask 128#32 (ix2 a 0))) 0 := by
    pointwise [k0_pay1]
  have h' : k0_pay10 n v top mask 128#32 (ix2 a b)
      = Scalar.select (IntOp.cmpi .eq (n (ix2 a b)) 8#32) (Ideal.div 1 (1 + Ideal.exp (k0_pay8 n v mask 128#32 (ix2 a 0) - top (ix2 a 0)))) 0 +
        Scalar.select (IntOp.cmpi .eq (n (ix2 a b)) 9#32)
          (Ideal.div (Ideal.exp (k0_pay8 n v mask 128#32 (ix2 a 0) - top (ix2 a 0))) (1 + Ideal.exp (k0_pay8 n v mask 128#32 (ix2 a 0) - top (ix2 a 0)))) 0 +
      Scalar.select (IntOp.cmpi .eq (n (ix2 a b)) 10#32) (FloatOps.sitofp (F := Ideal) .f32 (k0_pay6 n mask 128#32 (ix2 a 0))) 0 := by
    pointwise [k0_pay10]
  rw [h, h', hn, second_apply n v mask a l hn hv hm hl, second_lane n v mask a l hn hv hm hl, first_lane n mask a l hn hm hl, ht]
  rw [select_lane b 8 (by decide), select_lane b 9 (by decide), select_lane b 10 (by decide), select_lane b 11 (by decide)]
  exact lanes_eq b 0 _ _ _ _

end Rounds

/-- The normalised rows a point stores. -/
theorem out_apply (x : Vec Ideal S512x2048 .f32) (g : Vec Ideal S1x2048 .f32) (w : Vec Ideal S2048x128 .f32) (a : Fin 512) (b : Fin 2048) :
    out0_3 x g w (ix2 a b) = rowAt x g a b := by
  unfold out0_3
  rw [View.canon_unit_zero zeros, View.ld_unit_zero zeros, View.ld_unit_zero zeros]
  exact norm_apply x g a b

/-- The routes a point stores, where the rows and the weights are real. -/
theorem route_apply (x : Vec Ideal S512x2048 .f32) (g : Vec Ideal S1x2048 .f32) (w : Vec Ideal S2048x128 .f32) (a : Fin 512)
    (hx : ∀ k, IsReal (k0_pay2 x g (ix2 a k))) (hw : ∀ (k : Fin 2048) (p : Fin 8), IsReal (w (ix2 k (lane p)))) (b : Fin 128) :
    out0_4 x g w (ix2 a b) = lanesAt (logits x g w a) b := by
  have hl : ∀ p, ⊥ < logits x g w a p := fun p => (IsReal.sum fun k => (hx k).mul (hw k p)).bot_lt
  have hv := logits_apply x g w a hx hw
  have ht : k0_pay4 x g w (ix2 a 0) = logits x g w a (best (logits x g w a)) := by
    have h : k0_pay4 x g w (ix2 a 0) = Finset.univ.fold max (Ideal.ofBits .f32 0xFF800000#32) (fun k : Fin 128 => k0_pay3 x g w (ix2 a k)) := by
      pointwise [k0_pay4]
    rw [h, word_bot]
    simp only [hv]
    exact first_max (topTwo _)
  unfold out0_4 k0_pay12 k0_pay13
  rw [View.canon_unit_zero zeros]
  simp only [View.ld_unit_zero (S := S512x2048) zeros, View.ld_unit_zero (S := S1x2048) zeros, View.ld_unit_zero (S := S2048x128) zeros]
  refine together _ _ _ a (logits x g w a) (lanes_apply x g w a) hv (fun b => ?_) hl _ ht b
  have h : k0_pay5 x g w (ix2 a b) = BitVec.ofBool (decide (k0_pay3 x g w (ix2 a b) = k0_pay4 x g w (ix2 a 0))) := by
    pointwise [k0_pay5]
  rw [h, hv b, ht]

/-- The windows' block indices at a point. -/
theorem index_eq : ∀ t : Fin grid0.N,
    (cc0_transform_0 (grid0.coords t) 0 = t.val ∧ cc0_transform_0 (grid0.coords t) 1 = 0)
    ∧ (cc0_transform_1 (grid0.coords t) 0 = 0 ∧ cc0_transform_1 (grid0.coords t) 1 = 0)
    ∧ (cc0_transform_2 (grid0.coords t) 0 = 0 ∧ cc0_transform_2 (grid0.coords t) 1 = 0)
    ∧ (cc0_transform_3 (grid0.coords t) 0 = t.val ∧ cc0_transform_3 (grid0.coords t) 1 = 0)
    ∧ (cc0_transform_4 (grid0.coords t) 0 = t.val ∧ cc0_transform_4 (grid0.coords t) 1 = 0) := by decide +kernel

variable (m : (ℓ : Loc nD τ sig) → Buf (Elt Ideal) ℓ) (ρ : Dev nD → PrngReg)

/-- The gain as the host prepares it. -/
theorem gain_eq (c : Dev nD) : (V m c main_v1 : S1x2048.Idx → EReal) = shapeCast S1x2048 (m ((c : Thread nD τ).loc main_arg1) : FVec Ideal S2048 .f32) shapeCasts_S2048_S1x2048 := by
  show StableHlo.after (List.flatten [hostOps0, hostOps0_1, hostOps0_2]) (fun b => m (c, b)) (Proc.devRef .tc main_v1) = _
  simp only [List.flatten_cons, List.flatten_nil, List.append_nil, List.cons_append, List.nil_append]
  after_results
  rfl

/-- The weights as the host prepares them, padded to 128 columns. -/
theorem weights_eq (c : Dev nD) : (V m c main_v0 : S2048x128.Idx → EReal)
    = pad S2048x128 ![0, 0] ![0, 120] ![0, 0] (m ((c : Thread nD τ).loc main_arg2) : FVec Ideal S2048x8 .f32) (sitofp (F := Ideal) .f32 (constantI S_ 32 0#32)) pads_S2048x8_S2048x128_000_01200 h_S_ := by
  show StableHlo.after (List.flatten [hostOps0, hostOps0_1, hostOps0_2]) (fun b => m (c, b)) (Proc.devRef .tc main_v0) = _
  simp only [List.flatten_cons, List.flatten_nil, List.append_nil, List.cons_append, List.nil_append]
  after_results
  rfl

/-- A row of tokens a point reads. -/
theorem tokens_block (c : Dev nD) (t : Fin cfg0.N) (a : Fin 512) (r : Fin 16384) (hr : r.val = t.val * 512 + 1 * a.val) (k : Fin 2048) :
    (iblk m c 0 t : S512x2048.Idx → EReal) (ix2 a k) = (m ((c : Thread nD τ).loc main_arg0) : S16384x2048.Idx → EReal) (ix2 r k) := by
  obtain ⟨⟨p0, p1⟩, -⟩ := index_eq t
  rw [← V_main_arg0 m c]
  show (V m c main_arg0 : S16384x2048.Idx → EReal) _ = _
  congr 1
  funext d; apply Fin.ext
  match d with
  | ⟨0, _⟩ => show cc0_transform_0 (grid0.coords t) 0 * 512 + 1 * a.val = r.val; rw [p0, hr]
  | ⟨1, _⟩ => show cc0_transform_0 (grid0.coords t) 1 * 2048 + 1 * k.val = k.val; rw [p1]; omega

/-- The gain a point reads. -/
theorem gain_block (c : Dev nD) (t : Fin cfg0.N) (k : Fin 2048) :
    (iblk m c 1 t : S1x2048.Idx → EReal) (ix2 0 k) = (m ((c : Thread nD τ).loc main_arg1) : S2048.Idx → EReal) (ix1 k) := by
  obtain ⟨-, ⟨p0, p1⟩, -⟩ := index_eq t
  have h : (V m c main_v1 : S1x2048.Idx → EReal) (ix2 0 k) = (m ((c : Thread nD τ).loc main_arg1) : S2048.Idx → EReal) (ix1 k) := by
    rw [gain_eq m c]
    pointwise []
  rw [← h]
  show (V m c main_v1 : S1x2048.Idx → EReal) _ = _
  congr 1
  funext d; apply Fin.ext
  match d with
  | ⟨0, _⟩ => show cc0_transform_1 (grid0.coords t) 0 * 1 + 1 * 0 = 0; rw [p0]
  | ⟨1, _⟩ => show cc0_transform_1 (grid0.coords t) 1 * 2048 + 1 * k.val = k.val; rw [p1]; omega

/-- The weights' first eight columns a point reads. -/
theorem weights_block (c : Dev nD) (t : Fin cfg0.N) (k : Fin 2048) (p : Fin 8) :
    (iblk m c 2 t : S2048x128.Idx → EReal) (ix2 k (lane p)) = (m ((c : Thread nD τ).loc main_arg2) : S2048x8.Idx → EReal) (ix2 k p) := by
  obtain ⟨-, -, ⟨p0, p1⟩, -⟩ := index_eq t
  have h : (V m c main_v0 : S2048x128.Idx → EReal) (ix2 k (lane p)) = (m ((c : Thread nD τ).loc main_arg2) : S2048x8.Idx → EReal) (ix2 k p) := by
    rw [weights_eq m c]
    refine pad_apply_of_inside _ _ _ _ _ _ _ (ix2 k (lane p)) (ix2 k p) fun d => ?_
    match d with
    | ⟨0, _⟩ => show k.val = 0 + k.val * (0 + 1); omega
    | ⟨1, _⟩ => show p.val = 0 + p.val * (0 + 1); omega
  rw [← h]
  show (V m c main_v0 : S2048x128.Idx → EReal) _ = _
  congr 1
  funext d; apply Fin.ext
  match d with
  | ⟨0, _⟩ => show cc0_transform_2 (grid0.coords t) 0 * 2048 + 1 * k.val = k.val; rw [p0]; omega
  | ⟨1, _⟩ => show cc0_transform_2 (grid0.coords t) 1 * 128 + 1 * p.val = p.val; rw [p1]; omega

/-- A normalised row at a point is the array's. -/
theorem norm_block (c : Dev nD) (t : Fin cfg0.N) (a : Fin 512) (r : Fin 16384) (hr : r.val = t.val * 512 + 1 * a.val) (k : Fin 2048) :
    rowAt (iblk m c 0 t) (iblk m c 1 t) a k
      = normAt (m ((c : Thread nD τ).loc main_arg0) : S16384x2048.Idx → EReal) (m ((c : Thread nD τ).loc main_arg1)) r k := by
  unfold rowAt normAt
  exact congrArg₂ (fun u v : EReal => u * v)
    (congrArg₂ (fun u v : EReal => u * v) (tokens_block m c t a r hr k) (congrArg rmsAt (funext fun k => tokens_block m c t a r hr k))) (gain_block m c t k)

/-- The point that writes row `r`. -/
def pointOf (r : Fin 16384) : Fin grid0.N := ⟨r.val / 512, by rw [N_0]; omega⟩

/-- What a point writes back of the normalised tokens is its block of `result`. -/
theorem flushed_eq (c : Dev nD) (t : Fin cfg0.N) :
    (dats m 0 c).flushed 3 t = ((cfg0.win 3).blk t).view.read (Elt Ideal)
      (result (m ((c : Thread nD τ).loc main_arg0)) (m ((c : Thread nD τ).loc main_arg1))) := by
  rw [Value.flushed3]
  obtain ⟨-, -, -, ⟨s0, s1⟩, -⟩ := index_eq t
  refine funext fun (y : S512x2048.Idx) => ?_
  obtain ⟨a, b, rfl⟩ : ∃ (a : Fin 512) (b : Fin 2048), y = ix2 a b := ⟨y 0, y 1, eq_ix2 y⟩
  obtain ⟨e, he⟩ : ∃ e : S16384x2048.Idx, e = ((cfg0.win 3).blk t).view.emb (ix2 a b) := ⟨_, rfl⟩
  have h0 : (e 0).val = cc0_transform_3 (grid0.coords t) 0 * 512 + 1 * a.val := by rw [he]; rfl
  have h1 : (e 1).val = cc0_transform_3 (grid0.coords t) 1 * 2048 + 1 * b.val := by rw [he]; rfl
  rw [s0] at h0
  rw [s1, one_mul, Nat.zero_mul, Nat.zero_add] at h1
  have hres : result (m ((c : Thread nD τ).loc main_arg0)) (m ((c : Thread nD τ).loc main_arg1)) e
      = out0_3 (F := Ideal) (iblk m c 0 t) (iblk m c 1 t) (iblk m c 2 t) (ix2 a b) := by
    refine Eq.trans ?_ ((out_apply (iblk m c 0 t) (iblk m c 1 t) (iblk m c 2 t) a b).trans (norm_block m c t a (e 0) h0 b)).symm
    unfold result
    exact congrArg (normAt _ _ _) (Fin.ext h1)
  rw [he] at hres
  exact hres.symm

/-- What a point writes back of the routes is its block of `result'`, where the arguments are real. -/
theorem flushed_eq' (c : Dev nD) (hx : ∀ i, IsReal ((m ((c : Thread nD τ).loc main_arg0) : S16384x2048.Idx → EReal) i))
    (hg : ∀ i, IsReal ((m ((c : Thread nD τ).loc main_arg1) : S2048.Idx → EReal) i)) (hw : ∀ i, IsReal ((m ((c : Thread nD τ).loc main_arg2) : S2048x8.Idx → EReal) i)) (t : Fin cfg0.N) :
    (dats m 0 c).flushed 4 t = ((cfg0.win 4).blk t).view.read (Elt Ideal)
      (result' (m ((c : Thread nD τ).loc main_arg0)) (m ((c : Thread nD τ).loc main_arg1)) (m ((c : Thread nD τ).loc main_arg2))) := by
  rw [Value.flushed4]
  obtain ⟨-, -, -, -, ⟨s0, s1⟩⟩ := index_eq t
  refine funext fun (y : S512x128.Idx) => ?_
  obtain ⟨a, b, rfl⟩ : ∃ (a : Fin 512) (b : Fin 128), y = ix2 a b := ⟨y 0, y 1, eq_ix2 y⟩
  obtain ⟨e, he⟩ : ∃ e : S16384x128.Idx, e = ((cfg0.win 4).blk t).view.emb (ix2 a b) := ⟨_, rfl⟩
  have h0 : (e 0).val = cc0_transform_4 (grid0.coords t) 0 * 512 + 1 * a.val := by rw [he]; rfl
  have h1 : (e 1).val = cc0_transform_4 (grid0.coords t) 1 * 128 + 1 * b.val := by rw [he]; rfl
  rw [s0] at h0
  rw [s1, one_mul, Nat.zero_mul, Nat.zero_add] at h1
  have hn (k : Fin 2048) : k0_pay2 (F := Ideal) (iblk m c 0 t) (iblk m c 1 t) (ix2 a k)
      = normAt (m ((c : Thread nD τ).loc main_arg0) : S16384x2048.Idx → EReal) (m ((c : Thread nD τ).loc main_arg1)) (e 0) k :=
    (norm_apply (iblk m c 0 t) (iblk m c 1 t) a k).trans (norm_block m c t a (e 0) h0 k)
  have hlog : logits (iblk m c 0 t) (iblk m c 1 t) (iblk m c 2 t) a
      = normProdAt (m ((c : Thread nD τ).loc main_arg0)) (m ((c : Thread nD τ).loc main_arg1)) (m ((c : Thread nD τ).loc main_arg2) : S2048x8.Idx → EReal) (e 0) :=
    funext fun p => Finset.sum_congr rfl fun k _ => congrArg₂ (fun u v : EReal => u * v) (hn k) (weights_block m c t k p)
  have hres : result' (m ((c : Thread nD τ).loc main_arg0)) (m ((c : Thread nD τ).loc main_arg1)) (m ((c : Thread nD τ).loc main_arg2)) e
      = out0_4 (F := Ideal) (iblk m c 0 t) (iblk m c 1 t) (iblk m c 2 t) (ix2 a b) := by
    refine Eq.trans ?_ (route_apply (iblk m c 0 t) (iblk m c 1 t) (iblk m c 2 t) a (fun k => ?_) (fun k p => ?_) b).symm
    · rw [hlog]
      unfold result'
      exact congrArg (lanesAt _) (Fin.ext h1)
    · rw [hn k]; exact IsReal.norm hx hg _ _
    · exact (weights_block m c t k p) ▸ hw _
  rw [he] at hres
  exact hres.symm

/-- An entry of a rectangle of the array is in the view of that rectangle. -/
theorem mem_slice (R : Rect S16384x2048) (i : S16384x2048.Idx) (h : i ∈ R.set) : i ∈ ((View.whole main_v2_0).slice R).set := by
  rw [View.set_slice_whole]; exact h

/-- Every entry is in the block of the point that writes it. -/
theorem covered (i : S16384x2048.Idx) : i ∈ ((cfg0.win 3).blk (pointOf (i 0))).view.set := by
  refine mem_slice ((cfg0.win 3).rect (pointOf (i 0))) i ?_
  obtain ⟨-, -, -, ⟨r0, r1⟩, ⟨s0, s1⟩⟩ := index_eq (pointOf (i 0))
  have hv : (pointOf (i 0)).val = (i 0).val / 512 := rfl
  have h0 : (i 0).val < 16384 := (i 0).isLt
  have h1 : (i 1).val < 2048 := (i 1).isLt
  refine (LoadRect.mem_set _).2 fun a => ?_
  match a with
  | ⟨0, _⟩ =>
    refine ⟨(i 0).val % 512, Nat.mod_lt _ (by decide), ?_⟩
    show (i 0).val = cc0_transform_3 (grid0.coords (pointOf (i 0))) 0 * 512 + 1 * ((i 0).val % 512)
    rw [r0]; omega
  | ⟨1, _⟩ =>
    refine ⟨(i 1).val, h1, ?_⟩
    show (i 1).val = cc0_transform_3 (grid0.coords (pointOf (i 0))) 1 * 2048 + 1 * (i 1).val
    rw [r1]; omega

/-- An entry of a rectangle of the array is in the view of that rectangle. -/
theorem mem_slice' (R : Rect S16384x128) (i : S16384x128.Idx) (h : i ∈ R.set) : i ∈ ((View.whole main_v2_1).slice R).set := by
  rw [View.set_slice_whole]; exact h

/-- Every entry is in the block of the point that writes it. -/
theorem covered' (i : S16384x128.Idx) : i ∈ ((cfg0.win 4).blk (pointOf (i 0))).view.set := by
  refine mem_slice' ((cfg0.win 4).rect (pointOf (i 0))) i ?_
  obtain ⟨-, -, -, ⟨r0, r1⟩, ⟨s0, s1⟩⟩ := index_eq (pointOf (i 0))
  have hv : (pointOf (i 0)).val = (i 0).val / 512 := rfl
  have h0 : (i 0).val < 16384 := (i 0).isLt
  have h1 : (i 1).val < 128 := (i 1).isLt
  refine (LoadRect.mem_set _).2 fun a => ?_
  match a with
  | ⟨0, _⟩ =>
    refine ⟨(i 0).val % 512, Nat.mod_lt _ (by decide), ?_⟩
    show (i 0).val = cc0_transform_4 (grid0.coords (pointOf (i 0))) 0 * 512 + 1 * ((i 0).val % 512)
    rw [s0]; omega
  | ⟨1, _⟩ =>
    refine ⟨(i 1).val, h1, ?_⟩
    show (i 1).val = cc0_transform_4 (grid0.coords (pointOf (i 0))) 1 * 128 + 1 * (i 1).val
    rw [s1]; omega

/-- The normalised tokens after the run. -/
theorem final (c : Dev nD) : (dats m 0 c).arrAt 3 cfg0.N = result (m ((c : Thread nD τ).loc main_arg0)) (m ((c : Thread nD τ).loc main_arg1)) :=
  (dats m 0 c).arrAt_eq_of_cover 3 _ (fun t _ => flushed_eq m c t) (fun i => ⟨pointOf (i 0), flush0_3 _, covered i⟩)

/-- The routes after the run, where the arguments are real. -/
theorem final' (c : Dev nD) (hx : ∀ i, IsReal ((m ((c : Thread nD τ).loc main_arg0) : S16384x2048.Idx → EReal) i))
    (hg : ∀ i, IsReal ((m ((c : Thread nD τ).loc main_arg1) : S2048.Idx → EReal) i)) (hw : ∀ i, IsReal ((m ((c : Thread nD τ).loc main_arg2) : S2048x8.Idx → EReal) i)) :
    (dats m 0 c).arrAt 4 cfg0.N = result' (m ((c : Thread nD τ).loc main_arg0)) (m ((c : Thread nD τ).loc main_arg1)) (m ((c : Thread nD τ).loc main_arg2)) :=
  (dats m 0 c).arrAt_eq_of_cover 4 _ (fun t _ => flushed_eq' m c hx hg hw t) (fun i => ⟨pointOf (i 0), flush0_4 _, covered' i⟩)

end Cert.Kernel7Ideal.Dense
-- ==== Proof.Dense.RouterClaims.lean ====
/- The claims about the router. -/
module

public import proofs.«01_k».proof.Defs
public import proofs.«01_k».proof.Proof.Gen.Kernel7.Frame
public import proofs.«01_k».proof.Proof.Gen.Kernel7Ideal.Value
public import proofs.«01_k».proof.Proof.Gen.Reference7Ideal.Run
public import proofs.«01_k».proof.Proof.Dense.Join
public import proofs.«01_k».proof.Proof.Dense.Router
public import Idealize.ShloMosaic.Adequacy
public import Idealize.ShloMosaic.Init
public import Idealize.ShloMosaic.Lib.Quiescent

@[expose] public section

set_option maxRecDepth 16384

noncomputable section

/-! ## The precondition: the three arguments are finite -/

namespace Cert.Pre_finite.Given

open Cert.Pre_finite Cert.Dense Idealize.ShloMosaic

/-- The shapes the precondition relies on. -/
theorem facts : Cert.Pre_finite.Facts where
  bcast_S_S16384x2048 := by decide
  reducesTo_S16384x2048_S_d0_1 := by decide
  h_S_ := by decide
  bcast_S_S2048 := by decide
  reducesTo_S2048_S_d0 := by decide
  bcast_S_S2048x8 := by decide
  reducesTo_S2048x8_S_d0_1 := by decide

/-- A conjunction over a whole array is one only where every entry is. -/
theorem all_ones {s : Shape} {axes : List (Fin s.rank)} (x : IVec s 1) (v : IVec S_ 1) (h : s.ReducesTo axes S_) (hu : 0 < S_.numel)
    (he : Host.reduce IntOp.andi x v h hu ix0 = 1#1) (i : s.Idx) : x i = 1#1 := by
  rw [Host.reduce_eq_fold] at he
  have hr (a b : BitVec 1) : IntOp.andi a b = 1#1 ↔ a = 1#1 ∧ b = 1#1 := by revert a b; decide
  have h2 := (Finset.fold_op_rel_iff_and (r := fun _ y : BitVec 1 => y = 1#1) (fun {_ y z} => hr y z) (c := 0#1)).1 he
  exact h2.2 i (Finset.mem_filter.2 ⟨Finset.mem_univ i, funext fun a => a.elim0⟩)

/-- An entry whose magnitude the predicate finds below infinity is real. -/
theorem real_of_one {s : Shape} (x : FVec Ideal s .f32) (hb : S_.BroadcastsInDim s ![]) (i : s.Idx)
    (h : cmpf (F := Ideal) .olt (Host.absf x) (broadcastInDim s ![] hb (constant (F := Ideal) S_ .f32 0x7F800000#32)) i = 1#1) : IsReal (x i) := by
  have h' : Ideal.cmp .olt (max (x i) (-(x i))) (Ideal.ofBits .f32 0x7F800000#32) = 1#1 := h
  rw [word_top] at h'
  refine isReal_of_abs_lt ?_
  by_contra hn
  have h2 : BitVec.ofBool (decide (max (x i) (-(x i)) < (⊤ : EReal))) = 1#1 := h'
  rw [decide_eq_false hn] at h2
  exact absurd h2 (by decide)

/-- The predicate says that every entry of the three arguments is real. -/
theorem real (hF : Cert.Pre_finite.Facts) (x : FVec Ideal S16384x2048 .f32) (g : FVec Ideal S2048 .f32) (w : FVec Ideal S2048x8 .f32)
    (h : Cert.Pre_finite.fn (F := Ideal) x g w = fun _ => 1#1) : (∀ i, IsReal (x i)) ∧ (∀ i, IsReal (g i)) ∧ ∀ i, IsReal (w i) := by
  have andi_one (a b : BitVec 1) : IntOp.andi a b = 1#1 ↔ a = 1#1 ∧ b = 1#1 := by revert a b; decide
  have h0 := congrFun h ix0
  unfold Cert.Pre_finite.fn at h0
  dsimp only at h0
  simp only [andi, andi_one] at h0
  obtain ⟨⟨hx, hg⟩, hw⟩ := h0
  exact ⟨fun i => real_of_one x _ i (all_ones _ _ _ _ hx i), fun i => real_of_one g _ i (all_ones _ _ _ _ hg i), fun i => real_of_one w _ i (all_ones _ _ _ _ hw i)⟩

end Cert.Pre_finite.Given

namespace Cert.Proof.DenseRouter

open Cert.Kernel7Ideal.Dense (result result')
open Cert.Reference7Ideal Cert.Reference7Ideal.Gen Cert.Dense Idealize.ShloMosaic Idealize.ShloMosaic.TcCoe Idealize.SL.Sem

/-- The kernel's frame. -/
theorem frame_kernel : Cert.quiescent_Kernel7 := fun m ρ _ => Cert.Kernel7.Gen.frame m ρ

/-- The idealized kernel's frame. -/
theorem frame_kernelIdeal : Cert.quiescent_Kernel7Ideal := fun m ρ _ => Cert.Kernel7Ideal.Gen.frame m ρ

/-- The idealized kernel's frame, where the arguments are finite. -/
theorem frame_kernelIdeal_pre (hF : Cert.Pre_finite.Facts) : Cert.quiescent_Kernel7Ideal_pre_finite := fun m ρ _ => Cert.Kernel7Ideal.Gen.frame m ρ

/-- The reference's frame. -/
theorem frame_referenceIdeal : Cert.quiescent_Reference7Ideal := fun m ρ _ =>
  (θ_run Cert.Reference7Ideal.defs _ _).mono (fun r h => ⟨fun c => (h c).2.2, Idealize.ShloMosaic.sem_eq_zero_of_no_sems (by decide) r.2⟩)
    (Cert.Reference7Ideal.Value.run m ρ)

/-- The reference's frame, where the arguments are finite. -/
theorem frame_referenceIdeal_pre (hF : Cert.Pre_finite.Facts) : Cert.quiescent_Reference7Ideal_pre_finite := fun m ρ _ => frame_referenceIdeal m ρ trivial

/-- The reference's normalised rows. -/
def normed (x : FVec Ideal S16384x2048 .f32) (g : FVec Ideal S2048 .f32) : FVec Ideal S16384x2048 .f32 :=
  mulf (mulf x (broadcastInDim S16384x2048 ![0, 1] bcast_S16384x1_S16384x2048_0_1 (Host.rsqrt (addf (Host.divf (broadcastInDim S16384x1 ![0] bcast_S16384_S16384x1_0
    (Host.reduceAdd (mulf x x) (constant S_ .f32 0x00000000#32) reducesTo_S16384x2048_S16384_d1 h_S_)) (broadcastInDim S16384x1 ![] bcast_S_S16384x1 (constant S_ .f32 0x45000000#32)))
    (broadcastInDim S16384x1 ![] bcast_S_S16384x1 (constant S_ .f32 0x358637BD#32)))))) (broadcastInDim S16384x2048 ![0, 1] bcast_S1x2048_S16384x2048_0_1 (broadcastInDim S1x2048 ![1] bcast_S2048_S1x2048_1 g))

/-- The reference's products with the router's weights. -/
def proj (x : FVec Ideal S16384x2048 .f32) (g : FVec Ideal S2048 .f32) (w : FVec Ideal S2048x8 .f32) : FVec Ideal S16384x8 .f32 :=
  Host.dotGeneral dot_S16384x2048_S2048x8_S16384x8_1_0_0_1_n_n none (normed x g) w

/-- The reference's two greatest of the eight products of a row. -/
def chosen (L : FVec Ideal S16384x8 .f32) : FVec Ideal S16384x2 .f32 × IVec S16384x2 32 :=
  Host.topK S16384x2 1 (FloatOps.cmpfTotal .gt) L sliceFits_S16384x8_S16384x2

/-- The exponentials of two columns less their maximum. -/
def lifted (s : FVec Ideal S16384x2 .f32) : FVec Ideal S16384x2 .f32 :=
  Host.exp (subf s (broadcastInDim S16384x2 ![0, 1] bcast_S16384x1_S16384x2_0_1 (broadcastInDim S16384x1 ![0] bcast_S16384_S16384x1_0
    (maximumf (broadcastInDim S16384 ![] bcast_S_S16384 (constant S_ .f32 0xFF800000#32)) (Host.reduce FloatOps.maximumf s (constant S_ .f32 0xFF800000#32) reducesTo_S16384x2_S16384_d1 h_S_)))))

/-- The reference's softmax over two columns. -/
def soft (s : FVec Ideal S16384x2 .f32) : FVec Ideal S16384x2 .f32 :=
  Host.divf (lifted s) (broadcastInDim S16384x2 ![0, 1] bcast_S16384x1_S16384x2_0_1 (broadcastInDim S16384x1 ![0] bcast_S16384_S16384x1_0
    (Host.reduceAdd (lifted s) (constant S_ .f32 0x00000000#32) reducesTo_S16384x2_S16384_d1 h_S_)))

/-- The reference's normalised rows, entry by entry. -/
theorem normed_apply (x : FVec Ideal S16384x2048 .f32) (g : FVec Ideal S2048 .f32) (r : Fin 16384) (k : Fin 2048) : normed x g (ix2 r k) = normAt x g r k := by
  pointwise [normed, normAt, rmsAt]

/-- The reference's products, entry by entry. -/
theorem proj_apply (x : FVec Ideal S16384x2048 .f32) (g : FVec Ideal S2048 .f32) (w : FVec Ideal S2048x8 .f32) (r : Fin 16384) (p : Fin 8) :
    proj x g w (ix2 r p) = normProdAt x g w r p := by
  have h : proj x g w (ix2 r p) = ∑ k : Fin 2048, normed x g (ix2 r k) * w (ix2 k p) := by
    pointwise [proj]
  rw [h]
  exact Finset.sum_congr rfl fun k _ => by rw [normed_apply]

/-- A position of row `r` along the columns. -/
theorem along_eq (j : S16384x8.Idx) (k : Fin 8) : j.along 1 k = ix2 (j 0) k := by
  funext d
  match d with
  | ⟨0, _⟩ => rfl
  | ⟨1, _⟩ => rfl

/-- The chosen values and numbers, by the sort's positions. -/
theorem chosen_apply (L : FVec Ideal S16384x8 .f32) (r : Fin 16384) (i : Fin 2) :
    (chosen L).1 (ix2 r i) = L (ix2 r (sortedFrom (above fun p => L (ix2 r p)) (i.castLE (by decide))))
    ∧ (chosen L).2 (ix2 r i) = BitVec.ofNat 32 (sortedFrom (above fun p => L (ix2 r p)) (i.castLE (by decide))).val := by
  have hd : (1 : ℕ) < S16384x8.rank := by decide
  have hJ (J : S16384x8.Idx) (h0 : J 0 = r) (h1 : J 1 = i.castLE (by decide)) :
      sortedFrom (fun k k' : Fin 8 => FloatOps.cmpfTotal (F := Ideal) (φ := .f32) .gt (L (J.along 1 k)) (L (J.along 1 k')) == 1#1) (J 1)
        = sortedFrom (above fun p => L (ix2 r p)) (i.castLE (by decide)) := by
    simp only [along_eq, h0, h1]
    rfl
  refine ⟨?_, ?_⟩
  · unfold chosen Host.topK Host.sort2
    simp only [dif_pos hd, extractStridedSlice]
    have key (J : S16384x8.Idx) (h0 : J 0 = r) (h1 : J 1 = i.castLE (by decide)) :
        L (J.along 1 (sortedFrom (fun k k' : Fin 8 => FloatOps.cmpfTotal (F := Ideal) (φ := .f32) .gt (L (J.along 1 k)) (L (J.along 1 k')) == 1#1) (J 1)))
          = L (ix2 r (sortedFrom (above fun p => L (ix2 r p)) (i.castLE (by decide)))) := by
      refine (congrArg (fun q : Fin 8 => L (J.along 1 q)) (hJ J h0 h1)).trans ?_
      rw [along_eq, h0]
      rfl
    exact key _ (Fin.ext (Nat.zero_add _)) (Fin.ext (Nat.zero_add _))
  · unfold chosen Host.topK Host.sort2
    simp only [dif_pos hd, extractStridedSlice]
    have key (J : S16384x8.Idx) (h0 : J 0 = r) (h1 : J 1 = i.castLE (by decide)) :
        BitVec.ofNat 32 ((J.along 1 (sortedFrom (fun k k' : Fin 8 => FloatOps.cmpfTotal (F := Ideal) (φ := .f32) .gt (L (J.along 1 k)) (L (J.along 1 k')) == 1#1) (J 1))) 1).val
          = BitVec.ofNat 32 (sortedFrom (above fun p => L (ix2 r p)) (i.castLE (by decide))).val := by
      exact congrArg (fun q : Fin 8 => BitVec.ofNat 32 ((J.along 1 q) 1).val) (hJ J h0 h1)
    exact key _ (Fin.ext (Nat.zero_add _)) (Fin.ext (Nat.zero_add _))

/-- The exponentials, entry by entry. -/
theorem lifted_apply (s : FVec Ideal S16384x2 .f32) (r : Fin 16384) (i : Fin 2) (h : s (ix2 r 1) ≤ s (ix2 r 0)) :
    lifted s (ix2 r i) = Ideal.exp (s (ix2 r i) - s (ix2 r 0)) := by
  have h1 : lifted s (ix2 r i) = Ideal.exp (s (ix2 r i) - max (Ideal.ofBits .f32 0xFF800000#32) (Finset.univ.fold max (Ideal.ofBits .f32 0xFF800000#32) fun k : Fin 2 => s (ix2 r k))) := by
    pointwise [lifted]
  rw [h1, word_bot, fold_max_eq (fun k : Fin 2 => s (ix2 r k)) 0 (fun k => by
    match k with
    | 0 => exact le_rfl
    | 1 => exact h), max_eq_right bot_le]

/-- The softmax of two columns, the first of them real and at least the second. -/
theorem soft_apply (s : FVec Ideal S16384x2 .f32) (r : Fin 16384) (i : Fin 2) (h0 : IsReal (s (ix2 r 0))) (h : s (ix2 r 1) ≤ s (ix2 r 0)) :
    soft s (ix2 r i) = Ideal.div (Ideal.exp (s (ix2 r i) - s (ix2 r 0))) (1 + Ideal.exp (s (ix2 r 1) - s (ix2 r 0))) := by
  have h1 : soft s (ix2 r i) = Ideal.div (lifted s (ix2 r i)) (∑ k : Fin 2, lifted s (ix2 r k)) := by
    pointwise [soft]
  have he : Ideal.exp (0 : EReal) = 1 := by
    show ((Real.exp 0 : ℝ) : EReal) = 1
    rw [Real.exp_zero, EReal.coe_one]
  rw [h1, Fin.sum_univ_two, lifted_apply s r i h, lifted_apply s r 0 h, lifted_apply s r 1 h, h0.sub_self, he]

/-- The reference's second result: gates and numbers of the chosen, laid in lanes 8 to 11 of a row. -/
def laid (L : FVec Ideal S16384x8 .f32) : FVec Ideal S16384x128 .f32 :=
  concatenate S16384x128 1 [⟨S16384x8, broadcastInDim S16384x8 ![] bcast_S_S16384x8 (constant (F := Ideal) S_ .f32 0x00000000#32)⟩,
      ⟨S16384x2, soft (chosen L).1⟩, ⟨S16384x2, sitofp (F := Ideal) .f32 (chosen L).2⟩,
      ⟨S16384x116, broadcastInDim S16384x116 ![] bcast_S_S16384x116 (constant (F := Ideal) S_ .f32 0x00000000#32)⟩] concatenates_S16384x8_S16384x2_S16384x2_S16384x116_S16384x128_d1

/-- The first of the chosen values. -/
theorem chosen_zero (L : FVec Ideal S16384x8 .f32) (r : Fin 16384) : (chosen L).1 (ix2 r 0) = L (ix2 r (best fun p => L (ix2 r p))) := (chosen_apply L r 0).1

/-- The second of the chosen values. -/
theorem chosen_one (L : FVec Ideal S16384x8 .f32) (r : Fin 16384) : (chosen L).1 (ix2 r 1) = L (ix2 r (next fun p => L (ix2 r p))) := (chosen_apply L r 1).1

/-- The softmax of the chosen values, whose first is the greatest. -/
theorem soft_chosen (L : FVec Ideal S16384x8 .f32) (hL : ∀ i, IsReal (L i)) (r : Fin 16384) (i : Fin 2) :
    soft (chosen L).1 (ix2 r i) = Ideal.div (Ideal.exp ((chosen L).1 (ix2 r i) - L (ix2 r (best fun p => L (ix2 r p)))))
      (1 + Ideal.exp (L (ix2 r (next fun p => L (ix2 r p))) - L (ix2 r (best fun p => L (ix2 r p))))) := by
  rw [soft_apply (chosen L).1 r i (by rw [chosen_zero]; exact hL _) (by rw [chosen_zero, chosen_one]; exact (topTwo fun p => L (ix2 r p)).le_first _), chosen_zero, chosen_one]

/-- The reference's second result holds the lanes of the row's eight products. -/
theorem laid_apply (L : FVec Ideal S16384x8 .f32) (hL : ∀ i, IsReal (L i)) (r : Fin 16384) (b : Fin 128) :
    laid L (ix2 r b) = lanesAt (fun p => L (ix2 r p)) b := by
  have he : Ideal.exp (0 : EReal) = 1 := by
    show ((Real.exp 0 : ℝ) : EReal) = 1
    rw [Real.exp_zero, EReal.coe_one]
  have h := concatenate_eq (M := 16384) (N := 128)
    [⟨8, broadcastInDim S16384x8 ![] bcast_S_S16384x8 (constant (F := Ideal) S_ .f32 0x00000000#32)⟩,
      ⟨2, soft (chosen L).1⟩, ⟨2, sitofp (F := Ideal) .f32 (chosen L).2⟩,
      ⟨116, broadcastInDim S16384x116 ![] bcast_S_S16384x116 (constant (F := Ideal) S_ .f32 0x00000000#32)⟩] concatenates_S16384x8_S16384x2_S16384x2_S16384x116_S16384x128_d1 r b (lanesAt (fun p => L (ix2 r p)) b)
  refine h ?_
  clear h
  have hb := b.isLt
  unfold lanesAt
  refine Agrees.cons (fun h => ?_) fun h => Agrees.cons (fun h => ?_) fun h => Agrees.cons (fun h => ?_) fun h => Agrees.cons (fun h => ?_) fun h => trivial
  · rw [if_neg (by omega), if_neg (by omega), if_neg (by omega), if_neg (by omega)]
    pointwise []
  · obtain h8 | h9 : b.val = 8 ∨ b.val = 9 := by omega
    · rw [if_pos h8, show (⟨b.val - 8, h⟩ : Fin 2) = 0 from Fin.ext (by show b.val - 8 = 0; omega), soft_chosen L hL, chosen_zero, (hL _).sub_self, he]
    · rw [if_neg (by omega), if_pos h9, show (⟨b.val - 8, h⟩ : Fin 2) = 1 from Fin.ext (by show b.val - 8 = 1; omega), soft_chosen L hL, chosen_one]
  · obtain h8 | h9 : b.val = 10 ∨ b.val = 11 := by omega
    · rw [if_neg (by omega), if_neg (by omega), if_pos h8, show (⟨b.val - 8 - 2, h⟩ : Fin 2) = 0 from Fin.ext (by show b.val - 8 - 2 = 0; omega)]
      exact congrArg (FloatOps.sitofp (F := Ideal) .f32) (chosen_apply L r 0).2
    · rw [if_neg (by omega), if_neg (by omega), if_neg (by omega), if_pos h9, show (⟨b.val - 8 - 2, h⟩ : Fin 2) = 1 from Fin.ext (by show b.val - 8 - 2 = 1; omega)]
      exact congrArg (FloatOps.sitofp (F := Ideal) .f32) (chosen_apply L r 1).2
  · rw [if_neg (by omega), if_neg (by omega), if_neg (by omega), if_neg (by omega)]
    pointwise []

/-- The reference's first result is the call's. -/
theorem normed_eq (x : FVec Ideal S16384x2048 .f32) (g : FVec Ideal S2048 .f32) : normed x g = result x g := by
  funext i
  obtain ⟨r, j, rfl⟩ : ∃ (r : Fin 16384) (j : Fin 2048), i = ix2 r j := ⟨i 0, i 1, eq_ix2 i⟩
  exact normed_apply x g r j

/-- The reference's second result is the call's, where the arguments are real. -/
theorem laid_eq (x : FVec Ideal S16384x2048 .f32) (g : FVec Ideal S2048 .f32) (w : FVec Ideal S2048x8 .f32)
    (hx : ∀ i, IsReal (x i)) (hg : ∀ i, IsReal (g i)) (hw : ∀ i, IsReal (w i)) : laid (proj x g w) = result' x g w := by
  funext i
  obtain ⟨r, b, rfl⟩ : ∃ (r : Fin 16384) (b : Fin 128), i = ix2 r b := ⟨i 0, i 1, eq_ix2 i⟩
  have hL (i : S16384x8.Idx) : IsReal (proj x g w i) := by
    obtain ⟨r, p, rfl⟩ : ∃ (r : Fin 16384) (p : Fin 8), i = ix2 r p := ⟨i 0, i 1, eq_ix2 i⟩
    rw [proj_apply]
    exact IsReal.sum fun k => (IsReal.norm hx hg r k).mul (hw _)
  rw [laid_apply _ hL]
  show lanesAt (fun p => proj x g w (ix2 r p)) b = lanesAt (normProdAt x g w r) b
  exact congrArg (fun l => lanesAt l b) (funext fun p => proj_apply x g w r p)

/-- From finite arguments, the idealized kernel and the reference leave the same two arrays. -/
theorem algebraic (hF : Cert.Pre_finite.Facts) : Cert.algebraic_Kernel7Ideal_Reference7Ideal_pre_finite := by
  intro m ρ m' ρ' hp hm
  have hr (c : Dev Cert.Kernel7Ideal.nD) := Cert.Pre_finite.Given.real hF _ _ _ (hp c)
  refine ⟨fun c => result (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)),
    fun c => result' (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1))
      (m ((c.tc : Thread Cert.Kernel7Ideal.nD Cert.Kernel7Ideal.τ).loc Cert.Kernel7Ideal.main_arg2)),
    (θ_run Cert.Kernel7Ideal.defs _ _).mono (fun r h c => ⟨(h c).1.trans (Cert.Kernel7Ideal.Dense.final m c), (h c).2.1.trans (Cert.Kernel7Ideal.Dense.final' m c (hr c).1 (hr c).2.1 (hr c).2.2), (h c).2.2⟩)
      (Cert.Kernel7Ideal.Value.run_blocks (F := Ideal) m ρ),
    (θ_run Cert.Reference7Ideal.defs _ _).mono (fun r h c => ⟨(h c).1.trans ?_, (h c).2.1.trans ?_, (h c).2.2⟩) (Cert.Reference7Ideal.Value.run m' ρ')⟩
  · obtain ⟨h0, h1, h2⟩ := hm c
    rw [h0, h1]
    exact normed_eq _ _
  · obtain ⟨h0, h1, h2⟩ := hm c
    unfold Cert.Reference7Ideal.Value.res_main_v28
    rw [h0, h1, h2]
    exact laid_eq _ _ _ (hr c).1 (hr c).2.1 (hr c).2.2

end Cert.Proof.DenseRouter
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.KernelIdeal
public import proofs.«01_k».proof.Proof.Gen.KernelIdeal.Skeleton
public import proofs.«01_k».proof.Proof.Gen.KernelIdeal.Launch
public import proofs.«01_k».proof.Proof.Gu.Claims
public import proofs.«01_k».proof.Proof.Down.Claims
public import proofs.«01_k».proof.Proof.Gen.ReferenceIdeal.Run
public import proofs.«01_k».proof.Proof.Gen.Pre_experts_in_range
public import proofs.«01_k».proof.Proof.Gen.Kernel2
public import proofs.«01_k».proof.Proof.Gen.Kernel2.Skeleton
public import proofs.«01_k».proof.Proof.Gen.Kernel2.Launch
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Reference2Ideal.Run
public import proofs.«01_k».proof.Proof.Gen.Pre_experts_in_range2
public import proofs.«01_k».proof.Proof.Gen.Kernel3.Frame
public import proofs.«01_k».proof.Proof.Gen.Kernel3Ideal.Value
public import proofs.«01_k».proof.Proof.Gen.Reference3Ideal.Run
public import proofs.«01_k».proof.Proof.Gen.Kernel4.Frame
public import proofs.«01_k».proof.Proof.Gen.Kernel4Ideal.Value
public import proofs.«01_k».proof.Proof.Gen.Reference4Ideal.Run
public import proofs.«01_k».proof.Proof.Gen.Kernel5.Frame
public import proofs.«01_k».proof.Proof.Gen.Kernel5Ideal.Value
public import proofs.«01_k».proof.Proof.Gen.Reference5Ideal.Run
public import proofs.«01_k».proof.Proof.Gen.Kernel6.Frame
public import proofs.«01_k».proof.Proof.Gen.Kernel6Ideal.Value
public import proofs.«01_k».proof.Proof.Gen.Reference6Ideal.Run
public import proofs.«01_k».proof.Proof.Gen.Kernel7.Frame
public import proofs.«01_k».proof.Proof.Gen.Kernel7Ideal.Value
public import proofs.«01_k».proof.Proof.Gen.Reference7Ideal.Run
public import proofs.«01_k».proof.Proof.Dense.GateUpClaims
public import proofs.«01_k».proof.Proof.Dense.DownClaims
public import proofs.«01_k».proof.Proof.Dense.OutClaims
public import proofs.«01_k».proof.Proof.Dense.InClaims
public import proofs.«01_k».proof.Proof.Dense.RouterClaims
public import Idealize.ShloMosaic.Adequacy
public import Idealize.ShloMosaic.Init

@[expose] public section

noncomputable section

namespace Cert.Proof

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Pre_experts_in_range.Gen.facts, Cert.Pre_experts_in_range2.Gen.facts, Cert.Pre_finite.Given.facts,
  Gu.frame_kernel, Gu.frame_kernelIdeal, Gu.frame_referenceIdeal, Gu.frame_referenceIdeal_pre,
  Down.frame_kernel, Down.frame_kernelIdeal, Down.frame_referenceIdeal, Down.frame_referenceIdeal_pre,
  DenseGateUp.frame_kernel, DenseGateUp.frame_kernelIdeal, DenseGateUp.frame_referenceIdeal,
  DenseDown.frame_kernel, DenseDown.frame_kernelIdeal, DenseDown.frame_referenceIdeal,
  DenseOut.frame_kernel, DenseOut.frame_kernelIdeal, DenseOut.frame_referenceIdeal,
  DenseIn.frame_kernel, DenseIn.frame_kernelIdeal, DenseIn.frame_referenceIdeal,
  DenseRouter.frame_kernel, DenseRouter.frame_kernelIdeal, DenseRouter.frame_kernelIdeal_pre Cert.Pre_finite.Given.facts,
  DenseRouter.frame_referenceIdeal, DenseRouter.frame_referenceIdeal_pre Cert.Pre_finite.Given.facts,
  trivial, Gu.algebraic, trivial, Down.algebraic, trivial, DenseGateUp.algebraic, trivial, DenseDown.algebraic, trivial, DenseOut.algebraic, trivial, DenseIn.algebraic, trivial, DenseRouter.algebraic Cert.Pre_finite.Given.facts⟩

end Cert.Proof

end
